-- ==== Defs.lean ====
def Pre_Kernel [hPre_expert_runs : Cert.Pre_expert_runs.Facts] (m : (ℓ : Loc Cert.Kernel.nD Cert.Kernel.τ Cert.Kernel.sig) → Buf (Elt Bits) ℓ) : Prop :=
  ∀ c : Dev Cert.Kernel.nD,
    (Cert.Pre_expert_runs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_expert_runs : Cert.Pre_expert_runs.Facts] (m : (ℓ : Loc Cert.KernelIdeal.nD Cert.KernelIdeal.τ Cert.KernelIdeal.sig) → Buf (Elt Ideal) ℓ) : Prop :=
  ∀ c : Dev Cert.KernelIdeal.nD,
    (Cert.Pre_expert_runs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_expert_runs [hPre_expert_runs : Cert.Pre_expert_runs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_runs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_expert_runs : Cert.Pre_expert_runs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_expert_runs : Cert.Pre_expert_runs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_expert_runs [hReferenceIdeal : Cert.ReferenceIdeal.Facts] [hPre_expert_runs : Cert.Pre_expert_runs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_expert_runs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_expert_runs : Cert.Pre_expert_runs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24_0) = v0 c
          ∧ r.2.mem ((c.tc : Thread Cert.ReferenceIdeal.nD Cert.ReferenceIdeal.τ).loc Cert.ReferenceIdeal.main_v24_1) = v1 c
          ∧ r.2.mem ((c.tc : Thread Cert.ReferenceIdeal.nD Cert.ReferenceIdeal.τ).loc Cert.ReferenceIdeal.main_v24_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_expert_runs : Cert.Pre_expert_runs.Facts),
    quiescent_Kernel (hKernel := hKernel) (hPre_expert_runs := hPre_expert_runs)
    ∧ quiescent_KernelIdeal (hKernelIdeal := hKernelIdeal) (hPre_expert_runs := hPre_expert_runs)
    ∧ quiescent_ReferenceIdeal (hReferenceIdeal := hReferenceIdeal)
    ∧ quiescent_ReferenceIdeal_pre_expert_runs (hReferenceIdeal := hReferenceIdeal) (hPre_expert_runs := hPre_expert_runs)
    ∧ preserves_Kernel_KernelIdeal
    ∧ algebraic_KernelIdeal_ReferenceIdeal (hKernelIdeal := hKernelIdeal) (hReferenceIdeal := hReferenceIdeal) (hPre_expert_runs := hPre_expert_runs)
-- ==== Pre_expert_runs.lean ====
abbrev S57344x2048 : Shape := ⟨2, ![57344, 2048]⟩
abbrev S57344x16 : Shape := ⟨2, ![57344, 16]⟩
abbrev S2048x90112 : Shape := ⟨2, ![2048, 90112]⟩
abbrev S16x704 : Shape := ⟨2, ![16, 704]⟩
abbrev S90112x2048 : Shape := ⟨2, ![90112, 2048]⟩
abbrev S704x16 : Shape := ⟨2, ![704, 16]⟩
abbrev S448x11 : Shape := ⟨2, ![448, 11]⟩
abbrev S448x1 : Shape := ⟨2, ![448, 1]⟩
abbrev S_ : Shape := ⟨0, ![]⟩
abbrev S11 : Shape := ⟨1, ![11]⟩
abbrev S1x11 : Shape := ⟨2, ![1, 11]⟩

class Facts : Prop where
  slices_S448x11_S448x1_0_0 : S448x11.Slices ![0, 0] S448x1
  bcast_S_S448x1 : S_.BroadcastsInDim S448x1 (![] : Fin 0 → Fin S448x1.rank)
  bcast_S11_S1x11_1 : S11.BroadcastsInDim S1x11 (![1] : Fin 1 → Fin S1x11.rank)
  bcast_S448x1_S448x11_0_1 : S448x1.BroadcastsInDim S448x11 (![0, 1] : Fin 2 → Fin S448x11.rank)
  bcast_S1x11_S448x11_0_1 : S1x11.BroadcastsInDim S448x11 (![0, 1] : Fin 2 → Fin S448x11.rank)

variable [Facts]

def fn_where {F : FTy → Type} [FloatOps F] (arg0 : IVec S448x1 1) (arg1 : IVec S448x1 32) (arg2 : IVec S448x1 32) : IVec S448x1 32 :=
  let v0 : IVec S448x1 32 := select arg0 arg1 arg2
  v0

def fn_floor_divide {F : FTy → Type} [FloatOps F] (arg0 : IVec S448x1 32) (arg1 : IVec S_ 32) : IVec S448x1 32 :=
  let v0 : IVec S_ 32 := id arg1
  let v1 : IVec S448x1 32 := broadcastInDim S448x1 ![] bcast_S_S448x1 v0
  let v2 : IVec S448x1 32 := Host.divsi arg0 v1
  let v3 : IVec S448x1 32 := signi arg0
  let v4 : IVec S_ 32 := signi v0
  let v5 : IVec S448x1 32 := broadcastInDim S448x1 ![] bcast_S_S448x1 v4
  let v6 : IVec S448x1 1 := cmpi .ne v3 v5
  let v7 : IVec S448x1 32 := broadcastInDim S448x1 ![] bcast_S_S448x1 v0
  let v8 : IVec S448x1 32 := Host.remsi arg0 v7
  let c : IVec S_ 32 := constantI S_ 32 0#32
  let v9 : IVec S448x1 32 := broadcastInDim S448x1 ![] bcast_S_S448x1 c
  let v10 : IVec S448x1 1 := cmpi .ne v8 v9
  let v11 : IVec S448x1 1 := andi v6 v10
  let c_0 : IVec S_ 32 := constantI S_ 32 1#32
  let v12 : IVec S448x1 32 := broadcastInDim S448x1 ![] bcast_S_S448x1 c_0
  let v13 : IVec S448x1 32 := subi v2 v12
  let v14 : IVec S448x1 32 := fn_where (F := F) v11 v13 v2
  v14

def fn {F : FTy → Type} [FloatOps F] (main_arg0 : FVec F S57344x2048 .fp8e4m3) (main_arg1 : FVec F S57344x16 .f32) (main_arg2 : FVec F S2048x90112 .fp8e4m3) (main_arg3 : FVec F S16x704 .f32) (main_arg4 : FVec F S90112x2048 .fp8e4m3) (main_arg5 : FVec F S704x16 .f32) (main_arg6 : IVec S448x11 32) (main_arg7 : FVec F S57344x2048 .fp8e5m2) (main_arg8 : FVec F S57344x16 .f32) : IVec S448x11 1 :=
  let main_v0 : IVec S448x1 32 := (extractStridedSlice S448x1 ![0, 0] · slices_S448x11_S448x1_0_0) main_arg6
  let main_c : IVec S_ 32 := constantI S_ 32 0#32
  let main_v1 : IVec S448x1 32 := broadcastInDim S448x1 ![] bcast_S_S448x1 main_c
  let main_v2 : IVec S448x1 1 := cmpi .sge main_v0 main_v1
  let main_c_0 : IVec S_ 32 := constantI S_ 32 704#32
  let main_v3 : IVec S448x1 32 := broadcastInDim S448x1 ![] bcast_S_S448x1 main_c_0
  let main_v4 : IVec S448x1 1 := cmpi .slt main_v0 main_v3
  let main_v5 : IVec S448x1 1 := andi main_v2 main_v4
  let main_c_1 : IVec S_ 32 := constantI S_ 32 11#32
  let main_v6 : IVec S448x1 32 := fn_floor_divide (F := F) main_v0 main_c_1
  let main_c_2 : IVec S_ 32 := constantI S_ 32 11#32
  let main_v7 : IVec S448x1 32 := broadcastInDim S448x1 ![] bcast_S_S448x1 main_c_2
  let main_v8 : IVec S448x1 32 := muli main_v6 main_v7
  let main_v9 : IVec S448x1 1 := cmpi .eq main_v0 main_v8
  let main_v10 : IVec S448x1 1 := andi main_v5 main_v9
  let main_v11 : IVec S11 32 := iotaInDim S11 32 0
  let main_v12 : IVec S1x11 32 := broadcastInDim S1x11 ![1] bcast_S11_S1x11_1 main_v11
  let main_v13 : IVec S448x11 32 := broadcastInDim S448x11 ![0, 1] bcast_S448x1_S448x11_0_1 main_v0
  let main_v14 : IVec S448x11 32 := broadcastInDim S448x11 ![0, 1] bcast_S1x11_S448x11_0_1 main_v12
  let main_v15 : IVec S448x11 32 := addi main_v13 main_v14
  let main_v16 : IVec S448x11 1 := cmpi .eq main_arg6 main_v15
  let main_v17 : IVec S448x11 1 := broadcastInDim S448x11 ![0, 1] bcast_S448x1_S448x11_0_1 main_v10
  let main_v18 : IVec S448x11 1 := andi main_v17 main_v16
  main_v18
-- ==== Kernel.lean ====
abbrev S57344x2048 : Shape := ⟨2, ![57344, 2048]⟩
abbrev S57344x16 : Shape := ⟨2, ![57344, 16]⟩
abbrev S2048x90112 : Shape := ⟨2, ![2048, 90112]⟩
abbrev S16x704 : Shape := ⟨2, ![16, 704]⟩
abbrev S90112x2048 : Shape := ⟨2, ![90112, 2048]⟩
abbrev S704x16 : Shape := ⟨2, ![704, 16]⟩
abbrev S448x11 : Shape := ⟨2, ![448, 11]⟩
abbrev S448x1 : Shape := ⟨2, ![448, 1]⟩
abbrev S448 : Shape := ⟨1, ![448]⟩
abbrev S_ : Shape := ⟨0, ![]⟩
abbrev S16x64x11 : Shape := ⟨3, ![16, 64, 11]⟩
abbrev S64x16x11 : Shape := ⟨3, ![64, 16, 11]⟩
abbrev S64x11x16 : Shape := ⟨3, ![64, 11, 16]⟩
abbrev S57344x1408 : Shape := ⟨2, ![57344, 1408]⟩
abbrev S57344x11 : Shape := ⟨2, ![57344, 11]⟩
abbrev S128x2048 : Shape := ⟨2, ![128, 2048]⟩
abbrev S128x16 : Shape := ⟨2, ![128, 16]⟩
abbrev S2048x1408 : Shape := ⟨2, ![2048, 1408]⟩
abbrev S1 : Shape := ⟨1, ![1]⟩
abbrev S1408x2048 : Shape := ⟨2, ![1408, 2048]⟩
abbrev S1x16x11 : Shape := ⟨3, ![1, 16, 11]⟩
abbrev S1x11x16 : Shape := ⟨3, ![1, 11, 16]⟩
abbrev S128x1408 : Shape := ⟨2, ![128, 1408]⟩
abbrev S128x11 : Shape := ⟨2, ![128, 11]⟩
abbrev S128x128 : Shape := ⟨2, ![128, 128]⟩
abbrev S1x1x1 : Shape := ⟨3, ![1, 1, 1]⟩
abbrev S1x1 : Shape := ⟨2, ![1, 1]⟩
abbrev S128x1 : Shape := ⟨2, ![128, 1]⟩
abbrev S2048x256 : Shape := ⟨2, ![2048, 256]⟩
abbrev S128x256 : Shape := ⟨2, ![128, 256]⟩
abbrev S256x2048 : Shape := ⟨2, ![256, 2048]⟩
abbrev S128 : Shape := ⟨1, ![128]⟩
abbrev S2048x128 : Shape := ⟨2, ![2048, 128]⟩

abbrev nBuf : Space → Nat
  | .hbm => 34
  | .vmem => 27
  | .smem => 1
  | _ => 0

abbrev bufTy : (tb : Table) → Fin (tcTables nBuf tb) → BufTy
  | .hbm, ⟨0, _⟩ => ⟨S57344x2048, .fp8e4m3⟩
  | .hbm, ⟨1, _⟩ => ⟨S57344x16, .f32⟩
  | .hbm, ⟨2, _⟩ => ⟨S2048x90112, .fp8e4m3⟩
  | .hbm, ⟨3, _⟩ => ⟨S16x704, .f32⟩
  | .hbm, ⟨4, _⟩ => ⟨S90112x2048, .fp8e4m3⟩
  | .hbm, ⟨5, _⟩ => ⟨S704x16, .f32⟩
  | .hbm, ⟨6, _⟩ => ⟨S448x11, .i32⟩
  | .hbm, ⟨7, _⟩ => ⟨S57344x2048, .fp8e5m2⟩
  | .hbm, ⟨8, _⟩ => ⟨S57344x16, .f32⟩
  | .hbm, ⟨9, _⟩ => ⟨S448x1, .i32⟩
  | .hbm, ⟨10, _⟩ => ⟨S448, .i32⟩
  | .hbm, ⟨11, _⟩ => ⟨S_, .i32⟩
  | .hbm, ⟨12, _⟩ => ⟨S_, .i32⟩
  | .hbm, ⟨13, _⟩ => ⟨S448, .i32⟩
  | .hbm, ⟨14, _⟩ => ⟨S448, .i32⟩
  | .hbm, ⟨15, _⟩ => ⟨S448, .i32⟩
  | .hbm, ⟨16, _⟩ => ⟨S_, .i32⟩
  | .hbm, ⟨17, _⟩ => ⟨S448, .i32⟩
  | .hbm, ⟨18, _⟩ => ⟨S448, .i1⟩
  | .hbm, ⟨19, _⟩ => ⟨S448, .i32⟩
  | .hbm, ⟨20, _⟩ => ⟨S448, .i32⟩
  | .hbm, ⟨21, _⟩ => ⟨S_, .i32⟩
  | .hbm, ⟨22, _⟩ => ⟨S448, .i32⟩
  | .hbm, ⟨23, _⟩ => ⟨S448, .i1⟩
  | .hbm, ⟨24, _⟩ => ⟨S448, .i1⟩
  | .hbm, ⟨25, _⟩ => ⟨S_, .i32⟩
  | .hbm, ⟨26, _⟩ => ⟨S448, .i32⟩
  | .hbm, ⟨27, _⟩ => ⟨S448, .i32⟩
  | .hbm, ⟨28, _⟩ => ⟨S16x64x11, .f32⟩
  | .hbm, ⟨29, _⟩ => ⟨S64x16x11, .f32⟩
  | .hbm, ⟨30, _⟩ => ⟨S64x11x16, .f32⟩
  | .hbm, ⟨31, _⟩ => ⟨S57344x2048, .bf16⟩
  | .hbm, ⟨32, _⟩ => ⟨S57344x1408, .fp8e5m2⟩
  | .hbm, ⟨33, _⟩ => ⟨S57344x11, .f32⟩
  | .local _ .vmem, ⟨0, _⟩ => ⟨S128x2048, .fp8e4m3⟩
  | .local _ .vmem, ⟨1, _⟩ => ⟨S128x2048, .fp8e4m3⟩
  | .local _ .vmem, ⟨2, _⟩ => ⟨S128x16, .f32⟩
  | .local _ .vmem, ⟨3, _⟩ => ⟨S128x16, .f32⟩
  | .local _ .vmem, ⟨4, _⟩ => ⟨S2048x1408, .fp8e4m3⟩
  | .local _ .vmem, ⟨5, _⟩ => ⟨S2048x1408, .fp8e4m3⟩
  | .local _ .vmem, ⟨6, _⟩ => ⟨S1408x2048, .fp8e4m3⟩
  | .local _ .vmem, ⟨7, _⟩ => ⟨S1408x2048, .fp8e4m3⟩
  | .local _ .vmem, ⟨8, _⟩ => ⟨S1x16x11, .f32⟩
  | .local _ .vmem, ⟨9, _⟩ => ⟨S1x16x11, .f32⟩
  | .local _ .vmem, ⟨10, _⟩ => ⟨S1x11x16, .f32⟩
  | .local _ .vmem, ⟨11, _⟩ => ⟨S1x11x16, .f32⟩
  | .local _ .vmem, ⟨12, _⟩ => ⟨S128x2048, .fp8e5m2⟩
  | .local _ .vmem, ⟨13, _⟩ => ⟨S128x2048, .fp8e5m2⟩
  | .local _ .vmem, ⟨14, _⟩ => ⟨S128x16, .f32⟩
  | .local _ .vmem, ⟨15, _⟩ => ⟨S128x16, .f32⟩
  | .local _ .vmem, ⟨16, _⟩ => ⟨S128x2048, .bf16⟩
  | .local _ .vmem, ⟨17, _⟩ => ⟨S128x2048, .bf16⟩
  | .local _ .vmem, ⟨18, _⟩ => ⟨S128x1408, .fp8e5m2⟩
  | .local _ .vmem, ⟨19, _⟩ => ⟨S128x1408, .fp8e5m2⟩
  | .local _ .vmem, ⟨20, _⟩ => ⟨S128x11, .f32⟩
  | .local _ .vmem, ⟨21, _⟩ => ⟨S128x11, .f32⟩
  | .local _ .vmem, ⟨22, _⟩ => ⟨S2048x1408, .bf16⟩
  | .local _ .vmem, ⟨23, _⟩ => ⟨S1408x2048, .bf16⟩
  | .local _ .vmem, ⟨24, _⟩ => ⟨S128x2048, .bf16⟩
  | .local _ .vmem, ⟨25, _⟩ => ⟨S128x2048, .bf16⟩
  | .local _ .vmem, ⟨26, _⟩ => ⟨S128x1408, .bf16⟩
  | .local _ .smem, ⟨0, _⟩ => ⟨S448, .i32⟩
  | _, _ => ⟨S57344x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6_0 : Ref sig .tc := ⟨.hbm, 31, rfl⟩
abbrev main_v6_1 : Ref sig .tc := ⟨.hbm, 32, rfl⟩
abbrev main_v6_2 : Ref sig .tc := ⟨.hbm, 33, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![448], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_492 : BitVec 32 := 0#32
  let c16_i32 : BitVec 32 := 16#32
  let v1105 : BitVec 32 := Scalar.addi c0_i32_492 c16_i32
  let c1_i32_493 : BitVec 32 := 1#32
  ⟨c0_i32_492, v1105, c1_i32_493⟩
def k0_mult1 (k0_t1 : Fin k0_t1_loop.trips) : BitVec 32 :=
  let c0_i32_492 : BitVec 32 := 0#32
  let c1_i32_493 : BitVec 32 := 1#32
  let arg18 : BitVec 32 := Scf.iv c0_i32_492 c1_i32_493 k0_t1
  let c128_i32 : BitVec 32 := 128#32
  let v1107 : BitVec 32 := Scalar.muli arg18 c128_i32
  v1107
def k0_off3 (k0_t1 : Fin k0_t1_loop.trips) : Fin 2 → Nat :=
  let c0_i32_492 : BitVec 32 := 0#32
  let c1_i32_493 : BitVec 32 := 1#32
  let arg18 : BitVec 32 := Scf.iv c0_i32_492 c1_i32_493 k0_t1
  let c128_i32 : BitVec 32 := 128#32
  let v1107 : BitVec 32 := Scalar.muli arg18 c128_i32
  let v1108 : BitVec 32 := v1107
  let v1109 : Index := Scalar.indexCast v1108
  let c0_498 : Index := 0#32
  ![v1109.toNat, 0]
def k0_off4 (k0_t1 : Fin k0_t1_loop.trips) : Fin 3 → Nat :=
  let c0_499 : Index := 0#32
  let c0_i32_492 : BitVec 32 := 0#32
  let c1_i32_493 : BitVec 32 := 1#32
  let arg18 : BitVec 32 := Scf.iv c0_i32_492 c1_i32_493 k0_t1
  let v1112 : Index := Scalar.indexCast arg18
  let c0_500 : Index := 0#32
  ![0, v1112.toNat, 0]
def k0_mult2 (k0_t1 : Fin k0_t1_loop.trips) : BitVec 32 :=
  let c0_i32_492 : BitVec 32 := 0#32
  let c1_i32_493 : BitVec 32 := 1#32
  let arg18 : BitVec 32 := Scf.iv c0_i32_492 c1_i32_493 k0_t1
  let c128_i32_502 : BitVec 32 := 128#32
  let v1122 : BitVec 32 := Scalar.muli arg18 c128_i32_502
  v1122
def k0_off5 (k0_t1 : Fin k0_t1_loop.trips) : Fin 2 → Nat :=
  let c0_i32_492 : BitVec 32 := 0#32
  let c1_i32_493 : BitVec 32 := 1#32
  let arg18 : BitVec 32 := Scf.iv c0_i32_492 c1_i32_493 k0_t1
  let c128_i32_502 : BitVec 32 := 128#32
  let v1122 : BitVec 32 := Scalar.muli arg18 c128_i32_502
  let v1123 : BitVec 32 := v1122
  let v1124 : Index := Scalar.indexCast v1123
  let c128_503 : Index := 128#32
  ![v1124.toNat, 128]
def k0_off6 (k0_t1 : Fin k0_t1_loop.trips) : Fin 3 → Nat :=
  let c0_504 : Index := 0#32
  let c0_i32_492 : BitVec 32 := 0#32
  let c1_i32_493 : BitVec 32 := 1#32
  let arg18 : BitVec 32 := Scf.iv c0_i32_492 c1_i32_493 k0_t1
  let v1127 : Index := Scalar.indexCast arg18
  let c1_505 : Index := 1#32
  ![0, v1127.toNat, 1]
def k0_mult3 (k0_t1 : Fin k0_t1_loop.trips) : BitVec 32 :=
  let c0_i32_492 : BitVec 32 := 0#32
  let c1_i32_493 : BitVec 32 := 1#32
  let arg18 : BitVec 32 := Scf.iv c0_i32_492 c1_i32_493 k0_t1
  let c128_i32_507 : BitVec 32 := 128#32
  let v1137 : BitVec 32 := Scalar.muli arg18 c128_i32_507
  v1137
def k0_off7 (k0_t1 : Fin k0_t1_loop.trips) : Fin 2 → Nat :=
  let c0_i32_492 : BitVec 32 := 0#32
  let c1_i32_493 : BitVec 32 := 1#32
  let arg18 : BitVec 32 := Scf.iv c0_i32_492 c1_i32_493 k0_t1
  let c128_i32_507 : BitVec 32 := 128#32
  let v1137 : BitVec 32 := Scalar.muli arg18 c128_i32_507
  let v1138 : BitVec 32 := v1137
  let v1139 : Index := Scalar.indexCast v1138
  let c256_508 : Index := 256#32
  ![v1139.toNat, 256]
def k0_off8 (k0_t1 : Fin k0_t1_loop.trips) : Fin 3 → Nat :=
  let c0_509 : Index := 0#32
  let c0_i32_492 : BitVec 32 := 0#32
  let c1_i32_493 : BitVec 32 := 1#32
  let arg18 : BitVec 32 := Scf.iv c0_i32_492 c1_i32_493 k0_t1
  let v1142 : Index := Scalar.indexCast arg18
  let c2_510 : Index := 2#32
  ![0, v1142.toNat, 2]
def k0_mult4 (k0_t1 : Fin k0_t1_loop.trips) : BitVec 32 :=
  let c0_i32_492 : BitVec 32 := 0#32
  let c1_i32_493 : BitVec 32 := 1#32
  let arg18 : BitVec 32 := Scf.iv c0_i32_492 c1_i32_493 k0_t1
  let c128_i32_512 : BitVec 32 := 128#32
  let v1152 : BitVec 32 := Scalar.muli arg18 c128_i32_512
  v1152
def k0_off9 (k0_t1 : Fin k0_t1_loop.trips) : Fin 2 → Nat :=
  let c0_i32_492 : BitVec 32 := 0#32
  let c1_i32_493 : BitVec 32 := 1#32
  let arg18 : BitVec 32 := Scf.iv c0_i32_492 c1_i32_493 k0_t1
  let c128_i32_512 : BitVec 32 := 128#32
  let v1152 : BitVec 32 := Scalar.muli arg18 c128_i32_512
  let v1153 : BitVec 32 := v1152
  let v1154 : Index := Scalar.indexCast v1153
  let c384_513 : Index := 384#32
  ![v1154.toNat, 384]
def k0_off10 (k0_t1 : Fin k0_t1_loop.trips) : Fin 3 → Nat :=
  let c0_514 : Index := 0#32
  let c0_i32_492 : BitVec 32 := 0#32
  let c1_i32_493 : BitVec 32 := 1#32
  let arg18 : BitVec 32 := Scf.iv c0_i32_492 c1_i32_493 k0_t1
  let v1157 : Index := Scalar.indexCast arg18
  let c3_515 : Index := 3#32
  ![0, v1157.toNat, 3]
def k0_mult5 (k0_t1 : Fin k0_t1_loop.trips) : BitVec 32 :=
  let c0_i32_492 : BitVec 32 := 0#32
  let c1_i32_493 : BitVec 32 := 1#32
  let arg18 : BitVec 32 := Scf.iv c0_i32_492 c1_i32_493 k0_t1
  let c128_i32_517 : BitVec 32 := 128#32
  let v1167 : BitVec 32 := Scalar.muli arg18 c128_i32_517
  v1167
def k0_off11 (k0_t1 : Fin k0_t1_loop.trips) : Fin 2 → Nat :=
  let c0_i32_492 : BitVec 32 := 0#32
  let c1_i32_493 : BitVec 32 := 1#32
  let arg18 : BitVec 32 := Scf.iv c0_i32_492 c1_i32_493 k0_t1
  let c128_i32_517 : BitVec 32 := 128#32
  let v1167 : BitVec 32 := Scalar.muli arg18 c128_i32_517
  let v1168 : BitVec 32 := v1167
  let v1169 : Index := Scalar.indexCast v1168
  let c512_518 : Index := 512#32
  ![v1169.toNat, 512]
def k0_off12 (k0_t1 : Fin k0_t1_loop.trips) : Fin 3 → Nat :=
  let c0_519 : Index := 0#32
  let c0_i32_492 : BitVec 32 := 0#32
  let c1_i32_493 : BitVec 32 := 1#32
  let arg18 : BitVec 32 := Scf.iv c0_i32_492 c1_i32_493 k0_t1
  let v1172 : Index := Scalar.indexCast arg18
  let c4_520 : Index := 4#32
  ![0, v1172.toNat, 4]
def k0_mult6 (k0_t1 : Fin k0_t1_loop.trips) : BitVec 32 :=
  let c0_i32_492 : BitVec 32 := 0#32
  let c1_i32_493 : BitVec 32 := 1#32
  let arg18 : BitVec 32 := Scf.iv c0_i32_492 c1_i32_493 k0_t1
  let c128_i32_522 : BitVec 32 := 128#32
  let v1182 : BitVec 32 := Scalar.muli arg18 c128_i32_522
  v1182
def k0_off13 (k0_t1 : Fin k0_t1_loop.trips) : Fin 2 → Nat :=
  let c0_i32_492 : BitVec 32 := 0#32
  let c1_i32_493 : BitVec 32 := 1#32
  let arg18 : BitVec 32 := Scf.iv c0_i32_492 c1_i32_493 k0_t1
  let c128_i32_522 : BitVec 32 := 128#32
  let v1182 : BitVec 32 := Scalar.muli arg18 c128_i32_522
  let v1183 : BitVec 32 := v1182
  let v1184 : Index := Scalar.indexCast v1183
  let c640_523 : Index := 640#32
  ![v1184.toNat, 640]
def k0_off14 (k0_t1 : Fin k0_t1_loop.trips) : Fin 3 → Nat :=
  let c0_524 : Index := 0#32
  let c0_i32_492 : BitVec 32 := 0#32
  let c1_i32_493 : BitVec 32 := 1#32
  let arg18 : BitVec 32 := Scf.iv c0_i32_492 c1_i32_493 k0_t1
  let v1187 : Index := Scalar.indexCast arg18
  let c5_525 : Index := 5#32
  ![0, v1187.toNat, 5]
def k0_mult7 (k0_t1 : Fin k0_t1_loop.trips) : BitVec 32 :=
  let c0_i32_492 : BitVec 32 := 0#32
  let c1_i32_493 : BitVec 32 := 1#32
  let arg18 : BitVec 32 := Scf.iv c0_i32_492 c1_i32_493 k0_t1
  let c128_i32_527 : BitVec 32 := 128#32
  let v1197 : BitVec 32 := Scalar.muli arg18 c128_i32_527
  v1197
def k0_off15 (k0_t1 : Fin k0_t1_loop.trips) : Fin 2 → Nat :=
  let c0_i32_492 : BitVec 32 := 0#32
  let c1_i32_493 : BitVec 32 := 1#32
  let arg18 : BitVec 32 := Scf.iv c0_i32_492 c1_i32_493 k0_t1
  let c128_i32_527 : BitVec 32 := 128#32
  let v1197 : BitVec 32 := Scalar.muli arg18 c128_i32_527
  let v1198 : BitVec 32 := v1197
  let v1199 : Index := Scalar.indexCast v1198
  let c768_528 : Index := 768#32
  ![v1199.toNat, 768]
def k0_off16 (k0_t1 : Fin k0_t1_loop.trips) : Fin 3 → Nat :=
  let c0_529 : Index := 0#32
  let c0_i32_492 : BitVec 32 := 0#32
  let c1_i32_493 : BitVec 32 := 1#32
  let arg18 : BitVec 32 := Scf.iv c0_i32_492 c1_i32_493 k0_t1
  let v1202 : Index := Scalar.indexCast arg18
  let c6_530 : Index := 6#32
  ![0, v1202.toNat, 6]
def k0_mult8 (k0_t1 : Fin k0_t1_loop.trips) : BitVec 32 :=
  let c0_i32_492 : BitVec 32 := 0#32
  let c1_i32_493 : BitVec 32 := 1#32
  let arg18 : BitVec 32 := Scf.iv c0_i32_492 c1_i32_493 k0_t1
  let c128_i32_532 : BitVec 32 := 128#32
  let v1212 : BitVec 32 := Scalar.muli arg18 c128_i32_532
  v1212
def k0_off17 (k0_t1 : Fin k0_t1_loop.trips) : Fin 2 → Nat :=
  let c0_i32_492 : BitVec 32 := 0#32
  let c1_i32_493 : BitVec 32 := 1#32
  let arg18 : BitVec 32 := Scf.iv c0_i32_492 c1_i32_493 k0_t1
  let c128_i32_532 : BitVec 32 := 128#32
  let v1212 : BitVec 32 := Scalar.muli arg18 c128_i32_532
  let v1213 : BitVec 32 := v1212
  let v1214 : Index := Scalar.indexCast v1213
  let c896_533 : Index := 896#32
  ![v1214.toNat, 896]
def k0_off18 (k0_t1 : Fin k0_t1_loop.trips) : Fin 3 → Nat :=
  let c0_534 : Index := 0#32
  let c0_i32_492 : BitVec 32 := 0#32
  let c1_i32_493 : BitVec 32 := 1#32
  let arg18 : BitVec 32 := Scf.iv c0_i32_492 c1_i32_493 k0_t1
  let v1217 : Index := Scalar.indexCast arg18
  let c7_535 : Index := 7#32
  ![0, v1217.toNat, 7]
def k0_mult9 (k0_t1 : Fin k0_t1_loop.trips) : BitVec 32 :=
  let c0_i32_492 : BitVec 32 := 0#32
  let c1_i32_493 : BitVec 32 := 1#32
  let arg18 : BitVec 32 := Scf.iv c0_i32_492 c1_i32_493 k0_t1
  let c128_i32_537 : BitVec 32 := 128#32
  let v1227 : BitVec 32 := Scalar.muli arg18 c128_i32_537
  v1227
def k0_off19 (k0_t1 : Fin k0_t1_loop.trips) : Fin 2 → Nat :=
  let c0_i32_492 : BitVec 32 := 0#32
  let c1_i32_493 : BitVec 32 := 1#32
  let arg18 : BitVec 32 := Scf.iv c0_i32_492 c1_i32_493 k0_t1
  let c128_i32_537 : BitVec 32 := 128#32
  let v1227 : BitVec 32 := Scalar.muli arg18 c128_i32_537
  let v1228 : BitVec 32 := v1227
  let v1229 : Index := Scalar.indexCast v1228
  let c1024_538 : Index := 1024#32
  ![v1229.toNat, 1024]
def k0_off20 (k0_t1 : Fin k0_t1_loop.trips) : Fin 3 → Nat :=
  let c0_539 : Index := 0#32
  let c0_i32_492 : BitVec 32 := 0#32
  let c1_i32_493 : BitVec 32 := 1#32
  let arg18 : BitVec 32 := Scf.iv c0_i32_492 c1_i32_493 k0_t1
  let v1232 : Index := Scalar.indexCast arg18
  let c8_540 : Index := 8#32
  ![0, v1232.toNat, 8]
def k0_mult10 (k0_t1 : Fin k0_t1_loop.trips) : BitVec 32 :=
  let c0_i32_492 : BitVec 32 := 0#32
  let c1_i32_493 : BitVec 32 := 1#32
  let arg18 : BitVec 32 := Scf.iv c0_i32_492 c1_i32_493 k0_t1
  let c128_i32_542 : BitVec 32 := 128#32
  let v1242 : BitVec 32 := Scalar.muli arg18 c128_i32_542
  v1242
def k0_off21 (k0_t1 : Fin k0_t1_loop.trips) : Fin 2 → Nat :=
  let c0_i32_492 : BitVec 32 := 0#32
  let c1_i32_493 : BitVec 32 := 1#32
  let arg18 : BitVec 32 := Scf.iv c0_i32_492 c1_i32_493 k0_t1
  let c128_i32_542 : BitVec 32 := 128#32
  let v1242 : BitVec 32 := Scalar.muli arg18 c128_i32_542
  let v1243 : BitVec 32 := v1242
  let v1244 : Index := Scalar.indexCast v1243
  let c1152_543 : Index := 1152#32
  ![v1244.toNat, 1152]
def k0_off22 (k0_t1 : Fin k0_t1_loop.trips) : Fin 3 → Nat :=
  let c0_544 : Index := 0#32
  let c0_i32_492 : BitVec 32 := 0#32
  let c1_i32_493 : BitVec 32 := 1#32
  let arg18 : BitVec 32 := Scf.iv c0_i32_492 c1_i32_493 k0_t1
  let v1247 : Index := Scalar.indexCast arg18
  let c9_545 : Index := 9#32
  ![0, v1247.toNat, 9]
def k0_mult11 (k0_t1 : Fin k0_t1_loop.trips) : BitVec 32 :=
  let c0_i32_492 : BitVec 32 := 0#32
  let c1_i32_493 : BitVec 32 := 1#32
  let arg18 : BitVec 32 := Scf.iv c0_i32_492 c1_i32_493 k0_t1
  let c128_i32_547 : BitVec 32 := 128#32
  let v1257 : BitVec 32 := Scalar.muli arg18 c128_i32_547
  v1257
def k0_off23 (k0_t1 : Fin k0_t1_loop.trips) : Fin 2 → Nat :=
  let c0_i32_492 : BitVec 32 := 0#32
  let c1_i32_493 : BitVec 32 := 1#32
  let arg18 : BitVec 32 := Scf.iv c0_i32_492 c1_i32_493 k0_t1
  let c128_i32_547 : BitVec 32 := 128#32
  let v1257 : BitVec 32 := Scalar.muli arg18 c128_i32_547
  let v1258 : BitVec 32 := v1257
  let v1259 : Index := Scalar.indexCast v1258
  let c1280_548 : Index := 1280#32
  ![v1259.toNat, 1280]
def k0_off24 (k0_t1 : Fin k0_t1_loop.trips) : Fin 3 → Nat :=
  let c0_549 : Index := 0#32
  let c0_i32_492 : BitVec 32 := 0#32
  let c1_i32_493 : BitVec 32 := 1#32
  let arg18 : BitVec 32 := Scf.iv c0_i32_492 c1_i32_493 k0_t1
  let v1262 : Index := Scalar.indexCast arg18
  let c10_550 : Index := 10#32
  ![0, v1262.toNat, 10]
@[reducible] def k0_t2_loop : Scf.Loop 32 :=
  let c0_i32_495 : BitVec 32 := 0#32
  let c11_i32 : BitVec 32 := 11#32
  let v1106 : BitVec 32 := Scalar.addi c0_i32_495 c11_i32
  let c1_i32_496 : BitVec 32 := 1#32
  ⟨c0_i32_495, v1106, c1_i32_496⟩
def k0_mult12 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32 : BitVec 32 := 128#32
  let v1107 : BitVec 32 := Scalar.muli arg18 c128_i32
  v1107
def k0_off25 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32 : BitVec 32 := 128#32
  let v1107 : BitVec 32 := Scalar.muli arg18 c128_i32
  let v1108 : BitVec 32 := v1107
  let v1109 : Index := Scalar.indexCast v1108
  let c0_498 : Index := 0#32
  ![v1109.toNat, 0]
def k0_off26 (k0_t2 : Fin k0_t2_loop.trips) : Fin 3 → Nat :=
  let c0_499 : Index := 0#32
  let c0_i32_495 : BitVec 32 := 0#32
  let c1_i32_496 : BitVec 32 := 1#32
  let arg18 : BitVec 32 := Scf.iv c0_i32_495 c1_i32_496 k0_t2
  let v1112 : Index := Scalar.indexCast arg18
  let c0_500 : Index := 0#32
  ![0, v1112.toNat, 0]
def k0_mult13 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_502 : BitVec 32 := 128#32
  let v1122 : BitVec 32 := Scalar.muli arg18 c128_i32_502
  v1122
def k0_off27 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_502 : BitVec 32 := 128#32
  let v1122 : BitVec 32 := Scalar.muli arg18 c128_i32_502
  let v1123 : BitVec 32 := v1122
  let v1124 : Index := Scalar.indexCast v1123
  let c128_503 : Index := 128#32
  ![v1124.toNat, 128]
def k0_off28 (k0_t2 : Fin k0_t2_loop.trips) : Fin 3 → Nat :=
  let c0_504 : Index := 0#32
  let c0_i32_495 : BitVec 32 := 0#32
  let c1_i32_496 : BitVec 32 := 1#32
  let arg18 : BitVec 32 := Scf.iv c0_i32_495 c1_i32_496 k0_t2
  let v1127 : Index := Scalar.indexCast arg18
  let c1_505 : Index := 1#32
  ![0, v1127.toNat, 1]
def k0_mult14 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_507 : BitVec 32 := 128#32
  let v1137 : BitVec 32 := Scalar.muli arg18 c128_i32_507
  v1137
def k0_off29 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_507 : BitVec 32 := 128#32
  let v1137 : BitVec 32 := Scalar.muli arg18 c128_i32_507
  let v1138 : BitVec 32 := v1137
  let v1139 : Index := Scalar.indexCast v1138
  let c256_508 : Index := 256#32
  ![v1139.toNat, 256]
def k0_off30 (k0_t2 : Fin k0_t2_loop.trips) : Fin 3 → Nat :=
  let c0_509 : Index := 0#32
  let c0_i32_495 : BitVec 32 := 0#32
  let c1_i32_496 : BitVec 32 := 1#32
  let arg18 : BitVec 32 := Scf.iv c0_i32_495 c1_i32_496 k0_t2
  let v1142 : Index := Scalar.indexCast arg18
  let c2_510 : Index := 2#32
  ![0, v1142.toNat, 2]
def k0_mult15 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_512 : BitVec 32 := 128#32
  let v1152 : BitVec 32 := Scalar.muli arg18 c128_i32_512
  v1152
def k0_off31 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_512 : BitVec 32 := 128#32
  let v1152 : BitVec 32 := Scalar.muli arg18 c128_i32_512
  let v1153 : BitVec 32 := v1152
  let v1154 : Index := Scalar.indexCast v1153
  let c384_513 : Index := 384#32
  ![v1154.toNat, 384]
def k0_off32 (k0_t2 : Fin k0_t2_loop.trips) : Fin 3 → Nat :=
  let c0_514 : Index := 0#32
  let c0_i32_495 : BitVec 32 := 0#32
  let c1_i32_496 : BitVec 32 := 1#32
  let arg18 : BitVec 32 := Scf.iv c0_i32_495 c1_i32_496 k0_t2
  let v1157 : Index := Scalar.indexCast arg18
  let c3_515 : Index := 3#32
  ![0, v1157.toNat, 3]
def k0_mult16 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_517 : BitVec 32 := 128#32
  let v1167 : BitVec 32 := Scalar.muli arg18 c128_i32_517
  v1167
def k0_off33 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_517 : BitVec 32 := 128#32
  let v1167 : BitVec 32 := Scalar.muli arg18 c128_i32_517
  let v1168 : BitVec 32 := v1167
  let v1169 : Index := Scalar.indexCast v1168
  let c512_518 : Index := 512#32
  ![v1169.toNat, 512]
def k0_off34 (k0_t2 : Fin k0_t2_loop.trips) : Fin 3 → Nat :=
  let c0_519 : Index := 0#32
  let c0_i32_495 : BitVec 32 := 0#32
  let c1_i32_496 : BitVec 32 := 1#32
  let arg18 : BitVec 32 := Scf.iv c0_i32_495 c1_i32_496 k0_t2
  let v1172 : Index := Scalar.indexCast arg18
  let c4_520 : Index := 4#32
  ![0, v1172.toNat, 4]
def k0_mult17 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_522 : BitVec 32 := 128#32
  let v1182 : BitVec 32 := Scalar.muli arg18 c128_i32_522
  v1182
def k0_off35 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_522 : BitVec 32 := 128#32
  let v1182 : BitVec 32 := Scalar.muli arg18 c128_i32_522
  let v1183 : BitVec 32 := v1182
  let v1184 : Index := Scalar.indexCast v1183
  let c640_523 : Index := 640#32
  ![v1184.toNat, 640]
def k0_off36 (k0_t2 : Fin k0_t2_loop.trips) : Fin 3 → Nat :=
  let c0_524 : Index := 0#32
  let c0_i32_495 : BitVec 32 := 0#32
  let c1_i32_496 : BitVec 32 := 1#32
  let arg18 : BitVec 32 := Scf.iv c0_i32_495 c1_i32_496 k0_t2
  let v1187 : Index := Scalar.indexCast arg18
  let c5_525 : Index := 5#32
  ![0, v1187.toNat, 5]
def k0_mult18 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_527 : BitVec 32 := 128#32
  let v1197 : BitVec 32 := Scalar.muli arg18 c128_i32_527
  v1197
def k0_off37 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_527 : BitVec 32 := 128#32
  let v1197 : BitVec 32 := Scalar.muli arg18 c128_i32_527
  let v1198 : BitVec 32 := v1197
  let v1199 : Index := Scalar.indexCast v1198
  let c768_528 : Index := 768#32
  ![v1199.toNat, 768]
def k0_off38 (k0_t2 : Fin k0_t2_loop.trips) : Fin 3 → Nat :=
  let c0_529 : Index := 0#32
  let c0_i32_495 : BitVec 32 := 0#32
  let c1_i32_496 : BitVec 32 := 1#32
  let arg18 : BitVec 32 := Scf.iv c0_i32_495 c1_i32_496 k0_t2
  let v1202 : Index := Scalar.indexCast arg18
  let c6_530 : Index := 6#32
  ![0, v1202.toNat, 6]
def k0_mult19 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_532 : BitVec 32 := 128#32
  let v1212 : BitVec 32 := Scalar.muli arg18 c128_i32_532
  v1212
def k0_off39 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_532 : BitVec 32 := 128#32
  let v1212 : BitVec 32 := Scalar.muli arg18 c128_i32_532
  let v1213 : BitVec 32 := v1212
  let v1214 : Index := Scalar.indexCast v1213
  let c896_533 : Index := 896#32
  ![v1214.toNat, 896]
def k0_off40 (k0_t2 : Fin k0_t2_loop.trips) : Fin 3 → Nat :=
  let c0_534 : Index := 0#32
  let c0_i32_495 : BitVec 32 := 0#32
  let c1_i32_496 : BitVec 32 := 1#32
  let arg18 : BitVec 32 := Scf.iv c0_i32_495 c1_i32_496 k0_t2
  let v1217 : Index := Scalar.indexCast arg18
  let c7_535 : Index := 7#32
  ![0, v1217.toNat, 7]
def k0_mult20 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_537 : BitVec 32 := 128#32
  let v1227 : BitVec 32 := Scalar.muli arg18 c128_i32_537
  v1227
def k0_off41 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_537 : BitVec 32 := 128#32
  let v1227 : BitVec 32 := Scalar.muli arg18 c128_i32_537
  let v1228 : BitVec 32 := v1227
  let v1229 : Index := Scalar.indexCast v1228
  let c1024_538 : Index := 1024#32
  ![v1229.toNat, 1024]
def k0_off42 (k0_t2 : Fin k0_t2_loop.trips) : Fin 3 → Nat :=
  let c0_539 : Index := 0#32
  let c0_i32_495 : BitVec 32 := 0#32
  let c1_i32_496 : BitVec 32 := 1#32
  let arg18 : BitVec 32 := Scf.iv c0_i32_495 c1_i32_496 k0_t2
  let v1232 : Index := Scalar.indexCast arg18
  let c8_540 : Index := 8#32
  ![0, v1232.toNat, 8]
def k0_mult21 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_542 : BitVec 32 := 128#32
  let v1242 : BitVec 32 := Scalar.muli arg18 c128_i32_542
  v1242
def k0_off43 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_542 : BitVec 32 := 128#32
  let v1242 : BitVec 32 := Scalar.muli arg18 c128_i32_542
  let v1243 : BitVec 32 := v1242
  let v1244 : Index := Scalar.indexCast v1243
  let c1152_543 : Index := 1152#32
  ![v1244.toNat, 1152]
def k0_off44 (k0_t2 : Fin k0_t2_loop.trips) : Fin 3 → Nat :=
  let c0_544 : Index := 0#32
  let c0_i32_495 : BitVec 32 := 0#32
  let c1_i32_496 : BitVec 32 := 1#32
  let arg18 : BitVec 32 := Scf.iv c0_i32_495 c1_i32_496 k0_t2
  let v1247 : Index := Scalar.indexCast arg18
  let c9_545 : Index := 9#32
  ![0, v1247.toNat, 9]
def k0_mult22 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_547 : BitVec 32 := 128#32
  let v1257 : BitVec 32 := Scalar.muli arg18 c128_i32_547
  v1257
def k0_off45 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_547 : BitVec 32 := 128#32
  let v1257 : BitVec 32 := Scalar.muli arg18 c128_i32_547
  let v1258 : BitVec 32 := v1257
  let v1259 : Index := Scalar.indexCast v1258
  let c1280_548 : Index := 1280#32
  ![v1259.toNat, 1280]
def k0_off46 (k0_t2 : Fin k0_t2_loop.trips) : Fin 3 → Nat :=
  let c0_549 : Index := 0#32
  let c0_i32_495 : BitVec 32 := 0#32
  let c1_i32_496 : BitVec 32 := 1#32
  let arg18 : BitVec 32 := Scf.iv c0_i32_495 c1_i32_496 k0_t2
  let v1262 : Index := Scalar.indexCast arg18
  let c10_550 : Index := 10#32
  ![0, v1262.toNat, 10]
def k0_mult23 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_552 : BitVec 32 := 128#32
  let v1272 : BitVec 32 := Scalar.muli arg18 c128_i32_552
  v1272
def k0_off47 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_552 : BitVec 32 := 128#32
  let v1272 : BitVec 32 := Scalar.muli arg18 c128_i32_552
  let v1273 : BitVec 32 := v1272
  let v1274 : Index := Scalar.indexCast v1273
  let c1408_553 : Index := 1408#32
  ![v1274.toNat, 1408]
def k0_off48 (k0_t2 : Fin k0_t2_loop.trips) : Fin 3 → Nat :=
  let c0_554 : Index := 0#32
  let c0_i32_495 : BitVec 32 := 0#32
  let c1_i32_496 : BitVec 32 := 1#32
  let arg18 : BitVec 32 := Scf.iv c0_i32_495 c1_i32_496 k0_t2
  let v1277 : Index := Scalar.indexCast arg18
  let c11_555 : Index := 11#32
  ![0, v1277.toNat, 11]
def k0_mult24 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_557 : BitVec 32 := 128#32
  let v1287 : BitVec 32 := Scalar.muli arg18 c128_i32_557
  v1287
def k0_off49 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_557 : BitVec 32 := 128#32
  let v1287 : BitVec 32 := Scalar.muli arg18 c128_i32_557
  let v1288 : BitVec 32 := v1287
  let v1289 : Index := Scalar.indexCast v1288
  let c1536_558 : Index := 1536#32
  ![v1289.toNat, 1536]
def k0_off50 (k0_t2 : Fin k0_t2_loop.trips) : Fin 3 → Nat :=
  let c0_559 : Index := 0#32
  let c0_i32_495 : BitVec 32 := 0#32
  let c1_i32_496 : BitVec 32 := 1#32
  let arg18 : BitVec 32 := Scf.iv c0_i32_495 c1_i32_496 k0_t2
  let v1292 : Index := Scalar.indexCast arg18
  let c12_560 : Index := 12#32
  ![0, v1292.toNat, 12]
def k0_mult25 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_562 : BitVec 32 := 128#32
  let v1302 : BitVec 32 := Scalar.muli arg18 c128_i32_562
  v1302
def k0_off51 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_562 : BitVec 32 := 128#32
  let v1302 : BitVec 32 := Scalar.muli arg18 c128_i32_562
  let v1303 : BitVec 32 := v1302
  let v1304 : Index := Scalar.indexCast v1303
  let c1664_563 : Index := 1664#32
  ![v1304.toNat, 1664]
def k0_off52 (k0_t2 : Fin k0_t2_loop.trips) : Fin 3 → Nat :=
  let c0_564 : Index := 0#32
  let c0_i32_495 : BitVec 32 := 0#32
  let c1_i32_496 : BitVec 32 := 1#32
  let arg18 : BitVec 32 := Scf.iv c0_i32_495 c1_i32_496 k0_t2
  let v1307 : Index := Scalar.indexCast arg18
  let c13_565 : Index := 13#32
  ![0, v1307.toNat, 13]
def k0_mult26 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_567 : BitVec 32 := 128#32
  let v1317 : BitVec 32 := Scalar.muli arg18 c128_i32_567
  v1317
def k0_off53 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_567 : BitVec 32 := 128#32
  let v1317 : BitVec 32 := Scalar.muli arg18 c128_i32_567
  let v1318 : BitVec 32 := v1317
  let v1319 : Index := Scalar.indexCast v1318
  let c1792_568 : Index := 1792#32
  ![v1319.toNat, 1792]
def k0_off54 (k0_t2 : Fin k0_t2_loop.trips) : Fin 3 → Nat :=
  let c0_569 : Index := 0#32
  let c0_i32_495 : BitVec 32 := 0#32
  let c1_i32_496 : BitVec 32 := 1#32
  let arg18 : BitVec 32 := Scf.iv c0_i32_495 c1_i32_496 k0_t2
  let v1322 : Index := Scalar.indexCast arg18
  let c14_570 : Index := 14#32
  ![0, v1322.toNat, 14]
def k0_mult27 (k0_t2 : Fin k0_t2_loop.trips) : BitVec 32 :=
  let c0_i32_495 : BitVec 32 := 0#32
  let c1_i32_496 : BitVec 32 := 1#32
  let arg18 : BitVec 32 := Scf.iv c0_i32_495 c1_i32_496 k0_t2
  let c128_i32_572 : BitVec 32 := 128#32
  let v1332 : BitVec 32 := Scalar.muli arg18 c128_i32_572
  v1332
def k0_off55 (k0_t2 : Fin k0_t2_loop.trips) : Fin 2 → Nat :=
  let c0_i32_495 : BitVec 32 := 0#32
  let c1_i32_496 : BitVec 32 := 1#32
  let arg18 : BitVec 32 := Scf.iv c0_i32_495 c1_i32_496 k0_t2
  let c128_i32_572 : BitVec 32 := 128#32
  let v1332 : BitVec 32 := Scalar.muli arg18 c128_i32_572
  let v1333 : BitVec 32 := v1332
  let v1334 : Index := Scalar.indexCast v1333
  let c1920_573 : Index := 1920#32
  ![v1334.toNat, 1920]
def k0_off56 (k0_t2 : Fin k0_t2_loop.trips) : Fin 3 → Nat :=
  let c0_574 : Index := 0#32
  let c0_i32_495 : BitVec 32 := 0#32
  let c1_i32_496 : BitVec 32 := 1#32
  let arg18 : BitVec 32 := Scf.iv c0_i32_495 c1_i32_496 k0_t2
  let v1337 : Index := Scalar.indexCast arg18
  let c15_575 : Index := 15#32
  ![0, v1337.toNat, 15]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S448.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  ![c0_i32.toNat, v1.toNat]

def cc0_transform_3 (k0_off1_inb : ∀ i : grid0.Coords, ∀ a, (k0_off1 i) a + S1.size a ≤ S448.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1408 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1408x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x11 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x11x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1408 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x11 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S57344x2048 : Shape := ⟨2, ![57344, 2048]⟩
abbrev S57344x16 : Shape := ⟨2, ![57344, 16]⟩
abbrev S2048x90112 : Shape := ⟨2, ![2048, 90112]⟩
abbrev S16x704 : Shape := ⟨2, ![16, 704]⟩
abbrev S90112x2048 : Shape := ⟨2, ![90112, 2048]⟩
abbrev S704x16 : Shape := ⟨2, ![704, 16]⟩
abbrev S448x11 : Shape := ⟨2, ![448, 11]⟩
abbrev S2048x704x128 : Shape := ⟨3, ![2048, 704, 128]⟩
abbrev S448x11x1 : Shape := ⟨3, ![448, 11, 1]⟩
abbrev S2048x448x11x128 : Shape := ⟨4, ![2048, 448, 11, 128]⟩
abbrev S448x2048x11x128 : Shape := ⟨4, ![448, 2048, 11, 128]⟩
abbrev S448x2048x1408 : Shape := ⟨3, ![448, 2048, 1408]⟩
abbrev S16x448x11 : Shape := ⟨3, ![16, 448, 11]⟩
abbrev S448x16x11 : Shape := ⟨3, ![448, 16, 11]⟩
abbrev S448x16x1x11x1 : Shape := ⟨5, ![448, 16, 1, 11, 1]⟩
abbrev S448x16x128x11x128 : Shape := ⟨5, ![448, 16, 128, 11, 128]⟩
abbrev S704x128x2048 : Shape := ⟨3, ![704, 128, 2048]⟩
abbrev S448x11x128x2048 : Shape := ⟨4, ![448, 11, 128, 2048]⟩
abbrev S448x1408x2048 : Shape := ⟨3, ![448, 1408, 2048]⟩
abbrev S448x11x16 : Shape := ⟨3, ![448, 11, 16]⟩
abbrev S448x11x1x16x1 : Shape := ⟨5, ![448, 11, 1, 16, 1]⟩
abbrev S448x11x128x16x128 : Shape := ⟨5, ![448, 11, 128, 16, 128]⟩
abbrev S448x128x2048 : Shape := ⟨3, ![448, 128, 2048]⟩
abbrev S57344x16x1 : Shape := ⟨3, ![57344, 16, 1]⟩
abbrev S57344x16x128 : Shape := ⟨3, ![57344, 16, 128]⟩
abbrev S57344x1408 : Shape := ⟨2, ![57344, 1408]⟩
abbrev S57344x11 : Shape := ⟨2, ![57344, 11]⟩
abbrev S448x128x1408 : Shape := ⟨3, ![448, 128, 1408]⟩
abbrev S630784x128 : Shape := ⟨2, ![630784, 128]⟩
abbrev S630784 : Shape := ⟨1, ![630784]⟩
abbrev S630784x1 : Shape := ⟨2, ![630784, 1]⟩
abbrev S1x240 : Shape := ⟨2, ![1, 240]⟩
abbrev S630784x240 : Shape := ⟨2, ![630784, 240]⟩

abbrev nBuf : Space → Nat
  | .hbm => 40
  | .vmem => 11
  | .smem => 0
  | _ => 0

abbrev bufTy : (tb : Table) → Fin (tcTables nBuf tb) → BufTy
  | .hbm, ⟨0, _⟩ => ⟨S57344x2048, .fp8e4m3⟩
  | .hbm, ⟨1, _⟩ => ⟨S57344x16, .f32⟩
  | .hbm, ⟨2, _⟩ => ⟨S2048x90112, .fp8e4m3⟩
  | .hbm, ⟨3, _⟩ => ⟨S16x704, .f32⟩
  | .hbm, ⟨4, _⟩ => ⟨S90112x2048, .fp8e4m3⟩
  | .hbm, ⟨5, _⟩ => ⟨S704x16, .f32⟩
  | .hbm, ⟨6, _⟩ => ⟨S448x11, .i32⟩
  | .hbm, ⟨7, _⟩ => ⟨S57344x2048, .fp8e5m2⟩
  | .hbm, ⟨8, _⟩ => ⟨S57344x16, .f32⟩
  | .hbm, ⟨9, _⟩ => ⟨S2048x704x128, .fp8e4m3⟩
  | .hbm, ⟨10, _⟩ => ⟨S448x11x1, .i32⟩
  | .hbm, ⟨11, _⟩ => ⟨S2048x448x11x128, .fp8e4m3⟩
  | .hbm, ⟨12, _⟩ => ⟨S448x2048x11x128, .fp8e4m3⟩
  | .hbm, ⟨13, _⟩ => ⟨S448x2048x1408, .fp8e4m3⟩
  | .hbm, ⟨14, _⟩ => ⟨S448x11x1, .i32⟩
  | .hbm, ⟨15, _⟩ => ⟨S16x448x11, .f32⟩
  | .hbm, ⟨16, _⟩ => ⟨S448x16x11, .f32⟩
  | .hbm, ⟨17, _⟩ => ⟨S448x16x1x11x1, .f32⟩
  | .hbm, ⟨18, _⟩ => ⟨S448x16x128x11x128, .f32⟩
  | .hbm, ⟨19, _⟩ => ⟨S448x2048x1408, .f32⟩
  | .hbm, ⟨20, _⟩ => ⟨S704x128x2048, .fp8e4m3⟩
  | .hbm, ⟨21, _⟩ => ⟨S448x11x1, .i32⟩
  | .hbm, ⟨22, _⟩ => ⟨S448x11x128x2048, .fp8e4m3⟩
  | .hbm, ⟨23, _⟩ => ⟨S448x1408x2048, .fp8e4m3⟩
  | .hbm, ⟨24, _⟩ => ⟨S448x11x1, .i32⟩
  | .hbm, ⟨25, _⟩ => ⟨S448x11x16, .f32⟩
  | .hbm, ⟨26, _⟩ => ⟨S448x11x1x16x1, .f32⟩
  | .hbm, ⟨27, _⟩ => ⟨S448x11x128x16x128, .f32⟩
  | .hbm, ⟨28, _⟩ => ⟨S448x1408x2048, .f32⟩
  | .hbm, ⟨29, _⟩ => ⟨S448x128x2048, .fp8e4m3⟩
  | .hbm, ⟨30, _⟩ => ⟨S57344x16x1, .f32⟩
  | .hbm, ⟨31, _⟩ => ⟨S57344x16x128, .f32⟩
  | .hbm, ⟨32, _⟩ => ⟨S448x128x2048, .f32⟩
  | .hbm, ⟨33, _⟩ => ⟨S448x128x2048, .fp8e5m2⟩
  | .hbm, ⟨34, _⟩ => ⟨S57344x16x1, .f32⟩
  | .hbm, ⟨35, _⟩ => ⟨S57344x16x128, .f32⟩
  | .hbm, ⟨36, _⟩ => ⟨S448x128x2048, .f32⟩
  | .hbm, ⟨37, _⟩ => ⟨S57344x2048, .bf16⟩
  | .hbm, ⟨38, _⟩ => ⟨S57344x1408, .fp8e5m2⟩
  | .hbm, ⟨39, _⟩ => ⟨S57344x11, .f32⟩
  | .local _ .vmem, ⟨0, _⟩ => ⟨S448x128x2048, .fp8e4m3⟩
  | .local _ .vmem, ⟨1, _⟩ => ⟨S448x128x2048, .f32⟩
  | .local _ .vmem, ⟨2, _⟩ => ⟨S448x2048x1408, .fp8e4m3⟩
  | .local _ .vmem, ⟨3, _⟩ => ⟨S448x2048x1408, .f32⟩
  | .local _ .vmem, ⟨4, _⟩ => ⟨S448x1408x2048, .fp8e4m3⟩
  | .local _ .vmem, ⟨5, _⟩ => ⟨S448x1408x2048, .f32⟩
  | .local _ .vmem, ⟨6, _⟩ => ⟨S448x128x2048, .fp8e5m2⟩
  | .local _ .vmem, ⟨7, _⟩ => ⟨S448x128x2048, .f32⟩
  | .local _ .vmem, ⟨8, _⟩ => ⟨S57344x2048, .bf16⟩
  | .local _ .vmem, ⟨9, _⟩ => ⟨S57344x1408, .fp8e5m2⟩
  | .local _ .vmem, ⟨10, _⟩ => ⟨S57344x11, .f32⟩
  | _, _ => ⟨S57344x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_call3_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S448x128x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S448x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S448x2048x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S448x2048x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S448x1408x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S448x1408x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S448x128x2048 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S448x128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S57344x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S57344x1408 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S57344x11 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Ideal.Table.lean ====
/- The prefetched table: any 448 block indices below 64 (`Tab`). The pipeline at such a table (every weight block inside
   its array), a point's coordinates and staging buffers, the branch the body takes there, and the schedule's facts:
   every output is written back at every point. -/
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Quiescent
public import Idealize.ShloMosaic.Lib.Pipeline.FrameSuffix
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- one declaration at a time, so that what a large run needs is freed before the next begins
set_option Elab.async false

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the certificate. -/
local notation "𝕄" => MT nD τ sig Unit (Elt Ideal) ℕ (UR sig nD τ) ℕ

/-- The tables and scratches the kernel is handed, whole, at their literal types. -/
abbrev tbM0_0 : Memref sig .tc .smem S448 .i32 := Memref.whole main_v2
abbrev scM0_0 : Memref sig .tc .vmem S2048x1408 .bf16 := Memref.whole cc0_scratch0
abbrev scM0_1 : Memref sig .tc .vmem S1408x2048 .bf16 := Memref.whole cc0_scratch1
abbrev scM0_2 : Memref sig .tc .vmem S128x2048 .bf16 := Memref.whole cc0_scratch2
abbrev scM0_3 : Memref sig .tc .vmem S128x2048 .bf16 := Memref.whole cc0_scratch3
abbrev scM0_4 : Memref sig .tc .vmem S128x1408 .bf16 := Memref.whole cc0_scratch4

/-- A table of block indices: one expert per row block, each below 64. -/
abbrev Tab := {T : S448.Idx → BitVec 32 // ∀ x, (T x).toNat < 64}

variable (ch : Tab)

/-- The table's words. -/
def pinT_0 (ch : Tab) : S448.Idx → BitVec 32 := ch.1

set_option backward.proofsInPublic true in
/-- The prefetched contents at the table. -/
def pfN : pre0.Contents (Elt Ideal) := fun | ⟨0, _⟩ => pinT_0 ch | ⟨_ + 1, h⟩ => absurd h (by simp)

/-- A block inside its array, coordinate by coordinate. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The memory the region starts from holds the table. -/
def Pinned (m : (ℓ : Loc nD τ sig) → Buf (Elt Ideal) ℓ) : Prop :=
  (∀ c : Dev nD, m ((c : Thread nD τ).loc main_v2) = pinT_0 ch)

/-! ## The weight blocks lie inside their arrays -/

theorem at_lt (r : Rect S448) (h : r.shape.numel = 1) : ((pfN ch).at 0 r h).toNat < 64 := ch.2 _

theorem ok_2 (i : grid0.Coords) : ∀ a, (cc0_transform_2 k0_off1_inb numel1_S1 (pfN ch) i a + 1) * S2048x1408.size a ≤ S2048x90112.size a := by
  refine okcons (by decide) (okcons (n := 0) ?_ (fun a => a.elim0))
  have := at_lt ch (Rect.unit (s := S448) ![(Scalar.indexCast (BitVec.ofNat 32 (i 0).val)).toNat] S1.size (k0_off1_inb i)) numel1_S1
  omega
theorem ok_3 (i : grid0.Coords) : ∀ a, (cc0_transform_3 k0_off1_inb numel1_S1 (pfN ch) i a + 1) * S1408x2048.size a ≤ S90112x2048.size a := by
  refine okcons ?_ (okcons (n := 0) (by decide) (fun a => a.elim0))
  have := at_lt ch (Rect.unit (s := S448) ![(Scalar.indexCast (BitVec.ofNat 32 (i 0).val)).toNat] S1.size (k0_off1_inb i)) numel1_S1
  omega
theorem ok_4 (i : grid0.Coords) : ∀ a, (cc0_transform_4 k0_off1_inb numel1_S1 (pfN ch) i a + 1) * S1x16x11.size a ≤ S64x16x11.size a := by
  refine okcons ?_ (okcons (by decide) (okcons (n := 0) (by decide) (fun a => a.elim0)))
  have := at_lt ch (Rect.unit (s := S448) ![(Scalar.indexCast (BitVec.ofNat 32 (i 0).val)).toNat] S1.size (k0_off1_inb i)) numel1_S1
  omega
theorem ok_5 (i : grid0.Coords) : ∀ a, (cc0_transform_5 k0_off1_inb numel1_S1 (pfN ch) i a + 1) * S1x11x16.size a ≤ S64x11x16.size a := by
  refine okcons ?_ (okcons (by decide) (okcons (n := 0) (by decide) (fun a => a.elim0)))
  have := at_lt ch (Rect.unit (s := S448) ![(Scalar.indexCast (BitVec.ofNat 32 (i 0).val)).toNat] S1.size (k0_off1_inb i)) numel1_S1
  omega

/-- The pipeline's side condition at the table. -/
theorem ok_pfN : ok0 (F := Ideal) (pfN ch) :=
  ⟨fun i => ⟨ok_2 ch i, .inr (Affine.block_words_dvd (s := S2048x90112) (p := EltTy.packing .fp8e4m3) (by decide) (by decide))⟩,
   fun i => ⟨ok_3 ch i, .inr (Affine.block_words_dvd (s := S90112x2048) (p := EltTy.packing .fp8e4m3) (by decide) (by decide))⟩,
   fun i => ⟨ok_4 ch i, .inl rfl⟩, fun i => ⟨ok_5 ch i, .inl rfl⟩⟩

/-- The admissible contents, the pipeline at them, as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S128x2048 .fp8e4m3 := spec0_0.stage ((cfgA ch).slots t (0 : Fin 11))
abbrev hs0_0 (t : Fin (cfgA ch).N) : (ms0_0 ch t).IsWhole := hstage0_0 (((cfgA ch).slots t (0 : Fin 11)).cast nbuf0_0)
abbrev ms0_1 (t : Fin (cfgA ch).N) : Memref sig .tc .vmem S128x16 .f32 := spec0_1.stage ((cfgA ch).slots t (1 : Fin 11))
abbrev hs0_1 (t : Fin (cfgA ch).N) : (ms0_1 ch t).IsWhole := hstage0_1 (((cfgA ch).slots t (1 : Fin 11)).cast nbuf0_1)
abbrev ms0_2 (t : Fin (cfgA ch).N) : Memref sig .tc .vmem S2048x1408 .fp8e4m3 := spec0_2.stage ((cfgA ch).slots t (2 : Fin 11))
abbrev hs0_2 (t : Fin (cfgA ch).N) : (ms0_2 ch t).IsWhole := hstage0_2 (((cfgA ch).slots t (2 : Fin 11)).cast nbuf0_2)
abbrev ms0_3 (t : Fin (cfgA ch).N) : Memref sig .tc .vmem S1408x2048 .fp8e4m3 := spec0_3.stage ((cfgA ch).slots t (3 : Fin 11))
abbrev hs0_3 (t : Fin (cfgA ch).N) : (ms0_3 ch t).IsWhole := hstage0_3 (((cfgA ch).slots t (3 : Fin 11)).cast nbuf0_3)
abbrev ms0_4 (t : Fin (cfgA ch).N) : Memref sig .tc .vmem S1x16x11 .f32 := spec0_4.stage ((cfgA ch).slots t (4 : Fin 11))
abbrev hs0_4 (t : Fin (cfgA ch).N) : (ms0_4 ch t).IsWhole := hstage0_4 (((cfgA ch).slots t (4 : Fin 11)).cast nbuf0_4)
abbrev ms0_5 (t : Fin (cfgA ch).N) : Memref sig .tc .vmem S1x11x16 .f32 := spec0_5.stage ((cfgA ch).slots t (5 : Fin 11))
abbrev hs0_5 (t : Fin (cfgA ch).N) : (ms0_5 ch t).IsWhole := hstage0_5 (((cfgA ch).slots t (5 : Fin 11)).cast nbuf0_5)
abbrev ms0_6 (t : Fin (cfgA ch).N) : Memref sig .tc .vmem S128x2048 .fp8e5m2 := spec0_6.stage ((cfgA ch).slots t (6 : Fin 11))
abbrev hs0_6 (t : Fin (cfgA ch).N) : (ms0_6 ch t).IsWhole := hstage0_6 (((cfgA ch).slots t (6 : Fin 11)).cast nbuf0_6)
abbrev ms0_7 (t : Fin (cfgA ch).N) : Memref sig .tc .vmem S128x16 .f32 := spec0_7.stage ((cfgA ch).slots t (7 : Fin 11))
abbrev hs0_7 (t : Fin (cfgA ch).N) : (ms0_7 ch t).IsWhole := hstage0_7 (((cfgA ch).slots t (7 : Fin 11)).cast nbuf0_7)
abbrev ms0_8 (t : Fin (cfgA ch).N) : Memref sig .tc .vmem S128x2048 .bf16 := spec0_8.stage ((cfgA ch).slots t (8 : Fin 11))
abbrev hs0_8 (t : Fin (cfgA ch).N) : (ms0_8 ch t).IsWhole := hstage0_8 (((cfgA ch).slots t (8 : Fin 11)).cast nbuf0_8)
abbrev ms0_9 (t : Fin (cfgA ch).N) : Memref sig .tc .vmem S128x1408 .fp8e5m2 := spec0_9.stage ((cfgA ch).slots t (9 : Fin 11))
abbrev hs0_9 (t : Fin (cfgA ch).N) : (ms0_9 ch t).IsWhole := hstage0_9 (((cfgA ch).slots t (9 : Fin 11)).cast nbuf0_9)
abbrev ms0_10 (t : Fin (cfgA ch).N) : Memref sig .tc .vmem S128x11 .f32 := spec0_10.stage ((cfgA ch).slots t (10 : Fin 11))
abbrev hs0_10 (t : Fin (cfgA ch).N) : (ms0_10 ch t).IsWhole := hstage0_10 (((cfgA ch).slots t (10 : Fin 11)).cast nbuf0_10)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.ori (Scalar.cmpi .eq (BitVec.ofNat 32 ((crd ch t) 0).val) 0#32) (Scalar.cmpi .ne (View.readAt (Elt Ideal) (tbM0_0).view (Rect.unit (s := S448) (k0_off1 (crd ch t)) S1.size (k0_off1_inb (crd ch t))).toLoadRect (pinT_0 ch) (Shape.Idx.first (numel1_S1.symm ▸ Nat.one_pos))) (View.readAt (Elt Ideal) (tbM0_0).view (Rect.unit (s := S448) (k0_off2 (crd ch t)) S1.size (k0_off2_inb (crd ch t))).toLoadRect (pinT_0 ch) (Shape.Idx.first (numel1_S1.symm ▸ Nat.one_pos)))))) 0#32) = 1#1

/-! ## Whether a scratch buffer holds nothing a point has determined: only before the first point, which stores every one whole -/

def sfresh0_0 (_ : Tab) : ℕ → Bool
  | 0 => true
  | _ + 1 => false
def sfresh0_1 (_ : Tab) : ℕ → Bool
  | 0 => true
  | _ + 1 => false
def sfresh0_2 (_ : Tab) : ℕ → Bool
  | 0 => true
  | _ + 1 => false
def sfresh0_3 (_ : Tab) : ℕ → Bool
  | 0 => true
  | _ + 1 => false
def sfresh0_4 (_ : Tab) : ℕ → Bool
  | 0 => true
  | _ + 1 => false

/-! ## The schedule: the branch taken at the first point, and what is written back where -/

theorem crd_val (t : Fin (cfgA ch).N) : ((crd ch t) 0).val = t.val := by
  have h : ∀ t : Fin grid0.N, (grid0.coords t 0).val = t.val := fun t =>
    (Pipeline.Grid.coords_val (G := grid0) t 0 (S := 1) (B := 448) (by decide) rfl).trans
      (by have := t.isLt; have hN : grid0.N = 448 := by decide
          omega)
  exact h t

theorem first_true : ∀ z : BitVec 1, Scalar.cmpi .ne (Scalar.extui (Scalar.ori (Scalar.cmpi .eq (BitVec.ofNat 32 0) 0#32) z)) 0#32 = 1#1 := by decide

/-- The body refreshes the weights at the first point. -/
theorem P0_zero (t : Fin (cfgA ch).N) (h : t.val = 0) : P0_0 ch t := by
  have h0 : ((crd ch t) 0).val = 0 := (crd_val ch t).trans h
  simp only [P0_0, h0]
  exact first_true _

theorem sfr0 : ∀ n, n ≤ (cfgA ch).N → n ≠ 0 → sfresh0_0 ch n = false
  | 0, _, h => absurd rfl h
  | _ + 1, _, _ => rfl
theorem sfr1 : ∀ n, n ≤ (cfgA ch).N → n ≠ 0 → sfresh0_1 ch n = false
  | 0, _, h => absurd rfl h
  | _ + 1, _, _ => rfl
theorem sfr2 (t : Fin (cfgA ch).N) : sfresh0_2 ch (t.val + 1) = false := rfl
theorem sfr3 (t : Fin (cfgA ch).N) : sfresh0_3 ch (t.val + 1) = false := rfl
theorem sfr4 (t : Fin (cfgA ch).N) : sfresh0_4 ch (t.val + 1) = false := rfl

theorem sep_8 : ∀ i i' : grid0.Coords, cc0_transform_8 i = cc0_transform_8 i' → i 0 = i' 0 := by
  intro i i' h
  have h0 : (BitVec.ofNat 32 (i 0).val).toNat = (BitVec.ofNat 32 (i' 0).val).toNat := congrFun h 0
  have h1 : (i 0).val < 448 := (i 0).isLt
  have h2 : (i' 0).val < 448 := (i' 0).isLt
  rw [BitVec.toNat_ofNat, BitVec.toNat_ofNat, Nat.mod_eq_of_lt (by omega), Nat.mod_eq_of_lt (by omega)] at h0
  exact Fin.ext h0

theorem flush_8 (t : Fin (cfgA ch).N) : ((cfgA ch).win (8 : Fin 11)).flush t = true :=
  (Pipeline.Window.flush_reads ((cfgA ch).win (8 : Fin 11)) rfl 0 (show 1 < grid0.bound 0 by decide) (show grid0.fixedAfter reads0_8 0 = true by decide) sep_8 (P := 1) (m := 0) (show grid0.stride 0 = 1 by decide) rfl t).mpr (Nat.mod_one _)
theorem flush_9 (t : Fin (cfgA ch).N) : ((cfgA ch).win (9 : Fin 11)).flush t = true :=
  (Pipeline.Window.flush_reads ((cfgA ch).win (9 : Fin 11)) rfl 0 (show 1 < grid0.bound 0 by decide) (show grid0.fixedAfter reads0_9 0 = true by decide) sep_8 (P := 1) (m := 0) (show grid0.stride 0 = 1 by decide) rfl t).mpr (Nat.mod_one _)
theorem flush_10 (t : Fin (cfgA ch).N) : ((cfgA ch).win (10 : Fin 11)).flush t = true :=
  (Pipeline.Window.flush_reads ((cfgA ch).win (10 : Fin 11)) rfl 0 (show 1 < grid0.bound 0 by decide) (show grid0.fixedAfter reads0_10 0 = true by decide) sep_8 (P := 1) (m := 0) (show grid0.stride 0 = 1 by decide) rfl t).mpr (Nat.mod_one _)

theorem fresh_8 (t : Fin (cfgA ch).N) : (cfgA ch).fresh (8 : Fin 11) t.val = true :=
  Pipeline.Cfg.fresh_tab (cfgA ch) (8 : Fin 11) (fun _ => true) rfl (fun t => by rw [flush_8, Bool.true_or]) t.val (Nat.le_of_lt t.isLt)
theorem fresh_9 (t : Fin (cfgA ch).N) : (cfgA ch).fresh (9 : Fin 11) t.val = true :=
  Pipeline.Cfg.fresh_tab (cfgA ch) (9 : Fin 11) (fun _ => true) rfl (fun t => by rw [flush_9, Bool.true_or]) t.val (Nat.le_of_lt t.isLt)
theorem fresh_10 (t : Fin (cfgA ch).N) : (cfgA ch).fresh (10 : Fin 11) t.val = true :=
  Pipeline.Cfg.fresh_tab (cfgA ch) (10 : Fin 11) (fun _ => true) rfl (fun t => by rw [flush_10, Bool.true_or]) t.val (Nat.le_of_lt t.isLt)

/-- The schedule at a point that refreshes the weights. -/
theorem sched0_A (t : Fin (cfgA ch).N) (q : P0_0 ch t) :
    (cfgA ch).idle (8 : Fin 11) ((cfgA ch).grid.coords t) = false ∧ ((cfgA ch).win (8 : Fin 11)).flush t = true ∧ (cfgA ch).fresh (8 : Fin 11) t.val = true
    ∧ (cfgA ch).idle (9 : Fin 11) ((cfgA ch).grid.coords t) = false ∧ ((cfgA ch).win (9 : Fin 11)).flush t = true ∧ (cfgA ch).fresh (9 : Fin 11) t.val = true
    ∧ (cfgA ch).idle (10 : Fin 11) ((cfgA ch).grid.coords t) = false ∧ ((cfgA ch).win (10 : Fin 11)).flush t = true ∧ (cfgA ch).fresh (10 : Fin 11) t.val = true
    ∧ sfresh0_0 ch (t.val + 1) = false ∧ sfresh0_1 ch (t.val + 1) = false ∧ sfresh0_2 ch (t.val + 1) = false ∧ sfresh0_3 ch (t.val + 1) = false ∧ sfresh0_4 ch (t.val + 1) = false :=
  ⟨rfl, flush_8 ch t, fresh_8 ch t, rfl, flush_9 ch t, fresh_9 ch t, rfl, flush_10 ch t, fresh_10 ch t,
    sfr0 ch _ t.isLt (Nat.succ_ne_zero _), sfr1 ch _ t.isLt (Nat.succ_ne_zero _), sfr2 ch t, sfr3 ch t, sfr4 ch t⟩

/-- The schedule at a point that keeps them: it is not the first, so the weights' scratches are determined. -/
theorem sched0_B (t : Fin (cfgA ch).N) (q : ¬P0_0 ch t) :
    (cfgA ch).idle (8 : Fin 11) ((cfgA ch).grid.coords t) = false ∧ ((cfgA ch).win (8 : Fin 11)).flush t = true ∧ (cfgA ch).fresh (8 : Fin 11) t.val = true
    ∧ (cfgA ch).idle (9 : Fin 11) ((cfgA ch).grid.coords t) = false ∧ ((cfgA ch).win (9 : Fin 11)).flush t = true ∧ (cfgA ch).fresh (9 : Fin 11) t.val = true
    ∧ (cfgA ch).idle (10 : Fin 11) ((cfgA ch).grid.coords t) = false ∧ ((cfgA ch).win (10 : Fin 11)).flush t = true ∧ (cfgA ch).fresh (10 : Fin 11) t.val = true
    ∧ sfresh0_0 ch t.val = false ∧ sfresh0_0 ch (t.val + 1) = false ∧ sfresh0_1 ch t.val = false ∧ sfresh0_1 ch (t.val + 1) = false
    ∧ sfresh0_2 ch (t.val + 1) = false ∧ sfresh0_3 ch (t.val + 1) = false ∧ sfresh0_4 ch (t.val + 1) = false :=
  have h0 : t.val ≠ 0 := fun h => q (P0_zero ch t h)
  ⟨rfl, flush_8 ch t, fresh_8 ch t, rfl, flush_9 ch t, fresh_9 ch t, rfl, flush_10 ch t, fresh_10 ch t,
    sfr0 ch _ (Nat.le_of_lt t.isLt) h0, sfr0 ch _ t.isLt (Nat.succ_ne_zero _), sfr1 ch _ (Nat.le_of_lt t.isLt) h0, sfr1 ch _ t.isLt (Nat.succ_ne_zero _),
    sfr2 ch t, sfr3 ch t, sfr4 ch t⟩

end Cert.KernelIdeal.Own

end
-- ==== Proof.Ideal.Runs.lean ====
/- The kernel body, run once along each of its two control paths: at a row block that refreshes the dequantised
   weights (path A) and at one that keeps them (path B). Each run is a subtype holding what the body leaves in every
   output and every scratch buffer, with the proof that it leaves it. -/
module

public import proofs.«01_k».proof.Proof.Ideal.Table

@[expose] public section

set_option maxRecDepth 16384
-- one declaration at a time, so that what a large run needs is freed before the next begins
set_option Elab.async false

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the certificate. -/
local notation "𝕄" => MT nD τ sig Unit (Elt Ideal) ℕ (UR sig nD τ) ℕ

/-! ## The kernel body per control path, on symbolic staging memrefs: a subtype the run finds -/

/-- One staging buffer of output window 8, through which its contents are stated (`View.read_writes_of_cover`). -/
abbrev VO0_8 : View sig .tc .vmem S128x2048 .bf16 := (Memref.whole cc0_stg8_0 : Memref sig .tc .vmem S128x2048 .bf16).view
/-- One staging buffer of output window 9, through which its contents are stated (`View.read_writes_of_cover`). -/
abbrev VO0_9 : View sig .tc .vmem S128x1408 .fp8e5m2 := (Memref.whole cc0_stg9_0 : Memref sig .tc .vmem S128x1408 .fp8e5m2).view
/-- One staging buffer of output window 10, through which its contents are stated (`View.read_writes_of_cover`). -/
abbrev VO0_10 : View sig .tc .vmem S128x11 .f32 := (Memref.whole cc0_stg10_0 : Memref sig .tc .vmem S128x11 .f32).view

set_option backward.proofsInPublic true in
set_option maxHeartbeats 49524000 in
set_option sl_exec.unrollTrips 16 in
/-- PATH A (points 0): what the body leaves — per stored output its pieces (last first), per scratch its
    contents — WITH the proof that, on whole staging memrefs, from the inputs at their blocks, the tables, the outputs
    (8: stored, 9: stored, 10: stored) and the scratches (0: covered, 1: covered, 2: covered, 3: covered, 4: covered), under the path's decisions as
    hypotheses over the words the body reads (`hc0`), the body runs to the continuation holding all of it as stated. The
    skeleton (`Gen.*_eq_skeleton`) run by `sl_exec`, loops of literal trip count unrolled by the run, the others by `sl_unroll`. -/
noncomputable def kernelRun0_A (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) :
    Σ' (out0 : List (View.Piece (Elt Ideal) S128x2048 .bf16)) (out1 : List (View.Piece (Elt Ideal) S128x1408 .fp8e5m2)) (out2 : List (View.Piece (Elt Ideal) S128x11 .f32)) (out3 : Buf (Elt Ideal) ((c : Thread nD τ).loc cc0_scratch0)) (out4 : Buf (Elt Ideal) ((c : Thread nD τ).loc cc0_scratch1)) (out5 : Buf (Elt Ideal) ((c : Thread nD τ).loc cc0_scratch2)) (out6 : Buf (Elt Ideal) ((c : Thread nD τ).loc cc0_scratch3)), { out7 : Buf (Elt Ideal) ((c : Thread nD τ).loc cc0_scratch4) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (arg8.view.loc (c : Thread nD τ) ↦[arg8.view.set]{fullShare} arg8.view.rep x6)
          ∗ (arg9.view.loc (c : Thread nD τ) ↦[arg9.view.set]{fullShare} arg9.view.rep x7)
          ∗ (tbM0_0.view.loc (c : Thread nD τ) ↦{fullShare.right} T0)
          ∗ (∃ d, owns (c : Thread nD τ) arg10 fullShare d)
          ∗ (∃ d, owns (c : Thread nD τ) arg11 fullShare d)
          ∗ (∃ d, owns (c : Thread nD τ) arg12 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (arg8.view.loc (c : Thread nD τ) ↦[arg8.view.set]{fullShare} arg8.view.rep x6)
              ∗ (arg9.view.loc (c : Thread nD τ) ↦[arg9.view.set]{fullShare} arg9.view.rep x7)
              ∗ (tbM0_0.view.loc (c : Thread nD τ) ↦{fullShare.right} T0)
              ∗ (∃ f, arg10.view.loc (c : Thread nD τ) ↦[arg10.view.set]{fullShare} arg10.view.writes (Elt Ideal) f out0)
              ∗ (∃ f, arg11.view.loc (c : Thread nD τ) ↦[arg11.view.set]{fullShare} arg11.view.writes (Elt Ideal) f out1)
              ∗ (∃ f, arg12.view.loc (c : Thread nD τ) ↦[arg12.view.set]{fullShare} arg12.view.writes (Elt Ideal) f out2)
              ∗ (scM0_0.view.loc (c : Thread nD τ) ↦{fullShare} out3)
              ∗ (scM0_1.view.loc (c : Thread nD τ) ↦{fullShare} out4)
              ∗ (scM0_2.view.loc (c : Thread nD τ) ↦{fullShare} out5)
              ∗ (scM0_3.view.loc (c : Thread nD τ) ↦{fullShare} out6)
              ∗ (scM0_4.view.loc (c : Thread nD τ) ↦{fullShare} out7)) -∗ K ⟨⟩))
          ⊢ wp frame (wpE (defs₀ (F := Ideal)) Variants.none c none) Set.univ (cc0__body i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) scM0_4 (Memref.isWhole_whole _)) K } :=
  ⟨_, _, _, _, _, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) K => by
    unfold owns
    rw [cc0__body_eq_skeleton]; unfold cc0__body_skel
    iintro ⟨H0, H1, H2, H3, H4, H5, H6, H7, HT0, ⟨%d8, %f8, -, HO8⟩, ⟨%d9, %f9, -, HO9⟩, ⟨%d10, %f10, -, HO10⟩, HS0, HS1, HS2, HS3, HS4, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hT0 : tbM0_0.IsWhole := Memref.isWhole_whole _
    sl_exec! (disch := first | (guard_target = Scalar.cmpi = _; exact hc0))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HO8]; · iexists _; iexact HO8
    isplitl [HO9]; · iexists _; iexact HO9
    isplitl [HO10]; · iexists _; iexact HO10
    isplitl [HS0]; · iexact HS0
    isplitl [HS1]; · iexact HS1
    isplitl [HS2]; · iexact HS2
    isplitl [HS3]; · iexact HS3
    iexact HS4⟩

/-- Path A's pieces for output 8 tile its block (1 store of `S128x2048`: the kernel evaluates the tiling, Lib/Ring.lean `Piece.tiledL`). -/
theorem cover0_A_8 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).1 S128x2048.size (by sl_kernel_rfl) y

/-- What path A leaves in output 8's staging buffer: its pieces read back over junk. -/
def out0_A_8 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) : (S128x2048.Idx → Elt Ideal .bf16) :=
  VO0_8.read (Elt Ideal) (VO0_8.writes (Elt Ideal) VO0_8.junk (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).1)

/-- Path A's pieces for output 9 tile its block (11 stores of `S128x128`: the kernel evaluates the tiling, Lib/Ring.lean `Piece.tiledL`). -/
theorem cover0_A_9 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) (y : S128x1408.Idx) :
    ∃ pc ∈ (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.1 S128x128.size (by sl_kernel_rfl) y

/-- What path A leaves in output 9's staging buffer: its pieces read back over junk. -/
def out0_A_9 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) : (S128x1408.Idx → Elt Ideal .fp8e5m2) :=
  VO0_9.read (Elt Ideal) (VO0_9.writes (Elt Ideal) VO0_9.junk (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.1)

/-- Path A's pieces for output 10 tile its block (1 store of `S128x11`: the kernel evaluates the tiling, Lib/Ring.lean `Piece.tiledL`). -/
theorem cover0_A_10 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) (y : S128x11.Idx) :
    ∃ pc ∈ (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.2.1 S128x11.size (by sl_kernel_rfl) y

/-- What path A leaves in output 10's staging buffer: its pieces read back over junk. -/
def out0_A_10 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) : (S128x11.Idx → Elt Ideal .f32) :=
  VO0_10.read (Elt Ideal) (VO0_10.writes (Elt Ideal) VO0_10.junk (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.2.1)

set_option backward.proofsInPublic true in
set_option maxHeartbeats 8000000 in
/-- PATH B (points 1, 2, … 447: 447 of 448): what the body leaves — per stored output its pieces (last first), per scratch its
    contents — WITH the proof that, on whole staging memrefs, from the inputs at their blocks, the tables, the outputs
    (8: stored, 9: stored, 10: stored) and the scratches (0: carried, 1: carried, 2: covered, 3: covered, 4: covered), under the path's decisions as
    hypotheses over the words the body reads (`hc0`), the body runs to the continuation holding all of it as stated. The
    skeleton (`Gen.*_eq_skeleton`) run by `sl_exec`, loops of literal trip count unrolled by the run, the others by `sl_unroll`. -/
noncomputable def kernelRun0_B (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) :
    Σ' (out0 : List (View.Piece (Elt Ideal) S128x2048 .bf16)) (out1 : List (View.Piece (Elt Ideal) S128x1408 .fp8e5m2)) (out2 : List (View.Piece (Elt Ideal) S128x11 .f32)) (out3 : Buf (Elt Ideal) ((c : Thread nD τ).loc cc0_scratch0)) (out4 : Buf (Elt Ideal) ((c : Thread nD τ).loc cc0_scratch1)) (out5 : Buf (Elt Ideal) ((c : Thread nD τ).loc cc0_scratch2)) (out6 : Buf (Elt Ideal) ((c : Thread nD τ).loc cc0_scratch3)), { out7 : Buf (Elt Ideal) ((c : Thread nD τ).loc cc0_scratch4) //
      ∀ (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (arg8.view.loc (c : Thread nD τ) ↦[arg8.view.set]{fullShare} arg8.view.rep x6)
          ∗ (arg9.view.loc (c : Thread nD τ) ↦[arg9.view.set]{fullShare} arg9.view.rep x7)
          ∗ (tbM0_0.view.loc (c : Thread nD τ) ↦{fullShare.right} T0)
          ∗ (∃ d, owns (c : Thread nD τ) arg10 fullShare d)
          ∗ (∃ d, owns (c : Thread nD τ) arg11 fullShare d)
          ∗ (∃ d, owns (c : Thread nD τ) arg12 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (arg8.view.loc (c : Thread nD τ) ↦[arg8.view.set]{fullShare} arg8.view.rep x6)
              ∗ (arg9.view.loc (c : Thread nD τ) ↦[arg9.view.set]{fullShare} arg9.view.rep x7)
              ∗ (tbM0_0.view.loc (c : Thread nD τ) ↦{fullShare.right} T0)
              ∗ (∃ f, arg10.view.loc (c : Thread nD τ) ↦[arg10.view.set]{fullShare} arg10.view.writes (Elt Ideal) f out0)
              ∗ (∃ f, arg11.view.loc (c : Thread nD τ) ↦[arg11.view.set]{fullShare} arg11.view.writes (Elt Ideal) f out1)
              ∗ (∃ f, arg12.view.loc (c : Thread nD τ) ↦[arg12.view.set]{fullShare} arg12.view.writes (Elt Ideal) f out2)
              ∗ (scM0_0.view.loc (c : Thread nD τ) ↦{fullShare} out3)
              ∗ (scM0_1.view.loc (c : Thread nD τ) ↦{fullShare} out4)
              ∗ (scM0_2.view.loc (c : Thread nD τ) ↦{fullShare} out5)
              ∗ (scM0_3.view.loc (c : Thread nD τ) ↦{fullShare} out6)
              ∗ (scM0_4.view.loc (c : Thread nD τ) ↦{fullShare} out7)) -∗ K ⟨⟩))
          ⊢ wp frame (wpE (defs₀ (F := Ideal)) Variants.none c none) Set.univ (cc0__body i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) scM0_4 (Memref.isWhole_whole _)) K } :=
  ⟨_, _, _, _, _, _, _, _, fun (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) K => by
    unfold owns
    rw [cc0__body_eq_skeleton]; unfold cc0__body_skel
    iintro ⟨H0, H1, H2, H3, H4, H5, H6, H7, HT0, ⟨%d8, %f8, -, HO8⟩, ⟨%d9, %f9, -, HO9⟩, ⟨%d10, %f10, -, HO10⟩, HS0, HS1, HS2, HS3, HS4, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hT0 : tbM0_0.IsWhole := Memref.isWhole_whole _
    sl_exec! (disch := first | (guard_target = ¬(Scalar.cmpi = _); exact hc0))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HO8]; · iexists _; iexact HO8
    isplitl [HO9]; · iexists _; iexact HO9
    isplitl [HO10]; · iexists _; iexact HO10
    isplitl [HS0]; · iexact HS0
    isplitl [HS1]; · iexact HS1
    isplitl [HS2]; · iexact HS2
    isplitl [HS3]; · iexact HS3
    iexact HS4⟩

/-- Path B's pieces for output 8 tile its block (1 store of `S128x2048`: the kernel evaluates the tiling, Lib/Ring.lean `Piece.tiledL`). -/
theorem cover0_B_8 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).1 S128x2048.size (by sl_kernel_rfl) y

/-- What path B leaves in output 8's staging buffer: its pieces read back over junk. -/
def out0_B_8 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) : (S128x2048.Idx → Elt Ideal .bf16) :=
  VO0_8.read (Elt Ideal) (VO0_8.writes (Elt Ideal) VO0_8.junk (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).1)

/-- Path B's pieces for output 9 tile its block (11 stores of `S128x128`: the kernel evaluates the tiling, Lib/Ring.lean `Piece.tiledL`). -/
theorem cover0_B_9 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) (y : S128x1408.Idx) :
    ∃ pc ∈ (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.1 S128x128.size (by sl_kernel_rfl) y

/-- What path B leaves in output 9's staging buffer: its pieces read back over junk. -/
def out0_B_9 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) : (S128x1408.Idx → Elt Ideal .fp8e5m2) :=
  VO0_9.read (Elt Ideal) (VO0_9.writes (Elt Ideal) VO0_9.junk (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.1)

/-- Path B's pieces for output 10 tile its block (1 store of `S128x11`: the kernel evaluates the tiling, Lib/Ring.lean `Piece.tiledL`). -/
theorem cover0_B_10 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) (y : S128x11.Idx) :
    ∃ pc ∈ (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.2.1 S128x11.size (by sl_kernel_rfl) y

/-- What path B leaves in output 10's staging buffer: its pieces read back over junk. -/
def out0_B_10 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) : (S128x11.Idx → Elt Ideal .f32) :=
  VO0_10.read (Elt Ideal) (VO0_10.writes (Elt Ideal) VO0_10.junk (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.2.1)

end Cert.KernelIdeal.Own

end
-- ==== Proof.Ideal.Run.lean ====
/- What every row block leaves in the outputs and the scratch buffers (the trajectory), the pipeline's proof data and its
   body obligation, from any memory whose prefetched table is `ch`. -/
module

public import proofs.«01_k».proof.Proof.Ideal.Runs

@[expose] public section

set_option maxRecDepth 16384
-- one declaration at a time, so that what a large run needs is freed before the next begins
set_option Elab.async false

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the certificate. -/
local notation "𝕄" => MT nD τ sig Unit (Elt Ideal) ℕ (UR sig nD τ) ℕ
/-- The proof's resource algebra: the rounds library's, for the pipeline's staging cells, embedded whole. -/
abbrev EP : Emb (UR sig nD τ) 𝕄 := emb₁

variable (ch : Tab)
variable (m : (ℓ : Loc nD τ sig) → Buf (Elt Ideal) ℓ) (ρ : Dev nD → PrngReg)

/-! ## What the outputs and scratches hold after each point -/

/-- ONE STEP of the trajectory: what the outputs' current buffers and the scratches hold after the body at point `t`
    (output 8, output 9, output 10, scratch 0, scratch 1, scratch 2, scratch 3, scratch 4), from what they held before (`prev`): the path the decisions select at `t`, its
    run's contents; an output the path leaves idle keeps what it held (junk — `default`, named by nothing — where fresh). -/
def step0 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4) :=
  if q0 : P0_0 ch t then
    (out0_A_8 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1, out0_A_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1, out0_A_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.2.2.2.1)
  else
    (out0_B_8 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1, out0_B_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1, out0_B_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.2.2.2.1)

/-- THE TRAJECTORY: after position `n`. -/
def traj0 (c : Dev nD) : (n : ℕ) → n < (cfgA ch).N → (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)
  | 0, h => step0 ch m ρ c ⟨0, h⟩ (default, default, default, default, default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4) :=
  if h : t.val = 0 then (default, default, default, default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : P0_0 ch t) :
    step0 ch m ρ c t prev = (out0_A_8 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1, out0_A_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1, out0_A_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.2.2.2.1) := by
  unfold step0; simp only [dif_pos q0]

/-- `step0` at a point of path B. -/
theorem step0_B (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : ¬P0_0 ch t) :
    step0 ch m ρ c t prev = (out0_B_8 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1, out0_B_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1, out0_B_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.2.2.2.1) := by
  unfold step0; simp only [dif_neg q0]

/-! ## The pipeline's proof data -/

/-- What the tracked buffers held before position `t` of `Fin (N+1)` (the invariant's index). -/
def prev0T (c : Dev nD) (t : Fin ((cfgA ch).N + 1)) : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4) :=
  if h : t.val = 0 then (default, default, default, default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.2.2.1⌝ ∗ (scM0_0.view.loc (c : Thread nD τ) ↦{fullShare} a)) ∗ (∃ a, ⌜sfresh0_1 ch t.val = false → a = (prev0T ch m ρ c t).2.2.2.2.1⌝ ∗ (scM0_1.view.loc (c : Thread nD τ) ↦{fullShare} a)) ∗ (∃ a, ⌜sfresh0_2 ch t.val = false → a = (prev0T ch m ρ c t).2.2.2.2.2.1⌝ ∗ (scM0_2.view.loc (c : Thread nD τ) ↦{fullShare} a)) ∗ (∃ a, ⌜sfresh0_3 ch t.val = false → a = (prev0T ch m ρ c t).2.2.2.2.2.2.1⌝ ∗ (scM0_3.view.loc (c : Thread nD τ) ↦{fullShare} a)) ∗ (∃ a, ⌜sfresh0_4 ch t.val = false → a = (prev0T ch m ρ c t).2.2.2.2.2.2.2⌝ ∗ (scM0_4.view.loc (c : Thread nD τ) ↦{fullShare} a)) ∗ (tbM0_0.view.loc (c : Thread nD τ) ↦{fullShare.right} pinT_0 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 11) t
    | ⟨1, _⟩ => iblk ch m ρ c (1 : Fin 11) t
    | ⟨2, _⟩ => iblk ch m ρ c (2 : Fin 11) t
    | ⟨3, _⟩ => iblk ch m ρ c (3 : Fin 11) t
    | ⟨4, _⟩ => iblk ch m ρ c (4 : Fin 11) t
    | ⟨5, _⟩ => iblk ch m ρ c (5 : Fin 11) t
    | ⟨6, _⟩ => iblk ch m ρ c (6 : Fin 11) t
    | ⟨7, _⟩ => iblk ch m ρ c (7 : Fin 11) t
    | ⟨8, _⟩ => (traj0 ch m ρ c t.val t.isLt).1
    | ⟨9, _⟩ => (traj0 ch m ρ c t.val t.isLt).2.1
    | ⟨10, _⟩ => (traj0 ch m ρ c t.val t.isLt).2.2.1
  Φ t := Phi ch m ρ c t
  q _ := fullShare
  owed _ := 0

theorem after0_0 (c : Dev nD) (t : Fin (cfgA ch).N) : (dats ch m ρ 0 c).after (0 : Fin 11) t = iblk ch m ρ c (0 : Fin 11) t := rfl
theorem after0_1 (c : Dev nD) (t : Fin (cfgA ch).N) : (dats ch m ρ 0 c).after (1 : Fin 11) t = iblk ch m ρ c (1 : Fin 11) t := rfl
theorem after0_2 (c : Dev nD) (t : Fin (cfgA ch).N) : (dats ch m ρ 0 c).after (2 : Fin 11) t = iblk ch m ρ c (2 : Fin 11) t := rfl
theorem after0_3 (c : Dev nD) (t : Fin (cfgA ch).N) : (dats ch m ρ 0 c).after (3 : Fin 11) t = iblk ch m ρ c (3 : Fin 11) t := rfl
theorem after0_4 (c : Dev nD) (t : Fin (cfgA ch).N) : (dats ch m ρ 0 c).after (4 : Fin 11) t = iblk ch m ρ c (4 : Fin 11) t := rfl
theorem after0_5 (c : Dev nD) (t : Fin (cfgA ch).N) : (dats ch m ρ 0 c).after (5 : Fin 11) t = iblk ch m ρ c (5 : Fin 11) t := rfl
theorem after0_6 (c : Dev nD) (t : Fin (cfgA ch).N) : (dats ch m ρ 0 c).after (6 : Fin 11) t = iblk ch m ρ c (6 : Fin 11) t := rfl
theorem after0_7 (c : Dev nD) (t : Fin (cfgA ch).N) : (dats ch m ρ 0 c).after (7 : Fin 11) t = iblk ch m ρ c (7 : Fin 11) t := rfl
theorem after0_8 (c : Dev nD) (t : Fin (cfgA ch).N) : (dats ch m ρ 0 c).after (8 : Fin 11) t = (traj0 ch m ρ c t.val t.isLt).1 := rfl
theorem after0_9 (c : Dev nD) (t : Fin (cfgA ch).N) : (dats ch m ρ 0 c).after (9 : Fin 11) t = (traj0 ch m ρ c t.val t.isLt).2.1 := rfl
theorem after0_10 (c : Dev nD) (t : Fin (cfgA ch).N) : (dats ch m ρ 0 c).after (10 : Fin 11) t = (traj0 ch m ρ c t.val t.isLt).2.2.1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 11) t d = iblk ch m ρ c (0 : Fin 11) t :=
  ((dats ch m ρ 0 c).before_in_eq_fetched (0 : Fin 11) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 11) t d = iblk ch m ρ c (1 : Fin 11) t :=
  ((dats ch m ρ 0 c).before_in_eq_fetched (1 : Fin 11) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 11) t d = iblk ch m ρ c (2 : Fin 11) t :=
  ((dats ch m ρ 0 c).before_in_eq_fetched (2 : Fin 11) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 11) t d = iblk ch m ρ c (3 : Fin 11) t :=
  ((dats ch m ρ 0 c).before_in_eq_fetched (3 : Fin 11) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 11) t d = iblk ch m ρ c (4 : Fin 11) t :=
  ((dats ch m ρ 0 c).before_in_eq_fetched (4 : Fin 11) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 11) t d = iblk ch m ρ c (5 : Fin 11) t :=
  ((dats ch m ρ 0 c).before_in_eq_fetched (5 : Fin 11) rfl (fun _ => rfl) (fun _ _ _ => rfl) (fun t => by rw [after0_5]; unfold Dat.blockOf iblk; rfl) t d).trans
    (by unfold Dat.fetched Dat.blockOf iblk; rfl)

/-- Input window 6 holds its block, fetched there or not (Lib/Pipeline/FrameBody.lean `Dat.before_in_eq_fetched`). -/
theorem before0_6 (c : Dev nD) (t : Fin (cfgA ch).N) (d) : (dats ch m ρ 0 c).before (6 : Fin 11) t d = iblk ch m ρ c (6 : Fin 11) t :=
  ((dats ch m ρ 0 c).before_in_eq_fetched (6 : Fin 11) rfl (fun _ => rfl) (fun _ _ _ => rfl) (fun t => by rw [after0_6]; unfold Dat.blockOf iblk; rfl) t d).trans
    (by unfold Dat.fetched Dat.blockOf iblk; rfl)

/-- Input window 7 holds its block, fetched there or not (Lib/Pipeline/FrameBody.lean `Dat.before_in_eq_fetched`). -/
theorem before0_7 (c : Dev nD) (t : Fin (cfgA ch).N) (d) : (dats ch m ρ 0 c).before (7 : Fin 11) t d = iblk ch m ρ c (7 : Fin 11) t :=
  ((dats ch m ρ 0 c).before_in_eq_fetched (7 : Fin 11) rfl (fun _ => rfl) (fun _ _ _ => rfl) (fun t => by rw [after0_7]; unfold Dat.blockOf iblk; rfl) t d).trans
    (by unfold Dat.fetched Dat.blockOf iblk; rfl)

/-- Output 8's `after` carries through the points that leave it idle. -/
theorem hcarry0_8 (c : Dev nD) : ∀ (t : Fin (cfgA ch).N) (ht : t.val ≠ 0), (cfgA ch).idle (8 : Fin 11) ((cfgA ch).grid.coords t) = true → (cfgA ch).fresh (8 : Fin 11) t.val = false →
    (dats ch m ρ 0 c).after (8 : Fin 11) t = (dats ch m ρ 0 c).after (8 : Fin 11) ⟨t.val - 1, by omega⟩ := by
  intro t ht hi hf
  rw [after0_8, after0_8, traj0_eq]
  by_cases q0 : P0_0 ch t
  · obtain ⟨i8, -, -, -, -, -, -, -, -, -, -, -, -, -⟩ := sched0_A ch t q0
    rw [i8] at hi; exact absurd hi (by decide)
  · obtain ⟨i8, -, -, -, -, -, -, -, -, -, -, -, -, -, -, -⟩ := sched0_B ch t q0
    rw [i8] at hi; exact absurd hi (by decide)

/-- Output window 8 holds, when the body runs at `t`: junk if nothing was stored since its last write-back (`Cfg.fresh`),
    else what the point before left (TableIdle.lean `Dat.before_out_traj`). -/
theorem before0_8 (c : Dev nD) (t : Fin (cfgA ch).N) (d) :
    (dats ch m ρ 0 c).before (8 : Fin 11) t d = if (cfgA ch).fresh (8 : Fin 11) t.val then d else (prev0 ch m ρ c t).1 := by
  rw [(dats ch m ρ 0 c).before_out_traj (8 : Fin 11) rfl (fun _ _ => rfl) (hcarry0_8 ch m ρ c) t.val t rfl d]
  by_cases hf : (cfgA ch).fresh (8 : Fin 11) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_8]; unfold prev0; rw [dif_neg h0]

/-- Output 9's `after` carries through the points that leave it idle. -/
theorem hcarry0_9 (c : Dev nD) : ∀ (t : Fin (cfgA ch).N) (ht : t.val ≠ 0), (cfgA ch).idle (9 : Fin 11) ((cfgA ch).grid.coords t) = true → (cfgA ch).fresh (9 : Fin 11) t.val = false →
    (dats ch m ρ 0 c).after (9 : Fin 11) t = (dats ch m ρ 0 c).after (9 : Fin 11) ⟨t.val - 1, by omega⟩ := by
  intro t ht hi hf
  rw [after0_9, after0_9, traj0_eq]
  by_cases q0 : P0_0 ch t
  · obtain ⟨-, -, -, i9, -, -, -, -, -, -, -, -, -, -⟩ := sched0_A ch t q0
    rw [i9] at hi; exact absurd hi (by decide)
  · obtain ⟨-, -, -, i9, -, -, -, -, -, -, -, -, -, -, -, -⟩ := sched0_B ch t q0
    rw [i9] at hi; exact absurd hi (by decide)

/-- Output window 9 holds, when the body runs at `t`: junk if nothing was stored since its last write-back (`Cfg.fresh`),
    else what the point before left (TableIdle.lean `Dat.before_out_traj`). -/
theorem before0_9 (c : Dev nD) (t : Fin (cfgA ch).N) (d) :
    (dats ch m ρ 0 c).before (9 : Fin 11) t d = if (cfgA ch).fresh (9 : Fin 11) t.val then d else (prev0 ch m ρ c t).2.1 := by
  rw [(dats ch m ρ 0 c).before_out_traj (9 : Fin 11) rfl (fun _ _ => rfl) (hcarry0_9 ch m ρ c) t.val t rfl d]
  by_cases hf : (cfgA ch).fresh (9 : Fin 11) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_9]; unfold prev0; rw [dif_neg h0]

/-- Output 10's `after` carries through the points that leave it idle. -/
theorem hcarry0_10 (c : Dev nD) : ∀ (t : Fin (cfgA ch).N) (ht : t.val ≠ 0), (cfgA ch).idle (10 : Fin 11) ((cfgA ch).grid.coords t) = true → (cfgA ch).fresh (10 : Fin 11) t.val = false →
    (dats ch m ρ 0 c).after (10 : Fin 11) t = (dats ch m ρ 0 c).after (10 : Fin 11) ⟨t.val - 1, by omega⟩ := by
  intro t ht hi hf
  rw [after0_10, after0_10, traj0_eq]
  by_cases q0 : P0_0 ch t
  · obtain ⟨-, -, -, -, -, -, i10, -, -, -, -, -, -, -⟩ := sched0_A ch t q0
    rw [i10] at hi; exact absurd hi (by decide)
  · obtain ⟨-, -, -, -, -, -, i10, -, -, -, -, -, -, -, -, -⟩ := sched0_B ch t q0
    rw [i10] at hi; exact absurd hi (by decide)

/-- Output window 10 holds, when the body runs at `t`: junk if nothing was stored since its last write-back (`Cfg.fresh`),
    else what the point before left (TableIdle.lean `Dat.before_out_traj`). -/
theorem before0_10 (c : Dev nD) (t : Fin (cfgA ch).N) (d) :
    (dats ch m ρ 0 c).before (10 : Fin 11) t d = if (cfgA ch).fresh (10 : Fin 11) t.val then d else (prev0 ch m ρ c t).2.2.1 := by
  rw [(dats ch m ρ 0 c).before_out_traj (10 : Fin 11) rfl (fun _ _ => rfl) (hcarry0_10 ch m ρ c) t.val t rfl d]
  by_cases hf : (cfgA ch).fresh (10 : Fin 11) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_10]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0__body (crd ch t) (Memref.whole main_v2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 11) t d))
        ∗ (∃ d, owns (c : Thread nD τ) (ms0_1 ch t) fullShare ((dats ch m ρ 0 c).before (1 : Fin 11) t d))
        ∗ (∃ d, owns (c : Thread nD τ) (ms0_2 ch t) fullShare ((dats ch m ρ 0 c).before (2 : Fin 11) t d))
        ∗ (∃ d, owns (c : Thread nD τ) (ms0_3 ch t) fullShare ((dats ch m ρ 0 c).before (3 : Fin 11) t d))
        ∗ (∃ d, owns (c : Thread nD τ) (ms0_4 ch t) fullShare ((dats ch m ρ 0 c).before (4 : Fin 11) t d))
        ∗ (∃ d, owns (c : Thread nD τ) (ms0_5 ch t) fullShare ((dats ch m ρ 0 c).before (5 : Fin 11) t d))
        ∗ (∃ d, owns (c : Thread nD τ) (ms0_6 ch t) fullShare ((dats ch m ρ 0 c).before (6 : Fin 11) t d))
        ∗ (∃ d, owns (c : Thread nD τ) (ms0_7 ch t) fullShare ((dats ch m ρ 0 c).before (7 : Fin 11) t d))
        ∗ (∃ d, owns (c : Thread nD τ) (ms0_8 ch t) fullShare ((dats ch m ρ 0 c).before (8 : Fin 11) t d))
        ∗ (∃ d, owns (c : Thread nD τ) (ms0_9 ch t) fullShare ((dats ch m ρ 0 c).before (9 : Fin 11) t d))
        ∗ (∃ d, owns (c : Thread nD τ) (ms0_10 ch t) fullShare ((dats ch m ρ 0 c).before (10 : Fin 11) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i8, f8, fr8, i9, f9, fr9, i10, f10, fr10, sfn0, sfn1, sfn2, sfn3, sfn4⟩ := sched0_A ch t q0
    have F0 := (⟨q0, trivial⟩ : P0_0 ch t ∧ True)
    have hc0 := F0.1; have F1 := F0.2
    clear F0 F1
    rewrite [i8]
    simp only [before0_0, before0_1, before0_2, before0_3, before0_4, before0_5, before0_6, before0_7, before0_8, before0_9, before0_10, after0_0, after0_1, after0_2, after0_3, after0_4, after0_5, after0_6, after0_7, after0_8, after0_9, after0_10, f8, f9, f10]
    simp only [fr8, fr9, fr10, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, ⟨%a2, %ha2, HS2⟩, ⟨%a3, %ha3, HS3⟩, ⟨%a4, %ha4, HS4⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) hc0).2.2.2.2.2.2.2.2 a0 a1 a2 a3 a4 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [HT0]; · iexact HT0
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HT0, ⟨%e8, H8⟩, ⟨%e9, H9⟩, ⟨%e10, H10⟩, HS0, HS1, HS2, HS3, HS4⟩
    isplitl [HS0 HS1 HS2 HS3 HS4 HT0]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HS3]
      · iexists _; isplitr; swap
        · iexact HS3
        · ipureintro; intro hn; first | rfl | exact absurd hn (by first | (rw [sfn3]; decide) | decide)
      isplitl [HS4]
      · iexists _; isplitr; swap
        · iexact HS4
        · ipureintro; intro hn; first | rfl | exact absurd hn (by first | (rw [sfn4]; decide) | decide)
      iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    isplitl [H7]
    · iapply owns_of_rep; iexact H7
    isplitl [H8]
    · unfold owns; iexists _; isplitr; swap
      · iexact H8
      · ipureintro; exact View.read_writes_of_cover _ _ _ _ _ (cover0_A_8 c _ _ _ _ _ _ _ _ _ _ _ _ _ _ _ _ _ _ _ _ _ _ _ _ _ _ _ _ _ _ _ _ _)
    isplitl [H9]
    · unfold owns; iexists _; isplitr; swap
      · iexact H9
      · ipureintro; exact View.read_writes_of_cover _ _ _ _ _ (cover0_A_9 c _ _ _ _ _ _ _ _ _ _ _ _ _ _ _ _ _ _ _ _ _ _ _ _ _ _ _ _ _ _ _ _ _)
    unfold owns; iexists _; isplitr; swap
    · iexact H10
    · ipureintro; exact View.read_writes_of_cover _ _ _ _ _ (cover0_A_10 c _ _ _ _ _ _ _ _ _ _ _ _ _ _ _ _ _ _ _ _ _ _ _ _ _ _ _ _ _ _ _ _ _)
  · obtain ⟨i8, f8, fr8, i9, f9, fr9, i10, f10, fr10, sf0, sfn0, sf1, sfn1, sfn2, sfn3, sfn4⟩ := sched0_B ch t q0
    have F0 := (⟨q0, trivial⟩ : (¬P0_0 ch t) ∧ True)
    have hc0 := F0.1; have F1 := F0.2
    clear F0 F1
    rewrite [i8]
    simp only [before0_0, before0_1, before0_2, before0_3, before0_4, before0_5, before0_6, before0_7, before0_8, before0_9, before0_10, after0_0, after0_1, after0_2, after0_3, after0_4, after0_5, after0_6, after0_7, after0_8, after0_9, after0_10, f8, f9, f10]
    simp only [fr8, fr9, fr10, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_B ch m ρ c t _ q0]
    unfold Phi; simp only [prev0T_castSucc, prev0T_succ, traj0_eq, step0_B ch m ρ c t _ q0, Fin.val_castSucc, Fin.val_succ]
    simp only [exists_held sf0, exists_held sf1]
    iintro ⟨⟨HS0, HS1, ⟨%a2, %ha2, HS2⟩, ⟨%a3, %ha3, HS3⟩, ⟨%a4, %ha4, HS4⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) _ _ hc0).2.2.2.2.2.2.2.2 a2 a3 a4 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [HT0]; · iexact HT0
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HT0, ⟨%e8, H8⟩, ⟨%e9, H9⟩, ⟨%e10, H10⟩, HS0, HS1, HS2, HS3, HS4⟩
    isplitl [HS0 HS1 HS2 HS3 HS4 HT0]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HS3]
      · iexists _; isplitr; swap
        · iexact HS3
        · ipureintro; intro hn; first | rfl | exact absurd hn (by first | (rw [sfn3]; decide) | decide)
      isplitl [HS4]
      · iexists _; isplitr; swap
        · iexact HS4
        · ipureintro; intro hn; first | rfl | exact absurd hn (by first | (rw [sfn4]; decide) | decide)
      iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    isplitl [H7]
    · iapply owns_of_rep; iexact H7
    isplitl [H8]
    · unfold owns; iexists _; isplitr; swap
      · iexact H8
      · ipureintro; exact View.read_writes_of_cover _ _ _ _ _ (cover0_B_8 c _ _ _ _ _ _ _ _ _ _ _ _ _ _ _ _ _ _ _ _ _ _ _ _ _ _ _ _ _ _ _ _ _ _ _)
    isplitl [H9]
    · unfold owns; iexists _; isplitr; swap
      · iexact H9
      · ipureintro; exact View.read_writes_of_cover _ _ _ _ _ (cover0_B_9 c _ _ _ _ _ _ _ _ _ _ _ _ _ _ _ _ _ _ _ _ _ _ _ _ _ _ _ _ _ _ _ _ _ _ _)
    unfold owns; iexists _; isplitr; swap
    · iexact H10
    · ipureintro; exact View.read_writes_of_cover _ _ _ _ _ (cover0_B_10 c _ _ _ _ _ _ _ _ _ _ _ _ _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_v2) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0⟩, ⟨%a0, HS0⟩, ⟨%a1, HS1⟩, ⟨%a2, HS2⟩, ⟨%a3, HS3⟩, ⟨%a4, HS4⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HS4]
  · iexists a4; isplitr; swap
    · iexact HS4
    · ipureintro; intro h; exact absurd (h.symm.trans (show sfresh0_4 ch 0 = true from rfl)) Bool.false_ne_true
  iexact HT0

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, ⟨%a4, -, HS4⟩, -⟩
  isplitr; · iempintro
  isplitl [HS0]
  · iexists a0; iexact HS0
  isplitl [HS1]
  · iexists a1; iexact HS1
  isplitl [HS2]
  · iexists a2; iexact HS2
  isplitl [HS3]
  · iexists a3; iexact HS3
  iexists a4; iexact HS4

end Cert.KernelIdeal.Own

end
-- ==== Proof.Experts.lean ====
/- The precondition `expert_runs`, decoded: row `r` of the block map is the run `11 * e`, …, `11 * e + 10` of one expert `e`,
   and the floor division of its first entry by eleven is `e`. -/
module

public import proofs.«01_k».proof.Proof.Gen.Pre_expert_runs
public import Idealize.ShloMosaic.Lib.ValueIdx

@[expose] public section

namespace Cert.Experts

open Idealize.ShloMosaic Idealize.ShloMosaic.ValueIdx
open Cert.Pre_expert_runs

/-- The sign of a word, as the host computes it. -/
def sg (x : BitVec 32) : BitVec 32 := if x = 0 then 0 else if x.msb then -1 else 1

/-- The floor division of a word by eleven, as the host computes it: the truncating quotient, less one where the signs differ and
    the remainder is not zero. -/
def fd (x : BitVec 32) : BitVec 32 :=
  Scalar.select (IntOp.andi (IntOp.cmpi .ne (sg x) (sg 11#32)) (IntOp.cmpi .ne (IntOp.remsi .host x 11#32) 0#32))
    (IntOp.subi (IntOp.divsi .host x 11#32) 1#32) (IntOp.divsi .host x 11#32)

/-- On the numbers of the 704 feature blocks it is the quotient. -/
theorem fd_ofNat : ∀ n : Fin 704, fd (BitVec.ofNat 32 n.val) = BitVec.ofNat 32 (n.val / 11) := by decide +kernel

theorem andi_one (a b : BitVec 1) : IntOp.andi a b = 1#1 ↔ a = 1#1 ∧ b = 1#1 := by revert a b; decide

theorem ofBool_eq_one (p : Bool) : (BitVec.ofBool p = 1#1) ↔ p = true := by cases p <;> decide

/-- A word that is not negative, is below 704 and is eleven times its floor division by eleven is eleven times an expert number. -/
theorem first_word (x : BitVec 32) (h0 : IntOp.cmpi .sge x 0#32 = 1#1) (h1 : IntOp.cmpi .slt x 704#32 = 1#1)
    (h2 : IntOp.cmpi .eq x (IntOp.muli (fd x) 11#32) = 1#1) : ∃ e : Fin 64, x = BitVec.ofNat 32 (11 * e.val) ∧ fd x = BitVec.ofNat 32 e.val := by
  simp only [IntOp.cmpi, ofBool_eq_one, beq_iff_eq, BitVec.slt, BitVec.sle, decide_eq_true_eq] at h0 h1 h2
  have hx : x.toNat < 704 := by
    have hz : (0#32 : BitVec 32).toInt = 0 := by decide
    have h7 : (704#32 : BitVec 32).toInt = 704 := by decide
    rw [hz, BitVec.toInt_eq_toNat_cond] at h0
    rw [h7, BitVec.toInt_eq_toNat_cond] at h1
    have := x.isLt
    split at h0 <;> split at h1 <;> omega
  have ex : x = BitVec.ofNat 32 x.toNat := by simp
  have hf := fd_ofNat ⟨x.toNat, hx⟩
  simp only [← ex] at hf
  refine ⟨⟨x.toNat / 11, by omega⟩, ?_, hf⟩
  rw [hf] at h2
  have h3 := congrArg BitVec.toNat h2
  simp only [IntOp.muli, BitVec.toNat_mul, BitVec.toNat_ofNat] at h3
  apply BitVec.eq_of_toNat_eq
  simp only [BitVec.toNat_ofNat]
  omega

/-- The printed floor division at an index. -/
theorem floor_divide_apply {F : FTy → Type} [FloatOps F] (x : IVec S448x1 32) (i : S448x1.Idx) :
    fn_floor_divide (F := F) x (constantI S_ 32 11#32) i = fd (x i) := rfl

/-- Every row of the block map is the run of one expert. -/
theorem runs {F : FTy → Type} [FloatOps F] (a0 : FVec F S57344x2048 .fp8e4m3) (a1 : FVec F S57344x16 .f32) (a2 : FVec F S2048x90112 .fp8e4m3)
    (a3 : FVec F S16x704 .f32) (a4 : FVec F S90112x2048 .fp8e4m3) (a5 : FVec F S704x16 .f32) (a6 : IVec S448x11 32)
    (a7 : FVec F S57344x2048 .fp8e5m2) (a8 : FVec F S57344x16 .f32)
    (h : fn (F := F) a0 a1 a2 a3 a4 a5 a6 a7 a8 = fun _ => 1#1) (r : Fin 448) :
    ∃ e : Fin 64, fd (a6 (ix2 r 0)) = BitVec.ofNat 32 e.val ∧ ∀ k : Fin 11, a6 (ix2 r k) = BitVec.ofNat 32 (11 * e.val + k.val) := by
  have first (i : S448x1.Idx) : extractStridedSlice S448x1 ![0, 0] a6 Facts.slices_S448x11_S448x1_0_0 i = a6 (ix2 (i 0) 0) := by
    unfold extractStridedSlice
    congr 1
    funext a
    have h1 : (i 1).val < 1 := (i 1).isLt
    fin_cases a
    · exact Fin.ext (Nat.zero_add _)
    · exact Fin.ext (by show 0 + (i 1).val = 0; omega)
  have pre := fun k : Fin 11 => congrFun h (ix2 r k)
  simp only [fn, andi, andi_one, cmpi, broadcastInDim, addi, constantI, muli, iotaInDim] at pre
  have at_k (k : Fin 11) : ((IntOp.cmpi .sge (a6 (ix2 r 0)) 0#32 = 1#1 ∧ IntOp.cmpi .slt (a6 (ix2 r 0)) 704#32 = 1#1)
      ∧ IntOp.cmpi .eq (a6 (ix2 r 0)) (IntOp.muli (fd (a6 (ix2 r 0))) 11#32) = 1#1)
      ∧ IntOp.cmpi .eq (a6 (ix2 r k)) (IntOp.addi (a6 (ix2 r 0)) (BitVec.ofNat 32 k.val)) = 1#1 := by
    have p := pre k
    rw [floor_divide_apply] at p
    simp only [first] at p
    exact p
  obtain ⟨e, he, hf⟩ := first_word (a6 (ix2 r 0)) (at_k 0).1.1.1 (at_k 0).1.1.2 (at_k 0).1.2
  refine ⟨e, hf, fun k => ?_⟩
  have hk := (at_k k).2
  simp only [IntOp.cmpi, ofBool_eq_one, beq_iff_eq, IntOp.addi] at hk
  rw [hk, he, BitVec.ofNat_add]

end Cert.Experts
-- ==== Proof.Ideal.Host.lean ====
/- The host lines before the region: which arrays they leave alone, what they compute of the three arrays they hand to
   the region, and that the precondition makes every word of the prefetched table an expert number. -/
module

public import proofs.«01_k».proof.Proof.Ideal.Table
public import proofs.«01_k».proof.Proof.Experts
public import Idealize.ShloMosaic.Lib.Pipeline.Value

@[expose] public section

set_option maxRecDepth 16384
-- one declaration at a time, so that what a large run needs is freed before the next begins
set_option Elab.async false

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the certificate. -/
local notation "𝕄" => MT nD τ sig Unit (Elt Ideal) ℕ (UR sig nD τ) ℕ

variable (m : (ℓ : Loc nD τ sig) → Buf (Elt Ideal) ℓ) (ρ : Dev nD → PrngReg)

/-- The host lines before the region. -/
abbrev hostAll : List (List (HloOp τ sig (Elt Ideal))) := [hostOps0, hostOps0_1, hostOps0_2]

/-- The memory the region starts from: the launch memory after the host lines. -/
def mV (m : (ℓ : Loc nD τ sig) → Buf (Elt Ideal) ℓ) : (ℓ : Loc nD τ sig) → Buf (Elt Ideal) ℓ := fun ℓ =>
  StableHlo.after hostAll.flatten (fun b => m (ℓ.1, b)) ℓ.2

theorem hostOps0_fresh : (hostOps0 : List (HloOp τ sig (Elt Ideal))).Forall fun op => op.fresh = ∅ := by
  simp only [List.Forall]; repeat' constructor
theorem hostOps0_1_fresh : (hostOps0_1 : List (HloOp τ sig (Elt Ideal))).Forall fun op => op.fresh = ∅ := by
  simp only [List.Forall]; repeat' constructor
theorem hostOps0_2_fresh : (hostOps0_2 : List (HloOp τ sig (Elt Ideal))).Forall fun op => op.fresh = ∅ := by
  simp only [List.Forall]; repeat' constructor

/-- @main: the host lines, then the region at what they leave. -/
theorem hmain : Pipeline.HMainPK (Ix := Unit) (Name := ℕ) (U := UR sig nD τ) (Lvl := ℕ) (pcfgs (F := Ideal)) (0 : Fin 1) defs₀ Variants.none m (main (F := Ideal))
      (fun c b => StableHlo.after hostAll.flatten (fun b => m (c, b)) b) (fun _ => Pipeline.chain (([] : List (List (HloOp τ sig (Elt Ideal)))).map StableHlo.seq)) :=
  Pipeline.hmainP_around (pcfgs (F := Ideal)) 0 defs₀ Variants.none m main hostAll [] (by simp only [List.Forall]; exact ⟨hostOps0_sub, hostOps0_1_sub, hostOps0_2_sub⟩)
    (by simp only [List.Forall]; exact ⟨hostOps0_fresh, hostOps0_1_fresh, hostOps0_2_fresh⟩) main_chain

/-! ## The arguments are not written by the host lines -/

set_option maxHeartbeats 4000000 in
theorem mV_arg0 (c : Dev nD) : mV m ((c : Thread nD τ).loc main_arg0) = m ((c : Thread nD τ).loc main_arg0) := by
  simp only [mV, hostAll, hostOps0, hostOps0_1, hostOps0_2, List.flatten_cons, List.flatten_nil, List.cons_append, List.nil_append]; after_results
theorem mV_arg1 (c : Dev nD) : mV m ((c : Thread nD τ).loc main_arg1) = m ((c : Thread nD τ).loc main_arg1) := by
  simp only [mV, hostAll, hostOps0, hostOps0_1, hostOps0_2, List.flatten_cons, List.flatten_nil, List.cons_append, List.nil_append]; after_results
theorem mV_arg2 (c : Dev nD) : mV m ((c : Thread nD τ).loc main_arg2) = m ((c : Thread nD τ).loc main_arg2) := by
  simp only [mV, hostAll, hostOps0, hostOps0_1, hostOps0_2, List.flatten_cons, List.flatten_nil, List.cons_append, List.nil_append]; after_results
theorem mV_arg3 (c : Dev nD) : mV m ((c : Thread nD τ).loc main_arg3) = m ((c : Thread nD τ).loc main_arg3) := by
  simp only [mV, hostAll, hostOps0, hostOps0_1, hostOps0_2, List.flatten_cons, List.flatten_nil, List.cons_append, List.nil_append]; after_results
theorem mV_arg4 (c : Dev nD) : mV m ((c : Thread nD τ).loc main_arg4) = m ((c : Thread nD τ).loc main_arg4) := by
  simp only [mV, hostAll, hostOps0, hostOps0_1, hostOps0_2, List.flatten_cons, List.flatten_nil, List.cons_append, List.nil_append]; after_results
theorem mV_arg5 (c : Dev nD) : mV m ((c : Thread nD τ).loc main_arg5) = m ((c : Thread nD τ).loc main_arg5) := by
  simp only [mV, hostAll, hostOps0, hostOps0_1, hostOps0_2, List.flatten_cons, List.flatten_nil, List.cons_append, List.nil_append]; after_results
theorem mV_arg6 (c : Dev nD) : mV m ((c : Thread nD τ).loc main_arg6) = m ((c : Thread nD τ).loc main_arg6) := by
  simp only [mV, hostAll, hostOps0, hostOps0_1, hostOps0_2, List.flatten_cons, List.flatten_nil, List.cons_append, List.nil_append]; after_results
theorem mV_arg7 (c : Dev nD) : mV m ((c : Thread nD τ).loc main_arg7) = m ((c : Thread nD τ).loc main_arg7) := by
  simp only [mV, hostAll, hostOps0, hostOps0_1, hostOps0_2, List.flatten_cons, List.flatten_nil, List.cons_append, List.nil_append]; after_results
theorem mV_arg8 (c : Dev nD) : mV m ((c : Thread nD τ).loc main_arg8) = m ((c : Thread nD τ).loc main_arg8) := by
  simp only [mV, hostAll, hostOps0, hostOps0_1, hostOps0_2, List.flatten_cons, List.flatten_nil, List.cons_append, List.nil_append]; after_results

/-! ## What the host lines compute -/

/-- The first column of the block map, as a vector. -/
theorem first_col (x : IVec S448x11 32) (i : S448.Idx) :
    shapeCast S448 (extractStridedSlice S448x1 ![0, 0] x slices_S448x11_S448x1_0_0) shapeCasts_S448x1_S448 i = x (ValueIdx.ix2 (i 0) 0) := by
  refine (shapeCast_apply _ _ i (ValueIdx.ix2 (i 0) 0) ?_).trans ?_
  · rw [Shape.rowMajor_val_two, Shape.rowMajor_val_one]
    show (i 0).val * 1 + 0 = (i 0).val
    omega
  · unfold extractStridedSlice
    congr 1
    funext a
    fin_cases a
    · exact Fin.ext (Nat.zero_add _)
    · exact Fin.ext rfl

/-- The table the region prefetches: the first column of the block map, divided by eleven. -/
theorem mV_v2 (c : Dev nD) : mV m ((c : Thread nD τ).loc main_v2)
    = fun i => Experts.fd (m ((c : Thread nD τ).loc main_arg6) (ValueIdx.ix2 (i 0) 0)) := by
  simp only [mV, hostAll, hostOps0, hostOps0_1, hostOps0_2, List.flatten_cons, List.flatten_nil, List.cons_append, List.nil_append]; after_results
  funext i
  simp only [StableHlo.TRef.ofBuf_toBuf]
  refine Eq.trans ?_ (congrArg Experts.fd (first_col _ i))
  rfl

/-- The precondition says the table's words are expert numbers, and each row of the block map is the run of its row's word. -/
theorem pinned_of_pre (h : Cert.Pre_KernelIdeal m) : ∃ ch : Tab, Pinned ch (mV m) ∧ ∀ (c : Dev nD) (r : Fin 448) (k : Fin 11),
    m ((c : Thread nD τ).loc main_arg6) (ValueIdx.ix2 r k) = BitVec.ofNat 32 (11 * (ch.1 (ValueIdx.ix1 r)).toNat + k.val) := by
  have hr := fun (c : Dev nD) (r : Fin 448) => Experts.runs _ _ _ _ _ _ _ _ _ (h c) r
  have hw : ∀ (c : Dev nD) (x : S448.Idx), (mV m ((c : Thread nD τ).loc main_v2) x).toNat < 64 := by
    intro c x
    obtain ⟨e, he, -⟩ := hr c (x 0)
    have e1 := congrFun (mV_v2 m c) x
    rw [e1]
    show (Experts.fd _).toNat < 64
    erw [he]
    rw [BitVec.toNat_ofNat]
    have := e.isLt
    omega
  refine ⟨⟨mV m (((0 : Dev nD) : Thread nD τ).loc main_v2), hw 0⟩, ?_, ?_⟩
  · intro c
    obtain rfl : c = 0 := Subsingleton.elim _ _
    rfl
  · intro c r k
    obtain rfl : c = 0 := Subsingleton.elim _ _
    obtain ⟨e, he, hk⟩ := hr 0 r
    have e1 := congrFun (mV_v2 m 0) (ValueIdx.ix1 r)
    have e2 : (mV m (((0 : Dev nD) : Thread nD τ).loc main_v2) (ValueIdx.ix1 r)).toNat = e.val := by
      rw [e1]
      show (Experts.fd _).toNat = e.val
      erw [he]
      rw [BitVec.toNat_ofNat]
      have := e.isLt
      omega
    show _ = BitVec.ofNat 32 (11 * (mV m (((0 : Dev nD) : Thread nD τ).loc main_v2) (ValueIdx.ix1 r)).toNat + k.val)
    rw [e2]
    exact hk k

end Cert.KernelIdeal.Own

end
-- ==== Proof.Ideal.Frame.lean ====
/- The launch: the region at the table the host lines leave, and the frame: every weakly fair execution ends, every
   argument array ends unchanged and every semaphore counter at zero. -/
module

public import proofs.«01_k».proof.Proof.Ideal.Run
public import proofs.«01_k».proof.Proof.Ideal.Host

@[expose] public section

set_option maxRecDepth 16384
-- one declaration at a time, so that what a large run needs is freed before the next begins
set_option Elab.async false

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the certificate. -/
local notation "𝕄" => MT nD τ sig Unit (Elt Ideal) ℕ (UR sig nD τ) ℕ

variable (ch : Tab)
variable (m : (ℓ : Loc nD τ sig) → Buf (Elt Ideal) ℓ) (ρ : Dev nD → PrngReg)

/-! ## The run -/

/-- The final state: every window's array at what the pipeline computes, and the three arguments no window reads unchanged. -/
def QC : PUnit × MemSt nD τ sig (Elt Ideal) → Prop := fun r =>
  ∀ c : Dev nD, (∀ w : Fin (cfgA ch).W, r.2.mem (((cfgA ch).win w).arr.view.loc (c : Thread nD τ)) = (dats ch (mV m) ρ 0 c).arrAt w (cfgA ch).N)
    ∧ r.2.mem ((c : Thread nD τ).loc main_arg3) = m ((c : Thread nD τ).loc main_arg3)
    ∧ r.2.mem ((c : Thread nD τ).loc main_arg5) = m ((c : Thread nD τ).loc main_arg5)
    ∧ r.2.mem ((c : Thread nD τ).loc main_arg6) = m ((c : Thread nD τ).loc main_arg6)

theorem V_pre (hp : Pinned ch (mV m)) (c : Dev nD) (j : Fin 1) : mV m ((c : Thread nD τ).loc (pre0.ref j)) = (adm ch).1 j := by
  fin_cases j
  · exact hp c

set_option backward.isDefEq.respectTransparency.types false in
set_option maxHeartbeats 4000000 in
/-- From any memory whose host lines leave the table: every weakly fair execution ends, in a state as `QC` says, with every
    semaphore counter at zero. -/
theorem run_main_quiescent (hp : Pinned ch (mV m)) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch (mV m) ρ) () ((launch0 (F := Ideal)).cellOf_inj fun _ => adm ch) (0 : Fin 1)
    (launch0 (F := Ideal)).win.to₀ (launch0 (F := Ideal)).pre EP defs₀ Variants.none m ρ main
    (hbody := fun c => (body_obligation ch (mV m) ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => mV m ((c : Thread nD τ).loc b))
    (hmain := hmain m)
    (hsplit := fun c => Pipeline.arrays_split (pcs ch) (dats ch (mV m) ρ) 0 (launch0 (F := Ideal)).win.arr_inj c (launch0 (F := Ideal)).arr_whole
      (share_eq ch (mV m) ρ c) _ _ fun _ => rfl)
    (hpf := V_pre ch m hp)
    (X := fun _ => iprop(emp)) (Y := fun _ => iprop(emp))
    (Z := fun c => iprop((((c : Thread nD τ).loc main_arg3) ↦{fullShare} mV m ((c : Thread nD τ).loc main_arg3))
      ∗ (((c : Thread nD τ).loc main_arg5) ↦{fullShare} mV m ((c : Thread nD τ).loc main_arg5))
      ∗ (((c : Thread nD τ).loc main_arg6) ↦{fullShare} mV m ((c : Thread nD τ).loc main_arg6))))
    (hX := fun c => by
      rw [unscopedRestP0_eq]; iintro ⟨H3, H5, H6, -⟩
      isplitr; · iempintro
      isplitl [H3]; · iexact H3
      isplitl [H5]; · iexact H5
      iexact H6)
    (hin := phi0_intro ch (mV m) ρ)
    (hout := phiN_exit ch (mV m) ρ)
    (QY := fun c s => s.mem ((c : Thread nD τ).loc main_arg3) = m ((c : Thread nD τ).loc main_arg3)
      ∧ s.mem ((c : Thread nD τ).loc main_arg5) = m ((c : Thread nD τ).loc main_arg5)
      ∧ s.mem ((c : Thread nD τ).loc main_arg6) = m ((c : Thread nD τ).loc main_arg6))
    (hY := fun c s' => by
      iintro ⟨-, ⟨H3, H5, H6⟩, HSI⟩
      icombine HSI H3 gives %h3
      icombine HSI H5 gives %h5
      icombine HSI H6 gives %h6
      imodintro
      isplitr
      · ipureintro
        exact ⟨(Buf.eq_of_forall_mem_univ h3).trans (mV_arg3 m c), (Buf.eq_of_forall_mem_univ h5).trans (mV_arg5 m c), (Buf.eq_of_forall_mem_univ h6).trans (mV_arg6 m c)⟩
      iexact HSI)
    (hQ := fun _ h hz => ⟨fun c => ⟨(h c).1, (h c).2.2⟩, hz⟩)

/-- The frame: from any memory whose host lines leave the table, every weakly fair execution ends with every argument array
    unchanged and every semaphore counter at zero. -/
theorem frame (hp : Pinned ch (mV m)) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨(((h.1 c).1 (0 : Fin 11)).trans ((dats ch (mV m) ρ 0 c).arrAt_in (0 : Fin 11) rfl _)).trans (mV_arg0 m c),
     (((h.1 c).1 (1 : Fin 11)).trans ((dats ch (mV m) ρ 0 c).arrAt_in (1 : Fin 11) rfl _)).trans (mV_arg1 m c),
     (((h.1 c).1 (2 : Fin 11)).trans ((dats ch (mV m) ρ 0 c).arrAt_in (2 : Fin 11) rfl _)).trans (mV_arg2 m c),
     (h.1 c).2.1,
     (((h.1 c).1 (3 : Fin 11)).trans ((dats ch (mV m) ρ 0 c).arrAt_in (3 : Fin 11) rfl _)).trans (mV_arg4 m c),
     (h.1 c).2.2.1, (h.1 c).2.2.2,
     (((h.1 c).1 (6 : Fin 11)).trans ((dats ch (mV m) ρ 0 c).arrAt_in (6 : Fin 11) rfl _)).trans (mV_arg7 m c),
     (((h.1 c).1 (7 : Fin 11)).trans ((dats ch (mV m) ρ 0 c).arrAt_in (7 : Fin 11) rfl _)).trans (mV_arg8 m c)⟩, h.2⟩)
    (run_main_quiescent ch m ρ hp)

end Cert.KernelIdeal.Own

end
-- ==== Proof.Bits.Table.lean ====
/- The prefetched table: any 448 block indices below 64 (`Tab`). The pipeline at such a table (every weight block inside
   its array), a point's coordinates and staging buffers, the branch the body takes there, and the schedule's facts:
   every output is written back at every point. -/
module

public import proofs.«01_k».proof.Defs
public import proofs.«01_k».proof.Proof.Gen.Kernel
public import proofs.«01_k».proof.Proof.Gen.Kernel.Launch
public import proofs.«01_k».proof.Proof.Gen.Kernel.Skeleton
public import proofs.«01_k».proof.Proof.Gen.Kernel.Loops
public import Idealize.ShloMosaic.Lib.Pipeline.Quiescent
public import Idealize.ShloMosaic.Lib.Pipeline.FrameSuffix
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- one declaration at a time, so that what a large run needs is freed before the next begins
set_option Elab.async false

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the certificate. -/
local notation "𝕄" => MT nD τ sig Unit (Elt Bits) ℕ (UR sig nD τ) ℕ

/-- The tables and scratches the kernel is handed, whole, at their literal types. -/
abbrev tbM0_0 : Memref sig .tc .smem S448 .i32 := Memref.whole main_v2
abbrev scM0_0 : Memref sig .tc .vmem S2048x1408 .bf16 := Memref.whole cc0_scratch0
abbrev scM0_1 : Memref sig .tc .vmem S1408x2048 .bf16 := Memref.whole cc0_scratch1
abbrev scM0_2 : Memref sig .tc .vmem S128x2048 .bf16 := Memref.whole cc0_scratch2
abbrev scM0_3 : Memref sig .tc .vmem S128x2048 .bf16 := Memref.whole cc0_scratch3
abbrev scM0_4 : Memref sig .tc .vmem S128x1408 .bf16 := Memref.whole cc0_scratch4

/-- A table of block indices: one expert per row block, each below 64. -/
abbrev Tab := {T : S448.Idx → BitVec 32 // ∀ x, (T x).toNat < 64}

variable (ch : Tab)

/-- The table's words. -/
def pinT_0 (ch : Tab) : S448.Idx → BitVec 32 := ch.1

set_option backward.proofsInPublic true in
/-- The prefetched contents at the table. -/
def pfN : pre0.Contents (Elt Bits) := fun | ⟨0, _⟩ => pinT_0 ch | ⟨_ + 1, h⟩ => absurd h (by simp)

/-- A block inside its array, coordinate by coordinate. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The memory the region starts from holds the table. -/
def Pinned (m : (ℓ : Loc nD τ sig) → Buf (Elt Bits) ℓ) : Prop :=
  (∀ c : Dev nD, m ((c : Thread nD τ).loc main_v2) = pinT_0 ch)

/-! ## The weight blocks lie inside their arrays -/

theorem at_lt (r : Rect S448) (h : r.shape.numel = 1) : ((pfN ch).at 0 r h).toNat < 64 := ch.2 _

theorem ok_2 (i : grid0.Coords) : ∀ a, (cc0_transform_2 k0_off1_inb numel1_S1 (pfN ch) i a + 1) * S2048x1408.size a ≤ S2048x90112.size a := by
  refine okcons (by decide) (okcons (n := 0) ?_ (fun a => a.elim0))
  have := at_lt ch (Rect.unit (s := S448) ![(Scalar.indexCast (BitVec.ofNat 32 (i 0).val)).toNat] S1.size (k0_off1_inb i)) numel1_S1
  omega
theorem ok_3 (i : grid0.Coords) : ∀ a, (cc0_transform_3 k0_off1_inb numel1_S1 (pfN ch) i a + 1) * S1408x2048.size a ≤ S90112x2048.size a := by
  refine okcons ?_ (okcons (n := 0) (by decide) (fun a => a.elim0))
  have := at_lt ch (Rect.unit (s := S448) ![(Scalar.indexCast (BitVec.ofNat 32 (i 0).val)).toNat] S1.size (k0_off1_inb i)) numel1_S1
  omega
theorem ok_4 (i : grid0.Coords) : ∀ a, (cc0_transform_4 k0_off1_inb numel1_S1 (pfN ch) i a + 1) * S1x16x11.size a ≤ S64x16x11.size a := by
  refine okcons ?_ (okcons (by decide) (okcons (n := 0) (by decide) (fun a => a.elim0)))
  have := at_lt ch (Rect.unit (s := S448) ![(Scalar.indexCast (BitVec.ofNat 32 (i 0).val)).toNat] S1.size (k0_off1_inb i)) numel1_S1
  omega
theorem ok_5 (i : grid0.Coords) : ∀ a, (cc0_transform_5 k0_off1_inb numel1_S1 (pfN ch) i a + 1) * S1x11x16.size a ≤ S64x11x16.size a := by
  refine okcons ?_ (okcons (by decide) (okcons (n := 0) (by decide) (fun a => a.elim0)))
  have := at_lt ch (Rect.unit (s := S448) ![(Scalar.indexCast (BitVec.ofNat 32 (i 0).val)).toNat] S1.size (k0_off1_inb i)) numel1_S1
  omega

/-- The pipeline's side condition at the table. -/
theorem ok_pfN : ok0 (F := Bits) (pfN ch) :=
  ⟨fun i => ⟨ok_2 ch i, .inr (Affine.block_words_dvd (s := S2048x90112) (p := EltTy.packing .fp8e4m3) (by decide) (by decide))⟩,
   fun i => ⟨ok_3 ch i, .inr (Affine.block_words_dvd (s := S90112x2048) (p := EltTy.packing .fp8e4m3) (by decide) (by decide))⟩,
   fun i => ⟨ok_4 ch i, .inl rfl⟩, fun i => ⟨ok_5 ch i, .inl rfl⟩⟩

/-- The admissible contents, the pipeline at them, as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S128x2048 .fp8e4m3 := spec0_0.stage ((cfgA ch).slots t (0 : Fin 11))
abbrev hs0_0 (t : Fin (cfgA ch).N) : (ms0_0 ch t).IsWhole := hstage0_0 (((cfgA ch).slots t (0 : Fin 11)).cast nbuf0_0)
abbrev ms0_1 (t : Fin (cfgA ch).N) : Memref sig .tc .vmem S128x16 .f32 := spec0_1.stage ((cfgA ch).slots t (1 : Fin 11))
abbrev hs0_1 (t : Fin (cfgA ch).N) : (ms0_1 ch t).IsWhole := hstage0_1 (((cfgA ch).slots t (1 : Fin 11)).cast nbuf0_1)
abbrev ms0_2 (t : Fin (cfgA ch).N) : Memref sig .tc .vmem S2048x1408 .fp8e4m3 := spec0_2.stage ((cfgA ch).slots t (2 : Fin 11))
abbrev hs0_2 (t : Fin (cfgA ch).N) : (ms0_2 ch t).IsWhole := hstage0_2 (((cfgA ch).slots t (2 : Fin 11)).cast nbuf0_2)
abbrev ms0_3 (t : Fin (cfgA ch).N) : Memref sig .tc .vmem S1408x2048 .fp8e4m3 := spec0_3.stage ((cfgA ch).slots t (3 : Fin 11))
abbrev hs0_3 (t : Fin (cfgA ch).N) : (ms0_3 ch t).IsWhole := hstage0_3 (((cfgA ch).slots t (3 : Fin 11)).cast nbuf0_3)
abbrev ms0_4 (t : Fin (cfgA ch).N) : Memref sig .tc .vmem S1x16x11 .f32 := spec0_4.stage ((cfgA ch).slots t (4 : Fin 11))
abbrev hs0_4 (t : Fin (cfgA ch).N) : (ms0_4 ch t).IsWhole := hstage0_4 (((cfgA ch).slots t (4 : Fin 11)).cast nbuf0_4)
abbrev ms0_5 (t : Fin (cfgA ch).N) : Memref sig .tc .vmem S1x11x16 .f32 := spec0_5.stage ((cfgA ch).slots t (5 : Fin 11))
abbrev hs0_5 (t : Fin (cfgA ch).N) : (ms0_5 ch t).IsWhole := hstage0_5 (((cfgA ch).slots t (5 : Fin 11)).cast nbuf0_5)
abbrev ms0_6 (t : Fin (cfgA ch).N) : Memref sig .tc .vmem S128x2048 .fp8e5m2 := spec0_6.stage ((cfgA ch).slots t (6 : Fin 11))
abbrev hs0_6 (t : Fin (cfgA ch).N) : (ms0_6 ch t).IsWhole := hstage0_6 (((cfgA ch).slots t (6 : Fin 11)).cast nbuf0_6)
abbrev ms0_7 (t : Fin (cfgA ch).N) : Memref sig .tc .vmem S128x16 .f32 := spec0_7.stage ((cfgA ch).slots t (7 : Fin 11))
abbrev hs0_7 (t : Fin (cfgA ch).N) : (ms0_7 ch t).IsWhole := hstage0_7 (((cfgA ch).slots t (7 : Fin 11)).cast nbuf0_7)
abbrev ms0_8 (t : Fin (cfgA ch).N) : Memref sig .tc .vmem S128x2048 .bf16 := spec0_8.stage ((cfgA ch).slots t (8 : Fin 11))
abbrev hs0_8 (t : Fin (cfgA ch).N) : (ms0_8 ch t).IsWhole := hstage0_8 (((cfgA ch).slots t (8 : Fin 11)).cast nbuf0_8)
abbrev ms0_9 (t : Fin (cfgA ch).N) : Memref sig .tc .vmem S128x1408 .fp8e5m2 := spec0_9.stage ((cfgA ch).slots t (9 : Fin 11))
abbrev hs0_9 (t : Fin (cfgA ch).N) : (ms0_9 ch t).IsWhole := hstage0_9 (((cfgA ch).slots t (9 : Fin 11)).cast nbuf0_9)
abbrev ms0_10 (t : Fin (cfgA ch).N) : Memref sig .tc .vmem S128x11 .f32 := spec0_10.stage ((cfgA ch).slots t (10 : Fin 11))
abbrev hs0_10 (t : Fin (cfgA ch).N) : (ms0_10 ch t).IsWhole := hstage0_10 (((cfgA ch).slots t (10 : Fin 11)).cast nbuf0_10)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.ori (Scalar.cmpi .eq (BitVec.ofNat 32 ((crd ch t) 0).val) 0#32) (Scalar.cmpi .ne (View.readAt (Elt Bits) (tbM0_0).view (Rect.unit (s := S448) (k0_off1 (crd ch t)) S1.size (k0_off1_inb (crd ch t))).toLoadRect (pinT_0 ch) (Shape.Idx.first (numel1_S1.symm ▸ Nat.one_pos))) (View.readAt (Elt Bits) (tbM0_0).view (Rect.unit (s := S448) (k0_off2 (crd ch t)) S1.size (k0_off2_inb (crd ch t))).toLoadRect (pinT_0 ch) (Shape.Idx.first (numel1_S1.symm ▸ Nat.one_pos)))))) 0#32) = 1#1

/-! ## Whether a scratch buffer holds nothing a point has determined: only before the first point, which stores every one whole -/

def sfresh0_0 (_ : Tab) : ℕ → Bool
  | 0 => true
  | _ + 1 => false
def sfresh0_1 (_ : Tab) : ℕ → Bool
  | 0 => true
  | _ + 1 => false
def sfresh0_2 (_ : Tab) : ℕ → Bool
  | 0 => true
  | _ + 1 => false
def sfresh0_3 (_ : Tab) : ℕ → Bool
  | 0 => true
  | _ + 1 => false
def sfresh0_4 (_ : Tab) : ℕ → Bool
  | 0 => true
  | _ + 1 => false

/-! ## The schedule: the branch taken at the first point, and what is written back where -/

theorem crd_val (t : Fin (cfgA ch).N) : ((crd ch t) 0).val = t.val := by
  have h : ∀ t : Fin grid0.N, (grid0.coords t 0).val = t.val := fun t =>
    (Pipeline.Grid.coords_val (G := grid0) t 0 (S := 1) (B := 448) (by decide) rfl).trans
      (by have := t.isLt; have hN : grid0.N = 448 := by decide
          omega)
  exact h t

theorem first_true : ∀ z : BitVec 1, Scalar.cmpi .ne (Scalar.extui (Scalar.ori (Scalar.cmpi .eq (BitVec.ofNat 32 0) 0#32) z)) 0#32 = 1#1 := by decide

/-- The body refreshes the weights at the first point. -/
theorem P0_zero (t : Fin (cfgA ch).N) (h : t.val = 0) : P0_0 ch t := by
  have h0 : ((crd ch t) 0).val = 0 := (crd_val ch t).trans h
  simp only [P0_0, h0]
  exact first_true _

theorem sfr0 : ∀ n, n ≤ (cfgA ch).N → n ≠ 0 → sfresh0_0 ch n = false
  | 0, _, h => absurd rfl h
  | _ + 1, _, _ => rfl
theorem sfr1 : ∀ n, n ≤ (cfgA ch).N → n ≠ 0 → sfresh0_1 ch n = false
  | 0, _, h => absurd rfl h
  | _ + 1, _, _ => rfl
theorem sfr2 (t : Fin (cfgA ch).N) : sfresh0_2 ch (t.val + 1) = false := rfl
theorem sfr3 (t : Fin (cfgA ch).N) : sfresh0_3 ch (t.val + 1) = false := rfl
theorem sfr4 (t : Fin (cfgA ch).N) : sfresh0_4 ch (t.val + 1) = false := rfl

theorem sep_8 : ∀ i i' : grid0.Coords, cc0_transform_8 i = cc0_transform_8 i' → i 0 = i' 0 := by
  intro i i' h
  have h0 : (BitVec.ofNat 32 (i 0).val).toNat = (BitVec.ofNat 32 (i' 0).val).toNat := congrFun h 0
  have h1 : (i 0).val < 448 := (i 0).isLt
  have h2 : (i' 0).val < 448 := (i' 0).isLt
  rw [BitVec.toNat_ofNat, BitVec.toNat_ofNat, Nat.mod_eq_of_lt (by omega), Nat.mod_eq_of_lt (by omega)] at h0
  exact Fin.ext h0

theorem flush_8 (t : Fin (cfgA ch).N) : ((cfgA ch).win (8 : Fin 11)).flush t = true :=
  (Pipeline.Window.flush_reads ((cfgA ch).win (8 : Fin 11)) rfl 0 (show 1 < grid0.bound 0 by decide) (show grid0.fixedAfter reads0_8 0 = true by decide) sep_8 (P := 1) (m := 0) (show grid0.stride 0 = 1 by decide) rfl t).mpr (Nat.mod_one _)
theorem flush_9 (t : Fin (cfgA ch).N) : ((cfgA ch).win (9 : Fin 11)).flush t = true :=
  (Pipeline.Window.flush_reads ((cfgA ch).win (9 : Fin 11)) rfl 0 (show 1 < grid0.bound 0 by decide) (show grid0.fixedAfter reads0_9 0 = true by decide) sep_8 (P := 1) (m := 0) (show grid0.stride 0 = 1 by decide) rfl t).mpr (Nat.mod_one _)
theorem flush_10 (t : Fin (cfgA ch).N) : ((cfgA ch).win (10 : Fin 11)).flush t = true :=
  (Pipeline.Window.flush_reads ((cfgA ch).win (10 : Fin 11)) rfl 0 (show 1 < grid0.bound 0 by decide) (show grid0.fixedAfter reads0_10 0 = true by decide) sep_8 (P := 1) (m := 0) (show grid0.stride 0 = 1 by decide) rfl t).mpr (Nat.mod_one _)

theorem fresh_8 (t : Fin (cfgA ch).N) : (cfgA ch).fresh (8 : Fin 11) t.val = true :=
  Pipeline.Cfg.fresh_tab (cfgA ch) (8 : Fin 11) (fun _ => true) rfl (fun t => by rw [flush_8, Bool.true_or]) t.val (Nat.le_of_lt t.isLt)
theorem fresh_9 (t : Fin (cfgA ch).N) : (cfgA ch).fresh (9 : Fin 11) t.val = true :=
  Pipeline.Cfg.fresh_tab (cfgA ch) (9 : Fin 11) (fun _ => true) rfl (fun t => by rw [flush_9, Bool.true_or]) t.val (Nat.le_of_lt t.isLt)
theorem fresh_10 (t : Fin (cfgA ch).N) : (cfgA ch).fresh (10 : Fin 11) t.val = true :=
  Pipeline.Cfg.fresh_tab (cfgA ch) (10 : Fin 11) (fun _ => true) rfl (fun t => by rw [flush_10, Bool.true_or]) t.val (Nat.le_of_lt t.isLt)

/-- The schedule at a point that refreshes the weights. -/
theorem sched0_A (t : Fin (cfgA ch).N) (q : P0_0 ch t) :
    (cfgA ch).idle (8 : Fin 11) ((cfgA ch).grid.coords t) = false ∧ ((cfgA ch).win (8 : Fin 11)).flush t = true ∧ (cfgA ch).fresh (8 : Fin 11) t.val = true
    ∧ (cfgA ch).idle (9 : Fin 11) ((cfgA ch).grid.coords t) = false ∧ ((cfgA ch).win (9 : Fin 11)).flush t = true ∧ (cfgA ch).fresh (9 : Fin 11) t.val = true
    ∧ (cfgA ch).idle (10 : Fin 11) ((cfgA ch).grid.coords t) = false ∧ ((cfgA ch).win (10 : Fin 11)).flush t = true ∧ (cfgA ch).fresh (10 : Fin 11) t.val = true
    ∧ sfresh0_0 ch (t.val + 1) = false ∧ sfresh0_1 ch (t.val + 1) = false ∧ sfresh0_2 ch (t.val + 1) = false ∧ sfresh0_3 ch (t.val + 1) = false ∧ sfresh0_4 ch (t.val + 1) = false :=
  ⟨rfl, flush_8 ch t, fresh_8 ch t, rfl, flush_9 ch t, fresh_9 ch t, rfl, flush_10 ch t, fresh_10 ch t,
    sfr0 ch _ t.isLt (Nat.succ_ne_zero _), sfr1 ch _ t.isLt (Nat.succ_ne_zero _), sfr2 ch t, sfr3 ch t, sfr4 ch t⟩

/-- The schedule at a point that keeps them: it is not the first, so the weights' scratches are determined. -/
theorem sched0_B (t : Fin (cfgA ch).N) (q : ¬P0_0 ch t) :
    (cfgA ch).idle (8 : Fin 11) ((cfgA ch).grid.coords t) = false ∧ ((cfgA ch).win (8 : Fin 11)).flush t = true ∧ (cfgA ch).fresh (8 : Fin 11) t.val = true
    ∧ (cfgA ch).idle (9 : Fin 11) ((cfgA ch).grid.coords t) = false ∧ ((cfgA ch).win (9 : Fin 11)).flush t = true ∧ (cfgA ch).fresh (9 : Fin 11) t.val = true
    ∧ (cfgA ch).idle (10 : Fin 11) ((cfgA ch).grid.coords t) = false ∧ ((cfgA ch).win (10 : Fin 11)).flush t = true ∧ (cfgA ch).fresh (10 : Fin 11) t.val = true
    ∧ sfresh0_0 ch t.val = false ∧ sfresh0_0 ch (t.val + 1) = false ∧ sfresh0_1 ch t.val = false ∧ sfresh0_1 ch (t.val + 1) = false
    ∧ sfresh0_2 ch (t.val + 1) = false ∧ sfresh0_3 ch (t.val + 1) = false ∧ sfresh0_4 ch (t.val + 1) = false :=
  have h0 : t.val ≠ 0 := fun h => q (P0_zero ch t h)
  ⟨rfl, flush_8 ch t, fresh_8 ch t, rfl, flush_9 ch t, fresh_9 ch t, rfl, flush_10 ch t, fresh_10 ch t,
    sfr0 ch _ (Nat.le_of_lt t.isLt) h0, sfr0 ch _ t.isLt (Nat.succ_ne_zero _), sfr1 ch _ (Nat.le_of_lt t.isLt) h0, sfr1 ch _ t.isLt (Nat.succ_ne_zero _),
    sfr2 ch t, sfr3 ch t, sfr4 ch t⟩

end Cert.Kernel.Own

end
-- ==== Proof.Bits.Runs.lean ====
/- The kernel body, run once along each of its two control paths: at a row block that refreshes the dequantised
   weights (path A) and at one that keeps them (path B). Each run is a subtype holding what the body leaves in every
   output and every scratch buffer, with the proof that it leaves it. -/
module

public import proofs.«01_k».proof.Proof.Bits.Table

@[expose] public section

set_option maxRecDepth 16384
-- one declaration at a time, so that what a large run needs is freed before the next begins
set_option Elab.async false

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the certificate. -/
local notation "𝕄" => MT nD τ sig Unit (Elt Bits) ℕ (UR sig nD τ) ℕ

/-! ## The kernel body per control path, on symbolic staging memrefs: a subtype the run finds -/

/-- One staging buffer of output window 8, through which its contents are stated (`View.read_writes_of_cover`). -/
abbrev VO0_8 : View sig .tc .vmem S128x2048 .bf16 := (Memref.whole cc0_stg8_0 : Memref sig .tc .vmem S128x2048 .bf16).view
/-- One staging buffer of output window 9, through which its contents are stated (`View.read_writes_of_cover`). -/
abbrev VO0_9 : View sig .tc .vmem S128x1408 .fp8e5m2 := (Memref.whole cc0_stg9_0 : Memref sig .tc .vmem S128x1408 .fp8e5m2).view
/-- One staging buffer of output window 10, through which its contents are stated (`View.read_writes_of_cover`). -/
abbrev VO0_10 : View sig .tc .vmem S128x11 .f32 := (Memref.whole cc0_stg10_0 : Memref sig .tc .vmem S128x11 .f32).view

set_option backward.proofsInPublic true in
set_option maxHeartbeats 49524000 in
set_option sl_exec.unrollTrips 16 in
/-- PATH A (points 0): what the body leaves — per stored output its pieces (last first), per scratch its
    contents — WITH the proof that, on whole staging memrefs, from the inputs at their blocks, the tables, the outputs
    (8: stored, 9: stored, 10: stored) and the scratches (0: covered, 1: covered, 2: covered, 3: covered, 4: covered), under the path's decisions as
    hypotheses over the words the body reads (`hc0`), the body runs to the continuation holding all of it as stated. The
    skeleton (`Gen.*_eq_skeleton`) run by `sl_exec`, loops of literal trip count unrolled by the run, the others by `sl_unroll`. -/
noncomputable def kernelRun0_A (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (hc0 : (Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1) :
    Σ' (out0 : List (View.Piece (Elt Bits) S128x2048 .bf16)) (out1 : List (View.Piece (Elt Bits) S128x1408 .fp8e5m2)) (out2 : List (View.Piece (Elt Bits) S128x11 .f32)) (out3 : Buf (Elt Bits) ((c : Thread nD τ).loc cc0_scratch0)) (out4 : Buf (Elt Bits) ((c : Thread nD τ).loc cc0_scratch1)) (out5 : Buf (Elt Bits) ((c : Thread nD τ).loc cc0_scratch2)) (out6 : Buf (Elt Bits) ((c : Thread nD τ).loc cc0_scratch3)), { out7 : Buf (Elt Bits) ((c : Thread nD τ).loc cc0_scratch4) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (xa4 : Buf (Elt Bits) ((c : Thread nD τ).loc cc0_scratch4)) (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (arg8.view.loc (c : Thread nD τ) ↦[arg8.view.set]{fullShare} arg8.view.rep x6)
          ∗ (arg9.view.loc (c : Thread nD τ) ↦[arg9.view.set]{fullShare} arg9.view.rep x7)
          ∗ (tbM0_0.view.loc (c : Thread nD τ) ↦{fullShare.right} T0)
          ∗ (∃ d, owns (c : Thread nD τ) arg10 fullShare d)
          ∗ (∃ d, owns (c : Thread nD τ) arg11 fullShare d)
          ∗ (∃ d, owns (c : Thread nD τ) arg12 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (arg8.view.loc (c : Thread nD τ) ↦[arg8.view.set]{fullShare} arg8.view.rep x6)
              ∗ (arg9.view.loc (c : Thread nD τ) ↦[arg9.view.set]{fullShare} arg9.view.rep x7)
              ∗ (tbM0_0.view.loc (c : Thread nD τ) ↦{fullShare.right} T0)
              ∗ (∃ f, arg10.view.loc (c : Thread nD τ) ↦[arg10.view.set]{fullShare} arg10.view.writes (Elt Bits) f out0)
              ∗ (∃ f, arg11.view.loc (c : Thread nD τ) ↦[arg11.view.set]{fullShare} arg11.view.writes (Elt Bits) f out1)
              ∗ (∃ f, arg12.view.loc (c : Thread nD τ) ↦[arg12.view.set]{fullShare} arg12.view.writes (Elt Bits) f out2)
              ∗ (scM0_0.view.loc (c : Thread nD τ) ↦{fullShare} out3)
              ∗ (scM0_1.view.loc (c : Thread nD τ) ↦{fullShare} out4)
              ∗ (scM0_2.view.loc (c : Thread nD τ) ↦{fullShare} out5)
              ∗ (scM0_3.view.loc (c : Thread nD τ) ↦{fullShare} out6)
              ∗ (scM0_4.view.loc (c : Thread nD τ) ↦{fullShare} out7)) -∗ K ⟨⟩))
          ⊢ wp frame (wpE (defs₀ (F := Bits)) Variants.none c none) Set.univ (cc0__body i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) scM0_4 (Memref.isWhole_whole _)) K } :=
  ⟨_, _, _, _, _, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (xa4 : Buf (Elt Bits) ((c : Thread nD τ).loc cc0_scratch4)) K => by
    unfold owns
    rw [cc0__body_eq_skeleton]; unfold cc0__body_skel
    iintro ⟨H0, H1, H2, H3, H4, H5, H6, H7, HT0, ⟨%d8, %f8, -, HO8⟩, ⟨%d9, %f9, -, HO9⟩, ⟨%d10, %f10, -, HO10⟩, HS0, HS1, HS2, HS3, HS4, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hT0 : tbM0_0.IsWhole := Memref.isWhole_whole _
    sl_exec! (disch := first | (guard_target = Scalar.cmpi = _; exact hc0))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HO8]; · iexists _; iexact HO8
    isplitl [HO9]; · iexists _; iexact HO9
    isplitl [HO10]; · iexists _; iexact HO10
    isplitl [HS0]; · iexact HS0
    isplitl [HS1]; · iexact HS1
    isplitl [HS2]; · iexact HS2
    isplitl [HS3]; · iexact HS3
    iexact HS4⟩

/-- Path A's pieces for output 8 tile its block (1 store of `S128x2048`: the kernel evaluates the tiling, Lib/Ring.lean `Piece.tiledL`). -/
theorem cover0_A_8 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (hc0 : (Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).1 S128x2048.size (by sl_kernel_rfl) y

/-- What path A leaves in output 8's staging buffer: its pieces read back over junk. -/
def out0_A_8 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (hc0 : (Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1) : (S128x2048.Idx → Elt Bits .bf16) :=
  VO0_8.read (Elt Bits) (VO0_8.writes (Elt Bits) VO0_8.junk (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).1)

/-- Path A's pieces for output 9 tile its block (11 stores of `S128x128`: the kernel evaluates the tiling, Lib/Ring.lean `Piece.tiledL`). -/
theorem cover0_A_9 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (hc0 : (Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1) (y : S128x1408.Idx) :
    ∃ pc ∈ (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.1 S128x128.size (by sl_kernel_rfl) y

/-- What path A leaves in output 9's staging buffer: its pieces read back over junk. -/
def out0_A_9 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (hc0 : (Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1) : (S128x1408.Idx → Elt Bits .fp8e5m2) :=
  VO0_9.read (Elt Bits) (VO0_9.writes (Elt Bits) VO0_9.junk (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.1)

/-- Path A's pieces for output 10 tile its block (1 store of `S128x11`: the kernel evaluates the tiling, Lib/Ring.lean `Piece.tiledL`). -/
theorem cover0_A_10 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (hc0 : (Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1) (y : S128x11.Idx) :
    ∃ pc ∈ (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.2.1 S128x11.size (by sl_kernel_rfl) y

/-- What path A leaves in output 10's staging buffer: its pieces read back over junk. -/
def out0_A_10 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (hc0 : (Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1) : (S128x11.Idx → Elt Bits .f32) :=
  VO0_10.read (Elt Bits) (VO0_10.writes (Elt Bits) VO0_10.junk (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.2.1)

set_option backward.proofsInPublic true in
set_option maxHeartbeats 8000000 in
/-- PATH B (points 1, 2, … 447: 447 of 448): what the body leaves — per stored output its pieces (last first), per scratch its
    contents — WITH the proof that, on whole staging memrefs, from the inputs at their blocks, the tables, the outputs
    (8: stored, 9: stored, 10: stored) and the scratches (0: carried, 1: carried, 2: covered, 3: covered, 4: covered), under the path's decisions as
    hypotheses over the words the body reads (`hc0`), the body runs to the continuation holding all of it as stated. The
    skeleton (`Gen.*_eq_skeleton`) run by `sl_exec`, loops of literal trip count unrolled by the run, the others by `sl_unroll`. -/
noncomputable def kernelRun0_B (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1)) :
    Σ' (out0 : List (View.Piece (Elt Bits) S128x2048 .bf16)) (out1 : List (View.Piece (Elt Bits) S128x1408 .fp8e5m2)) (out2 : List (View.Piece (Elt Bits) S128x11 .f32)) (out3 : Buf (Elt Bits) ((c : Thread nD τ).loc cc0_scratch0)) (out4 : Buf (Elt Bits) ((c : Thread nD τ).loc cc0_scratch1)) (out5 : Buf (Elt Bits) ((c : Thread nD τ).loc cc0_scratch2)) (out6 : Buf (Elt Bits) ((c : Thread nD τ).loc cc0_scratch3)), { out7 : Buf (Elt Bits) ((c : Thread nD τ).loc cc0_scratch4) //
      ∀ (xa2 : Buf (Elt Bits) ((c : Thread nD τ).loc cc0_scratch2)) (xa3 : Buf (Elt Bits) ((c : Thread nD τ).loc cc0_scratch3)) (xa4 : Buf (Elt Bits) ((c : Thread nD τ).loc cc0_scratch4)) (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (arg8.view.loc (c : Thread nD τ) ↦[arg8.view.set]{fullShare} arg8.view.rep x6)
          ∗ (arg9.view.loc (c : Thread nD τ) ↦[arg9.view.set]{fullShare} arg9.view.rep x7)
          ∗ (tbM0_0.view.loc (c : Thread nD τ) ↦{fullShare.right} T0)
          ∗ (∃ d, owns (c : Thread nD τ) arg10 fullShare d)
          ∗ (∃ d, owns (c : Thread nD τ) arg11 fullShare d)
          ∗ (∃ d, owns (c : Thread nD τ) arg12 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (arg8.view.loc (c : Thread nD τ) ↦[arg8.view.set]{fullShare} arg8.view.rep x6)
              ∗ (arg9.view.loc (c : Thread nD τ) ↦[arg9.view.set]{fullShare} arg9.view.rep x7)
              ∗ (tbM0_0.view.loc (c : Thread nD τ) ↦{fullShare.right} T0)
              ∗ (∃ f, arg10.view.loc (c : Thread nD τ) ↦[arg10.view.set]{fullShare} arg10.view.writes (Elt Bits) f out0)
              ∗ (∃ f, arg11.view.loc (c : Thread nD τ) ↦[arg11.view.set]{fullShare} arg11.view.writes (Elt Bits) f out1)
              ∗ (∃ f, arg12.view.loc (c : Thread nD τ) ↦[arg12.view.set]{fullShare} arg12.view.writes (Elt Bits) f out2)
              ∗ (scM0_0.view.loc (c : Thread nD τ) ↦{fullShare} out3)
              ∗ (scM0_1.view.loc (c : Thread nD τ) ↦{fullShare} out4)
              ∗ (scM0_2.view.loc (c : Thread nD τ) ↦{fullShare} out5)
              ∗ (scM0_3.view.loc (c : Thread nD τ) ↦{fullShare} out6)
              ∗ (scM0_4.view.loc (c : Thread nD τ) ↦{fullShare} out7)) -∗ K ⟨⟩))
          ⊢ wp frame (wpE (defs₀ (F := Bits)) Variants.none c none) Set.univ (cc0__body i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) scM0_4 (Memref.isWhole_whole _)) K } :=
  ⟨_, _, _, _, _, _, _, _, fun (xa2 : Buf (Elt Bits) ((c : Thread nD τ).loc cc0_scratch2)) (xa3 : Buf (Elt Bits) ((c : Thread nD τ).loc cc0_scratch3)) (xa4 : Buf (Elt Bits) ((c : Thread nD τ).loc cc0_scratch4)) K => by
    unfold owns
    rw [cc0__body_eq_skeleton]; unfold cc0__body_skel
    iintro ⟨H0, H1, H2, H3, H4, H5, H6, H7, HT0, ⟨%d8, %f8, -, HO8⟩, ⟨%d9, %f9, -, HO9⟩, ⟨%d10, %f10, -, HO10⟩, HS0, HS1, HS2, HS3, HS4, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hT0 : tbM0_0.IsWhole := Memref.isWhole_whole _
    sl_exec! (disch := first | (guard_target = ¬(Scalar.cmpi = _); exact hc0))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HO8]; · iexists _; iexact HO8
    isplitl [HO9]; · iexists _; iexact HO9
    isplitl [HO10]; · iexists _; iexact HO10
    isplitl [HS0]; · iexact HS0
    isplitl [HS1]; · iexact HS1
    isplitl [HS2]; · iexact HS2
    isplitl [HS3]; · iexact HS3
    iexact HS4⟩

/-- Path B's pieces for output 8 tile its block (1 store of `S128x2048`: the kernel evaluates the tiling, Lib/Ring.lean `Piece.tiledL`). -/
theorem cover0_B_8 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1)) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).1 S128x2048.size (by sl_kernel_rfl) y

/-- What path B leaves in output 8's staging buffer: its pieces read back over junk. -/
def out0_B_8 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1)) : (S128x2048.Idx → Elt Bits .bf16) :=
  VO0_8.read (Elt Bits) (VO0_8.writes (Elt Bits) VO0_8.junk (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).1)

/-- Path B's pieces for output 9 tile its block (11 stores of `S128x128`: the kernel evaluates the tiling, Lib/Ring.lean `Piece.tiledL`). -/
theorem cover0_B_9 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1)) (y : S128x1408.Idx) :
    ∃ pc ∈ (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.1 S128x128.size (by sl_kernel_rfl) y

/-- What path B leaves in output 9's staging buffer: its pieces read back over junk. -/
def out0_B_9 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1)) : (S128x1408.Idx → Elt Bits .fp8e5m2) :=
  VO0_9.read (Elt Bits) (VO0_9.writes (Elt Bits) VO0_9.junk (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.1)

/-- Path B's pieces for output 10 tile its block (1 store of `S128x11`: the kernel evaluates the tiling, Lib/Ring.lean `Piece.tiledL`). -/
theorem cover0_B_10 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1)) (y : S128x11.Idx) :
    ∃ pc ∈ (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.2.1 S128x11.size (by sl_kernel_rfl) y

/-- What path B leaves in output 10's staging buffer: its pieces read back over junk. -/
def out0_B_10 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Bits .i32))
     (x0 : (S128x2048.Idx → Elt Bits .fp8e4m3)) (x1 : (S128x16.Idx → Elt Bits .f32)) (x2 : (S2048x1408.Idx → Elt Bits .fp8e4m3)) (x3 : (S1408x2048.Idx → Elt Bits .fp8e4m3)) (x4 : (S1x16x11.Idx → Elt Bits .f32)) (x5 : (S1x11x16.Idx → Elt Bits .f32)) (x6 : (S128x2048.Idx → Elt Bits .fp8e5m2)) (x7 : (S128x16.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Bits) (tbM0_0).view (Rect.unit (s := S448) (k0_off1 i) S1.size (k0_off1_inb i)).toLoadRect T0 (Shape.Idx.first (numel1_S1.symm ▸ Nat.one_pos))) (View.readAt (Elt Bits) (tbM0_0).view (Rect.unit (s := S448) (k0_off2 i) S1.size (k0_off2_inb i)).toLoadRect T0 (Shape.Idx.first (numel1_S1.symm ▸ Nat.one_pos)))))) 0#32) = 1#1)) : (S128x11.Idx → Elt Bits .f32) :=
  VO0_10.read (Elt Bits) (VO0_10.writes (Elt Bits) VO0_10.junk (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.2.1)

end Cert.Kernel.Own

end
-- ==== Proof.Bits.Run.lean ====
/- What every row block leaves in the outputs and the scratch buffers (the trajectory), the pipeline's proof data and its
   body obligation, from any memory whose prefetched table is `ch`. -/
module

public import proofs.«01_k».proof.Proof.Bits.Runs

@[expose] public section

set_option maxRecDepth 16384
-- one declaration at a time, so that what a large run needs is freed before the next begins
set_option Elab.async false

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the certificate. -/
local notation "𝕄" => MT nD τ sig Unit (Elt Bits) ℕ (UR sig nD τ) ℕ
/-- The proof's resource algebra: the rounds library's, for the pipeline's staging cells, embedded whole. -/
abbrev EP : Emb (UR sig nD τ) 𝕄 := emb₁

variable (ch : Tab)
variable (m : (ℓ : Loc nD τ sig) → Buf (Elt Bits) ℓ) (ρ : Dev nD → PrngReg)

/-! ## What the outputs and scratches hold after each point -/

/-- ONE STEP of the trajectory: what the outputs' current buffers and the scratches hold after the body at point `t`
    (output 8, output 9, output 10, scratch 0, scratch 1, scratch 2, scratch 3, scratch 4), from what they held before (`prev`): the path the decisions select at `t`, its
    run's contents; an output the path leaves idle keeps what it held (junk — `default`, named by nothing — where fresh). -/
def step0 (c : Dev nD) (t : Fin (cfgA ch).N) (prev : (S128x2048.Idx → Elt Bits .bf16) × (S128x1408.Idx → Elt Bits .fp8e5m2) × (S128x11.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4)) : (S128x2048.Idx → Elt Bits .bf16) × (S128x1408.Idx → Elt Bits .fp8e5m2) × (S128x11.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) :=
  if q0 : P0_0 ch t then
    (out0_A_8 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1, out0_A_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1, out0_A_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.2.2.2.1)
  else
    (out0_B_8 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1, out0_B_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1, out0_B_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.2.2.2.1)

/-- THE TRAJECTORY: after position `n`. -/
def traj0 (c : Dev nD) : (n : ℕ) → n < (cfgA ch).N → (S128x2048.Idx → Elt Bits .bf16) × (S128x1408.Idx → Elt Bits .fp8e5m2) × (S128x11.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4)
  | 0, h => step0 ch m ρ c ⟨0, h⟩ (default, default, default, default, default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S128x2048.Idx → Elt Bits .bf16) × (S128x1408.Idx → Elt Bits .fp8e5m2) × (S128x11.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) :=
  if h : t.val = 0 then (default, default, default, default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S128x2048.Idx → Elt Bits .bf16) × (S128x1408.Idx → Elt Bits .fp8e5m2) × (S128x11.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4)) (q0 : P0_0 ch t) :
    step0 ch m ρ c t prev = (out0_A_8 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1, out0_A_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1, out0_A_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.2.2.2.1) := by
  unfold step0; simp only [dif_pos q0]

/-- `step0` at a point of path B. -/
theorem step0_B (c : Dev nD) (t : Fin (cfgA ch).N) (prev : (S128x2048.Idx → Elt Bits .bf16) × (S128x1408.Idx → Elt Bits .fp8e5m2) × (S128x11.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4)) (q0 : ¬P0_0 ch t) :
    step0 ch m ρ c t prev = (out0_B_8 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1, out0_B_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1, out0_B_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.2.2.2.1) := by
  unfold step0; simp only [dif_neg q0]

/-! ## The pipeline's proof data -/

/-- What the tracked buffers held before position `t` of `Fin (N+1)` (the invariant's index). -/
def prev0T (c : Dev nD) (t : Fin ((cfgA ch).N + 1)) : (S128x2048.Idx → Elt Bits .bf16) × (S128x1408.Idx → Elt Bits .fp8e5m2) × (S128x11.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) :=
  if h : t.val = 0 then (default, default, default, default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.2.2.1⌝ ∗ (scM0_0.view.loc (c : Thread nD τ) ↦{fullShare} a)) ∗ (∃ a, ⌜sfresh0_1 ch t.val = false → a = (prev0T ch m ρ c t).2.2.2.2.1⌝ ∗ (scM0_1.view.loc (c : Thread nD τ) ↦{fullShare} a)) ∗ (∃ a, ⌜sfresh0_2 ch t.val = false → a = (prev0T ch m ρ c t).2.2.2.2.2.1⌝ ∗ (scM0_2.view.loc (c : Thread nD τ) ↦{fullShare} a)) ∗ (∃ a, ⌜sfresh0_3 ch t.val = false → a = (prev0T ch m ρ c t).2.2.2.2.2.2.1⌝ ∗ (scM0_3.view.loc (c : Thread nD τ) ↦{fullShare} a)) ∗ (∃ a, ⌜sfresh0_4 ch t.val = false → a = (prev0T ch m ρ c t).2.2.2.2.2.2.2⌝ ∗ (scM0_4.view.loc (c : Thread nD τ) ↦{fullShare} a)) ∗ (tbM0_0.view.loc (c : Thread nD τ) ↦{fullShare.right} pinT_0 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 11) t
    | ⟨1, _⟩ => iblk ch m ρ c (1 : Fin 11) t
    | ⟨2, _⟩ => iblk ch m ρ c (2 : Fin 11) t
    | ⟨3, _⟩ => iblk ch m ρ c (3 : Fin 11) t
    | ⟨4, _⟩ => iblk ch m ρ c (4 : Fin 11) t
    | ⟨5, _⟩ => iblk ch m ρ c (5 : Fin 11) t
    | ⟨6, _⟩ => iblk ch m ρ c (6 : Fin 11) t
    | ⟨7, _⟩ => iblk ch m ρ c (7 : Fin 11) t
    | ⟨8, _⟩ => (traj0 ch m ρ c t.val t.isLt).1
    | ⟨9, _⟩ => (traj0 ch m ρ c t.val t.isLt).2.1
    | ⟨10, _⟩ => (traj0 ch m ρ c t.val t.isLt).2.2.1
  Φ t := Phi ch m ρ c t
  q _ := fullShare
  owed _ := 0

theorem after0_0 (c : Dev nD) (t : Fin (cfgA ch).N) : (dats ch m ρ 0 c).after (0 : Fin 11) t = iblk ch m ρ c (0 : Fin 11) t := rfl
theorem after0_1 (c : Dev nD) (t : Fin (cfgA ch).N) : (dats ch m ρ 0 c).after (1 : Fin 11) t = iblk ch m ρ c (1 : Fin 11) t := rfl
theorem after0_2 (c : Dev nD) (t : Fin (cfgA ch).N) : (dats ch m ρ 0 c).after (2 : Fin 11) t = iblk ch m ρ c (2 : Fin 11) t := rfl
theorem after0_3 (c : Dev nD) (t : Fin (cfgA ch).N) : (dats ch m ρ 0 c).after (3 : Fin 11) t = iblk ch m ρ c (3 : Fin 11) t := rfl
theorem after0_4 (c : Dev nD) (t : Fin (cfgA ch).N) : (dats ch m ρ 0 c).after (4 : Fin 11) t = iblk ch m ρ c (4 : Fin 11) t := rfl
theorem after0_5 (c : Dev nD) (t : Fin (cfgA ch).N) : (dats ch m ρ 0 c).after (5 : Fin 11) t = iblk ch m ρ c (5 : Fin 11) t := rfl
theorem after0_6 (c : Dev nD) (t : Fin (cfgA ch).N) : (dats ch m ρ 0 c).after (6 : Fin 11) t = iblk ch m ρ c (6 : Fin 11) t := rfl
theorem after0_7 (c : Dev nD) (t : Fin (cfgA ch).N) : (dats ch m ρ 0 c).after (7 : Fin 11) t = iblk ch m ρ c (7 : Fin 11) t := rfl
theorem after0_8 (c : Dev nD) (t : Fin (cfgA ch).N) : (dats ch m ρ 0 c).after (8 : Fin 11) t = (traj0 ch m ρ c t.val t.isLt).1 := rfl
theorem after0_9 (c : Dev nD) (t : Fin (cfgA ch).N) : (dats ch m ρ 0 c).after (9 : Fin 11) t = (traj0 ch m ρ c t.val t.isLt).2.1 := rfl
theorem after0_10 (c : Dev nD) (t : Fin (cfgA ch).N) : (dats ch m ρ 0 c).after (10 : Fin 11) t = (traj0 ch m ρ c t.val t.isLt).2.2.1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 11) t d = iblk ch m ρ c (0 : Fin 11) t :=
  ((dats ch m ρ 0 c).before_in_eq_fetched (0 : Fin 11) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 11) t d = iblk ch m ρ c (1 : Fin 11) t :=
  ((dats ch m ρ 0 c).before_in_eq_fetched (1 : Fin 11) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 11) t d = iblk ch m ρ c (2 : Fin 11) t :=
  ((dats ch m ρ 0 c).before_in_eq_fetched (2 : Fin 11) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 11) t d = iblk ch m ρ c (3 : Fin 11) t :=
  ((dats ch m ρ 0 c).before_in_eq_fetched (3 : Fin 11) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 11) t d = iblk ch m ρ c (4 : Fin 11) t :=
  ((dats ch m ρ 0 c).before_in_eq_fetched (4 : Fin 11) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 11) t d = iblk ch m ρ c (5 : Fin 11) t :=
  ((dats ch m ρ 0 c).before_in_eq_fetched (5 : Fin 11) rfl (fun _ => rfl) (fun _ _ _ => rfl) (fun t => by rw [after0_5]; unfold Dat.blockOf iblk; rfl) t d).trans
    (by unfold Dat.fetched Dat.blockOf iblk; rfl)

/-- Input window 6 holds its block, fetched there or not (Lib/Pipeline/FrameBody.lean `Dat.before_in_eq_fetched`). -/
theorem before0_6 (c : Dev nD) (t : Fin (cfgA ch).N) (d) : (dats ch m ρ 0 c).before (6 : Fin 11) t d = iblk ch m ρ c (6 : Fin 11) t :=
  ((dats ch m ρ 0 c).before_in_eq_fetched (6 : Fin 11) rfl (fun _ => rfl) (fun _ _ _ => rfl) (fun t => by rw [after0_6]; unfold Dat.blockOf iblk; rfl) t d).trans
    (by unfold Dat.fetched Dat.blockOf iblk; rfl)

/-- Input window 7 holds its block, fetched there or not (Lib/Pipeline/FrameBody.lean `Dat.before_in_eq_fetched`). -/
theorem before0_7 (c : Dev nD) (t : Fin (cfgA ch).N) (d) : (dats ch m ρ 0 c).before (7 : Fin 11) t d = iblk ch m ρ c (7 : Fin 11) t :=
  ((dats ch m ρ 0 c).before_in_eq_fetched (7 : Fin 11) rfl (fun _ => rfl) (fun _ _ _ => rfl) (fun t => by rw [after0_7]; unfold Dat.blockOf iblk; rfl) t d).trans
    (by unfold Dat.fetched Dat.blockOf iblk; rfl)

/-- Output 8's `after` carries through the points that leave it idle. -/
theorem hcarry0_8 (c : Dev nD) : ∀ (t : Fin (cfgA ch).N) (ht : t.val ≠ 0), (cfgA ch).idle (8 : Fin 11) ((cfgA ch).grid.coords t) = true → (cfgA ch).fresh (8 : Fin 11) t.val = false →
    (dats ch m ρ 0 c).after (8 : Fin 11) t = (dats ch m ρ 0 c).after (8 : Fin 11) ⟨t.val - 1, by omega⟩ := by
  intro t ht hi hf
  rw [after0_8, after0_8, traj0_eq]
  by_cases q0 : P0_0 ch t
  · obtain ⟨i8, -, -, -, -, -, -, -, -, -, -, -, -, -⟩ := sched0_A ch t q0
    rw [i8] at hi; exact absurd hi (by decide)
  · obtain ⟨i8, -, -, -, -, -, -, -, -, -, -, -, -, -, -, -⟩ := sched0_B ch t q0
    rw [i8] at hi; exact absurd hi (by decide)

/-- Output window 8 holds, when the body runs at `t`: junk if nothing was stored since its last write-back (`Cfg.fresh`),
    else what the point before left (TableIdle.lean `Dat.before_out_traj`). -/
theorem before0_8 (c : Dev nD) (t : Fin (cfgA ch).N) (d) :
    (dats ch m ρ 0 c).before (8 : Fin 11) t d = if (cfgA ch).fresh (8 : Fin 11) t.val then d else (prev0 ch m ρ c t).1 := by
  rw [(dats ch m ρ 0 c).before_out_traj (8 : Fin 11) rfl (fun _ _ => rfl) (hcarry0_8 ch m ρ c) t.val t rfl d]
  by_cases hf : (cfgA ch).fresh (8 : Fin 11) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_8]; unfold prev0; rw [dif_neg h0]

/-- Output 9's `after` carries through the points that leave it idle. -/
theorem hcarry0_9 (c : Dev nD) : ∀ (t : Fin (cfgA ch).N) (ht : t.val ≠ 0), (cfgA ch).idle (9 : Fin 11) ((cfgA ch).grid.coords t) = true → (cfgA ch).fresh (9 : Fin 11) t.val = false →
    (dats ch m ρ 0 c).after (9 : Fin 11) t = (dats ch m ρ 0 c).after (9 : Fin 11) ⟨t.val - 1, by omega⟩ := by
  intro t ht hi hf
  rw [after0_9, after0_9, traj0_eq]
  by_cases q0 : P0_0 ch t
  · obtain ⟨-, -, -, i9, -, -, -, -, -, -, -, -, -, -⟩ := sched0_A ch t q0
    rw [i9] at hi; exact absurd hi (by decide)
  · obtain ⟨-, -, -, i9, -, -, -, -, -, -, -, -, -, -, -, -⟩ := sched0_B ch t q0
    rw [i9] at hi; exact absurd hi (by decide)

/-- Output window 9 holds, when the body runs at `t`: junk if nothing was stored since its last write-back (`Cfg.fresh`),
    else what the point before left (TableIdle.lean `Dat.before_out_traj`). -/
theorem before0_9 (c : Dev nD) (t : Fin (cfgA ch).N) (d) :
    (dats ch m ρ 0 c).before (9 : Fin 11) t d = if (cfgA ch).fresh (9 : Fin 11) t.val then d else (prev0 ch m ρ c t).2.1 := by
  rw [(dats ch m ρ 0 c).before_out_traj (9 : Fin 11) rfl (fun _ _ => rfl) (hcarry0_9 ch m ρ c) t.val t rfl d]
  by_cases hf : (cfgA ch).fresh (9 : Fin 11) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_9]; unfold prev0; rw [dif_neg h0]

/-- Output 10's `after` carries through the points that leave it idle. -/
theorem hcarry0_10 (c : Dev nD) : ∀ (t : Fin (cfgA ch).N) (ht : t.val ≠ 0), (cfgA ch).idle (10 : Fin 11) ((cfgA ch).grid.coords t) = true → (cfgA ch).fresh (10 : Fin 11) t.val = false →
    (dats ch m ρ 0 c).after (10 : Fin 11) t = (dats ch m ρ 0 c).after (10 : Fin 11) ⟨t.val - 1, by omega⟩ := by
  intro t ht hi hf
  rw [after0_10, after0_10, traj0_eq]
  by_cases q0 : P0_0 ch t
  · obtain ⟨-, -, -, -, -, -, i10, -, -, -, -, -, -, -⟩ := sched0_A ch t q0
    rw [i10] at hi; exact absurd hi (by decide)
  · obtain ⟨-, -, -, -, -, -, i10, -, -, -, -, -, -, -, -, -⟩ := sched0_B ch t q0
    rw [i10] at hi; exact absurd hi (by decide)

/-- Output window 10 holds, when the body runs at `t`: junk if nothing was stored since its last write-back (`Cfg.fresh`),
    else what the point before left (TableIdle.lean `Dat.before_out_traj`). -/
theorem before0_10 (c : Dev nD) (t : Fin (cfgA ch).N) (d) :
    (dats ch m ρ 0 c).before (10 : Fin 11) t d = if (cfgA ch).fresh (10 : Fin 11) t.val then d else (prev0 ch m ρ c t).2.2.1 := by
  rw [(dats ch m ρ 0 c).before_out_traj (10 : Fin 11) rfl (fun _ _ => rfl) (hcarry0_10 ch m ρ c) t.val t rfl d]
  by_cases hf : (cfgA ch).fresh (10 : Fin 11) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_10]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0__body (crd ch t) (Memref.whole main_v2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 11) t d))
        ∗ (∃ d, owns (c : Thread nD τ) (ms0_1 ch t) fullShare ((dats ch m ρ 0 c).before (1 : Fin 11) t d))
        ∗ (∃ d, owns (c : Thread nD τ) (ms0_2 ch t) fullShare ((dats ch m ρ 0 c).before (2 : Fin 11) t d))
        ∗ (∃ d, owns (c : Thread nD τ) (ms0_3 ch t) fullShare ((dats ch m ρ 0 c).before (3 : Fin 11) t d))
        ∗ (∃ d, owns (c : Thread nD τ) (ms0_4 ch t) fullShare ((dats ch m ρ 0 c).before (4 : Fin 11) t d))
        ∗ (∃ d, owns (c : Thread nD τ) (ms0_5 ch t) fullShare ((dats ch m ρ 0 c).before (5 : Fin 11) t d))
        ∗ (∃ d, owns (c : Thread nD τ) (ms0_6 ch t) fullShare ((dats ch m ρ 0 c).before (6 : Fin 11) t d))
        ∗ (∃ d, owns (c : Thread nD τ) (ms0_7 ch t) fullShare ((dats ch m ρ 0 c).before (7 : Fin 11) t d))
        ∗ (∃ d, owns (c : Thread nD τ) (ms0_8 ch t) fullShare ((dats ch m ρ 0 c).before (8 : Fin 11) t d))
        ∗ (∃ d, owns (c : Thread nD τ) (ms0_9 ch t) fullShare ((dats ch m ρ 0 c).before (9 : Fin 11) t d))
        ∗ (∃ d, owns (c : Thread nD τ) (ms0_10 ch t) fullShare ((dats ch m ρ 0 c).before (10 : Fin 11) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i8, f8, fr8, i9, f9, fr9, i10, f10, fr10, sfn0, sfn1, sfn2, sfn3, sfn4⟩ := sched0_A ch t q0
    have F0 := (⟨q0, trivial⟩ : P0_0 ch t ∧ True)
    have hc0 := F0.1; have F1 := F0.2
    clear F0 F1
    rewrite [i8]
    simp only [before0_0, before0_1, before0_2, before0_3, before0_4, before0_5, before0_6, before0_7, before0_8, before0_9, before0_10, after0_0, after0_1, after0_2, after0_3, after0_4, after0_5, after0_6, after0_7, after0_8, after0_9, after0_10, f8, f9, f10]
    simp only [fr8, fr9, fr10, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, ⟨%a2, %ha2, HS2⟩, ⟨%a3, %ha3, HS3⟩, ⟨%a4, %ha4, HS4⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) hc0).2.2.2.2.2.2.2.2 a0 a1 a2 a3 a4 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [HT0]; · iexact HT0
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HT0, ⟨%e8, H8⟩, ⟨%e9, H9⟩, ⟨%e10, H10⟩, HS0, HS1, HS2, HS3, HS4⟩
    isplitl [HS0 HS1 HS2 HS3 HS4 HT0]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HS3]
      · iexists _; isplitr; swap
        · iexact HS3
        · ipureintro; intro hn; first | rfl | exact absurd hn (by first | (rw [sfn3]; decide) | decide)
      isplitl [HS4]
      · iexists _; isplitr; swap
        · iexact HS4
        · ipureintro; intro hn; first | rfl | exact absurd hn (by first | (rw [sfn4]; decide) | decide)
      iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    isplitl [H7]
    · iapply owns_of_rep; iexact H7
    isplitl [H8]
    · unfold owns; iexists _; isplitr; swap
      · iexact H8
      · ipureintro; exact View.read_writes_of_cover _ _ _ _ _ (cover0_A_8 c _ _ _ _ _ _ _ _ _ _ _ _ _ _ _ _ _ _ _ _ _ _ _ _ _ _ _ _ _ _ _ _ _)
    isplitl [H9]
    · unfold owns; iexists _; isplitr; swap
      · iexact H9
      · ipureintro; exact View.read_writes_of_cover _ _ _ _ _ (cover0_A_9 c _ _ _ _ _ _ _ _ _ _ _ _ _ _ _ _ _ _ _ _ _ _ _ _ _ _ _ _ _ _ _ _ _)
    unfold owns; iexists _; isplitr; swap
    · iexact H10
    · ipureintro; exact View.read_writes_of_cover _ _ _ _ _ (cover0_A_10 c _ _ _ _ _ _ _ _ _ _ _ _ _ _ _ _ _ _ _ _ _ _ _ _ _ _ _ _ _ _ _ _ _)
  · obtain ⟨i8, f8, fr8, i9, f9, fr9, i10, f10, fr10, sf0, sfn0, sf1, sfn1, sfn2, sfn3, sfn4⟩ := sched0_B ch t q0
    have F0 := (⟨q0, trivial⟩ : (¬P0_0 ch t) ∧ True)
    have hc0 := F0.1; have F1 := F0.2
    clear F0 F1
    rewrite [i8]
    simp only [before0_0, before0_1, before0_2, before0_3, before0_4, before0_5, before0_6, before0_7, before0_8, before0_9, before0_10, after0_0, after0_1, after0_2, after0_3, after0_4, after0_5, after0_6, after0_7, after0_8, after0_9, after0_10, f8, f9, f10]
    simp only [fr8, fr9, fr10, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_B ch m ρ c t _ q0]
    unfold Phi; simp only [prev0T_castSucc, prev0T_succ, traj0_eq, step0_B ch m ρ c t _ q0, Fin.val_castSucc, Fin.val_succ]
    simp only [exists_held sf0, exists_held sf1]
    iintro ⟨⟨HS0, HS1, ⟨%a2, %ha2, HS2⟩, ⟨%a3, %ha3, HS3⟩, ⟨%a4, %ha4, HS4⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) _ _ hc0).2.2.2.2.2.2.2.2 a2 a3 a4 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [HT0]; · iexact HT0
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HT0, ⟨%e8, H8⟩, ⟨%e9, H9⟩, ⟨%e10, H10⟩, HS0, HS1, HS2, HS3, HS4⟩
    isplitl [HS0 HS1 HS2 HS3 HS4 HT0]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HS3]
      · iexists _; isplitr; swap
        · iexact HS3
        · ipureintro; intro hn; first | rfl | exact absurd hn (by first | (rw [sfn3]; decide) | decide)
      isplitl [HS4]
      · iexists _; isplitr; swap
        · iexact HS4
        · ipureintro; intro hn; first | rfl | exact absurd hn (by first | (rw [sfn4]; decide) | decide)
      iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    isplitl [H7]
    · iapply owns_of_rep; iexact H7
    isplitl [H8]
    · unfold owns; iexists _; isplitr; swap
      · iexact H8
      · ipureintro; exact View.read_writes_of_cover _ _ _ _ _ (cover0_B_8 c _ _ _ _ _ _ _ _ _ _ _ _ _ _ _ _ _ _ _ _ _ _ _ _ _ _ _ _ _ _ _ _ _ _ _)
    isplitl [H9]
    · unfold owns; iexists _; isplitr; swap
      · iexact H9
      · ipureintro; exact View.read_writes_of_cover _ _ _ _ _ (cover0_B_9 c _ _ _ _ _ _ _ _ _ _ _ _ _ _ _ _ _ _ _ _ _ _ _ _ _ _ _ _ _ _ _ _ _ _ _)
    unfold owns; iexists _; isplitr; swap
    · iexact H10
    · ipureintro; exact View.read_writes_of_cover _ _ _ _ _ (cover0_B_10 c _ _ _ _ _ _ _ _ _ _ _ _ _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_v2) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0⟩, ⟨%a0, HS0⟩, ⟨%a1, HS1⟩, ⟨%a2, HS2⟩, ⟨%a3, HS3⟩, ⟨%a4, HS4⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HS4]
  · iexists a4; isplitr; swap
    · iexact HS4
    · ipureintro; intro h; exact absurd (h.symm.trans (show sfresh0_4 ch 0 = true from rfl)) Bool.false_ne_true
  iexact HT0

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, ⟨%a4, -, HS4⟩, -⟩
  isplitr; · iempintro
  isplitl [HS0]
  · iexists a0; iexact HS0
  isplitl [HS1]
  · iexists a1; iexact HS1
  isplitl [HS2]
  · iexists a2; iexact HS2
  isplitl [HS3]
  · iexists a3; iexact HS3
  iexists a4; iexact HS4

end Cert.Kernel.Own

end
-- ==== Proof.Bits.Host.lean ====
/- The host lines before the region: which arrays they leave alone, what they compute of the three arrays they hand to
   the region, and that the precondition makes every word of the prefetched table an expert number. -/
module

public import proofs.«01_k».proof.Proof.Bits.Table
public import proofs.«01_k».proof.Proof.Experts
public import Idealize.ShloMosaic.Lib.Pipeline.Value

@[expose] public section

set_option maxRecDepth 16384
-- one declaration at a time, so that what a large run needs is freed before the next begins
set_option Elab.async false

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the certificate. -/
local notation "𝕄" => MT nD τ sig Unit (Elt Bits) ℕ (UR sig nD τ) ℕ

variable (m : (ℓ : Loc nD τ sig) → Buf (Elt Bits) ℓ) (ρ : Dev nD → PrngReg)

/-- The host lines before the region. -/
abbrev hostAll : List (List (HloOp τ sig (Elt Bits))) := [hostOps0, hostOps0_1, hostOps0_2]

/-- The memory the region starts from: the launch memory after the host lines. -/
def mV (m : (ℓ : Loc nD τ sig) → Buf (Elt Bits) ℓ) : (ℓ : Loc nD τ sig) → Buf (Elt Bits) ℓ := fun ℓ =>
  StableHlo.after hostAll.flatten (fun b => m (ℓ.1, b)) ℓ.2

theorem hostOps0_fresh : (hostOps0 : List (HloOp τ sig (Elt Bits))).Forall fun op => op.fresh = ∅ := by
  simp only [List.Forall]; repeat' constructor
theorem hostOps0_1_fresh : (hostOps0_1 : List (HloOp τ sig (Elt Bits))).Forall fun op => op.fresh = ∅ := by
  simp only [List.Forall]; repeat' constructor
theorem hostOps0_2_fresh : (hostOps0_2 : List (HloOp τ sig (Elt Bits))).Forall fun op => op.fresh = ∅ := by
  simp only [List.Forall]; repeat' constructor

/-- @main: the host lines, then the region at what they leave. -/
theorem hmain : Pipeline.HMainPK (Ix := Unit) (Name := ℕ) (U := UR sig nD τ) (Lvl := ℕ) (pcfgs (F := Bits)) (0 : Fin 1) defs₀ Variants.none m (main (F := Bits))
      (fun c b => StableHlo.after hostAll.flatten (fun b => m (c, b)) b) (fun _ => Pipeline.chain (([] : List (List (HloOp τ sig (Elt Bits)))).map StableHlo.seq)) :=
  Pipeline.hmainP_around (pcfgs (F := Bits)) 0 defs₀ Variants.none m main hostAll [] (by simp only [List.Forall]; exact ⟨hostOps0_sub, hostOps0_1_sub, hostOps0_2_sub⟩)
    (by simp only [List.Forall]; exact ⟨hostOps0_fresh, hostOps0_1_fresh, hostOps0_2_fresh⟩) main_chain

/-! ## The arguments are not written by the host lines -/

set_option maxHeartbeats 4000000 in
theorem mV_arg0 (c : Dev nD) : mV m ((c : Thread nD τ).loc main_arg0) = m ((c : Thread nD τ).loc main_arg0) := by
  simp only [mV, hostAll, hostOps0, hostOps0_1, hostOps0_2, List.flatten_cons, List.flatten_nil, List.cons_append, List.nil_append]; after_results
theorem mV_arg1 (c : Dev nD) : mV m ((c : Thread nD τ).loc main_arg1) = m ((c : Thread nD τ).loc main_arg1) := by
  simp only [mV, hostAll, hostOps0, hostOps0_1, hostOps0_2, List.flatten_cons, List.flatten_nil, List.cons_append, List.nil_append]; after_results
theorem mV_arg2 (c : Dev nD) : mV m ((c : Thread nD τ).loc main_arg2) = m ((c : Thread nD τ).loc main_arg2) := by
  simp only [mV, hostAll, hostOps0, hostOps0_1, hostOps0_2, List.flatten_cons, List.flatten_nil, List.cons_append, List.nil_append]; after_results
theorem mV_arg3 (c : Dev nD) : mV m ((c : Thread nD τ).loc main_arg3) = m ((c : Thread nD τ).loc main_arg3) := by
  simp only [mV, hostAll, hostOps0, hostOps0_1, hostOps0_2, List.flatten_cons, List.flatten_nil, List.cons_append, List.nil_append]; after_results
theorem mV_arg4 (c : Dev nD) : mV m ((c : Thread nD τ).loc main_arg4) = m ((c : Thread nD τ).loc main_arg4) := by
  simp only [mV, hostAll, hostOps0, hostOps0_1, hostOps0_2, List.flatten_cons, List.flatten_nil, List.cons_append, List.nil_append]; after_results
theorem mV_arg5 (c : Dev nD) : mV m ((c : Thread nD τ).loc main_arg5) = m ((c : Thread nD τ).loc main_arg5) := by
  simp only [mV, hostAll, hostOps0, hostOps0_1, hostOps0_2, List.flatten_cons, List.flatten_nil, List.cons_append, List.nil_append]; after_results
theorem mV_arg6 (c : Dev nD) : mV m ((c : Thread nD τ).loc main_arg6) = m ((c : Thread nD τ).loc main_arg6) := by
  simp only [mV, hostAll, hostOps0, hostOps0_1, hostOps0_2, List.flatten_cons, List.flatten_nil, List.cons_append, List.nil_append]; after_results
theorem mV_arg7 (c : Dev nD) : mV m ((c : Thread nD τ).loc main_arg7) = m ((c : Thread nD τ).loc main_arg7) := by
  simp only [mV, hostAll, hostOps0, hostOps0_1, hostOps0_2, List.flatten_cons, List.flatten_nil, List.cons_append, List.nil_append]; after_results
theorem mV_arg8 (c : Dev nD) : mV m ((c : Thread nD τ).loc main_arg8) = m ((c : Thread nD τ).loc main_arg8) := by
  simp only [mV, hostAll, hostOps0, hostOps0_1, hostOps0_2, List.flatten_cons, List.flatten_nil, List.cons_append, List.nil_append]; after_results

/-! ## What the host lines compute -/

/-- The first column of the block map, as a vector. -/
theorem first_col (x : IVec S448x11 32) (i : S448.Idx) :
    shapeCast S448 (extractStridedSlice S448x1 ![0, 0] x slices_S448x11_S448x1_0_0) shapeCasts_S448x1_S448 i = x (ValueIdx.ix2 (i 0) 0) := by
  refine (shapeCast_apply _ _ i (ValueIdx.ix2 (i 0) 0) ?_).trans ?_
  · rw [Shape.rowMajor_val_two, Shape.rowMajor_val_one]
    show (i 0).val * 1 + 0 = (i 0).val
    omega
  · unfold extractStridedSlice
    congr 1
    funext a
    fin_cases a
    · exact Fin.ext (Nat.zero_add _)
    · exact Fin.ext rfl

/-- The table the region prefetches: the first column of the block map, divided by eleven. -/
theorem mV_v2 (c : Dev nD) : mV m ((c : Thread nD τ).loc main_v2)
    = fun i => Experts.fd (m ((c : Thread nD τ).loc main_arg6) (ValueIdx.ix2 (i 0) 0)) := by
  simp only [mV, hostAll, hostOps0, hostOps0_1, hostOps0_2, List.flatten_cons, List.flatten_nil, List.cons_append, List.nil_append]; after_results
  funext i
  simp only [StableHlo.TRef.ofBuf_toBuf]
  refine Eq.trans ?_ (congrArg Experts.fd (first_col _ i))
  rfl

/-- The precondition says the table's words are expert numbers, and each row of the block map is the run of its row's word. -/
theorem pinned_of_pre (h : Cert.Pre_Kernel m) : ∃ ch : Tab, Pinned ch (mV m) ∧ ∀ (c : Dev nD) (r : Fin 448) (k : Fin 11),
    m ((c : Thread nD τ).loc main_arg6) (ValueIdx.ix2 r k) = BitVec.ofNat 32 (11 * (ch.1 (ValueIdx.ix1 r)).toNat + k.val) := by
  have hr := fun (c : Dev nD) (r : Fin 448) => Experts.runs _ _ _ _ _ _ _ _ _ (h c) r
  have hw : ∀ (c : Dev nD) (x : S448.Idx), (mV m ((c : Thread nD τ).loc main_v2) x).toNat < 64 := by
    intro c x
    obtain ⟨e, he, -⟩ := hr c (x 0)
    have e1 := congrFun (mV_v2 m c) x
    rw [e1]
    show (Experts.fd _).toNat < 64
    erw [he]
    rw [BitVec.toNat_ofNat]
    have := e.isLt
    omega
  refine ⟨⟨mV m (((0 : Dev nD) : Thread nD τ).loc main_v2), hw 0⟩, ?_, ?_⟩
  · intro c
    obtain rfl : c = 0 := Subsingleton.elim _ _
    rfl
  · intro c r k
    obtain rfl : c = 0 := Subsingleton.elim _ _
    obtain ⟨e, he, hk⟩ := hr 0 r
    have e1 := congrFun (mV_v2 m 0) (ValueIdx.ix1 r)
    have e2 : (mV m (((0 : Dev nD) : Thread nD τ).loc main_v2) (ValueIdx.ix1 r)).toNat = e.val := by
      rw [e1]
      show (Experts.fd _).toNat = e.val
      erw [he]
      rw [BitVec.toNat_ofNat]
      have := e.isLt
      omega
    show _ = BitVec.ofNat 32 (11 * (mV m (((0 : Dev nD) : Thread nD τ).loc main_v2) (ValueIdx.ix1 r)).toNat + k.val)
    rw [e2]
    exact hk k

end Cert.Kernel.Own

end
-- ==== Proof.Bits.Frame.lean ====
/- The launch: the region at the table the host lines leave, and the frame: every weakly fair execution ends, every
   argument array ends unchanged and every semaphore counter at zero. -/
module

public import proofs.«01_k».proof.Proof.Bits.Run
public import proofs.«01_k».proof.Proof.Bits.Host

@[expose] public section

set_option maxRecDepth 16384
-- one declaration at a time, so that what a large run needs is freed before the next begins
set_option Elab.async false

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the certificate. -/
local notation "𝕄" => MT nD τ sig Unit (Elt Bits) ℕ (UR sig nD τ) ℕ

variable (ch : Tab)
variable (m : (ℓ : Loc nD τ sig) → Buf (Elt Bits) ℓ) (ρ : Dev nD → PrngReg)

/-! ## The run -/

/-- The final state: every window's array at what the pipeline computes, and the three arguments no window reads unchanged. -/
def QC : PUnit × MemSt nD τ sig (Elt Bits) → Prop := fun r =>
  ∀ c : Dev nD, (∀ w : Fin (cfgA ch).W, r.2.mem (((cfgA ch).win w).arr.view.loc (c : Thread nD τ)) = (dats ch (mV m) ρ 0 c).arrAt w (cfgA ch).N)
    ∧ r.2.mem ((c : Thread nD τ).loc main_arg3) = m ((c : Thread nD τ).loc main_arg3)
    ∧ r.2.mem ((c : Thread nD τ).loc main_arg5) = m ((c : Thread nD τ).loc main_arg5)
    ∧ r.2.mem ((c : Thread nD τ).loc main_arg6) = m ((c : Thread nD τ).loc main_arg6)

theorem V_pre (hp : Pinned ch (mV m)) (c : Dev nD) (j : Fin 1) : mV m ((c : Thread nD τ).loc (pre0.ref j)) = (adm ch).1 j := by
  fin_cases j
  · exact hp c

set_option backward.isDefEq.respectTransparency.types false in
set_option maxHeartbeats 4000000 in
/-- From any memory whose host lines leave the table: every weakly fair execution ends, in a state as `QC` says, with every
    semaphore counter at zero. -/
theorem run_main_quiescent (hp : Pinned ch (mV m)) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch (mV m) ρ) () ((launch0 (F := Bits)).cellOf_inj fun _ => adm ch) (0 : Fin 1)
    (launch0 (F := Bits)).win.to₀ (launch0 (F := Bits)).pre EP defs₀ Variants.none m ρ main
    (hbody := fun c => (body_obligation ch (mV m) ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => mV m ((c : Thread nD τ).loc b))
    (hmain := hmain m)
    (hsplit := fun c => Pipeline.arrays_split (pcs ch) (dats ch (mV m) ρ) 0 (launch0 (F := Bits)).win.arr_inj c (launch0 (F := Bits)).arr_whole
      (share_eq ch (mV m) ρ c) _ _ fun _ => rfl)
    (hpf := V_pre ch m hp)
    (X := fun _ => iprop(emp)) (Y := fun _ => iprop(emp))
    (Z := fun c => iprop((((c : Thread nD τ).loc main_arg3) ↦{fullShare} mV m ((c : Thread nD τ).loc main_arg3))
      ∗ (((c : Thread nD τ).loc main_arg5) ↦{fullShare} mV m ((c : Thread nD τ).loc main_arg5))
      ∗ (((c : Thread nD τ).loc main_arg6) ↦{fullShare} mV m ((c : Thread nD τ).loc main_arg6))))
    (hX := fun c => by
      rw [unscopedRestP0_eq]; iintro ⟨H3, H5, H6, -⟩
      isplitr; · iempintro
      isplitl [H3]; · iexact H3
      isplitl [H5]; · iexact H5
      iexact H6)
    (hin := phi0_intro ch (mV m) ρ)
    (hout := phiN_exit ch (mV m) ρ)
    (QY := fun c s => s.mem ((c : Thread nD τ).loc main_arg3) = m ((c : Thread nD τ).loc main_arg3)
      ∧ s.mem ((c : Thread nD τ).loc main_arg5) = m ((c : Thread nD τ).loc main_arg5)
      ∧ s.mem ((c : Thread nD τ).loc main_arg6) = m ((c : Thread nD τ).loc main_arg6))
    (hY := fun c s' => by
      iintro ⟨-, ⟨H3, H5, H6⟩, HSI⟩
      icombine HSI H3 gives %h3
      icombine HSI H5 gives %h5
      icombine HSI H6 gives %h6
      imodintro
      isplitr
      · ipureintro
        exact ⟨(Buf.eq_of_forall_mem_univ h3).trans (mV_arg3 m c), (Buf.eq_of_forall_mem_univ h5).trans (mV_arg5 m c), (Buf.eq_of_forall_mem_univ h6).trans (mV_arg6 m c)⟩
      iexact HSI)
    (hQ := fun _ h hz => ⟨fun c => ⟨(h c).1, (h c).2.2⟩, hz⟩)

/-- The frame: from any memory whose host lines leave the table, every weakly fair execution ends with every argument array
    unchanged and every semaphore counter at zero. -/
theorem frame (hp : Pinned ch (mV m)) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨(((h.1 c).1 (0 : Fin 11)).trans ((dats ch (mV m) ρ 0 c).arrAt_in (0 : Fin 11) rfl _)).trans (mV_arg0 m c),
     (((h.1 c).1 (1 : Fin 11)).trans ((dats ch (mV m) ρ 0 c).arrAt_in (1 : Fin 11) rfl _)).trans (mV_arg1 m c),
     (((h.1 c).1 (2 : Fin 11)).trans ((dats ch (mV m) ρ 0 c).arrAt_in (2 : Fin 11) rfl _)).trans (mV_arg2 m c),
     (h.1 c).2.1,
     (((h.1 c).1 (3 : Fin 11)).trans ((dats ch (mV m) ρ 0 c).arrAt_in (3 : Fin 11) rfl _)).trans (mV_arg4 m c),
     (h.1 c).2.2.1, (h.1 c).2.2.2,
     (((h.1 c).1 (6 : Fin 11)).trans ((dats ch (mV m) ρ 0 c).arrAt_in (6 : Fin 11) rfl _)).trans (mV_arg7 m c),
     (((h.1 c).1 (7 : Fin 11)).trans ((dats ch (mV m) ρ 0 c).arrAt_in (7 : Fin 11) rfl _)).trans (mV_arg8 m c)⟩, h.2⟩)
    (run_main_quiescent ch m ρ hp)

end Cert.Kernel.Own

end
-- ==== Proof.Math.Quantise.lean ====
/- The power-of-two scale of one quantised row of 128 values, found in two ways: as an exponent field, the greatest
   field of a float32 whose value does not exceed the row's quotient, and as the least power of two above the quotient.
   Both give one scale, and multiplying by the field's reciprocal power is dividing by that scale. -/
module

public import Idealize.ShloMosaic.Lib.Pointwise
public import Idealize.ShloMosaic.Lib.IdealHost

@[expose] public section

noncomputable section

namespace Cert.Quantise

open Idealize.ShloMosaic

/-- A word that holds the exponent field `n` alone is, read as a float32, the power of two of that field. -/
theorem ofBits_field (n : ℕ) (h1 : 1 ≤ n) (h2 : n ≤ 254) :
    Ideal.ofBits .f32 (BitVec.ofNat 32 (n * 2 ^ 23)) = (((2 : ℝ) ^ ((n : ℤ) - 127) : ℝ) : EReal) := by
  have hm : n * 2 ^ 23 % 2 ^ 32 = n * 2 ^ 23 := Nat.mod_eq_of_lt (by omega)
  have he : ((BitVec.ofNat 32 (n * 2 ^ 23)).extractLsb' 23 8).toNat = n := by
    rw [BitVec.extractLsb'_toNat, BitVec.toNat_ofNat, hm, Nat.shiftRight_eq_div_pow]; omega
  have hf : ((BitVec.ofNat 32 (n * 2 ^ 23)).extractLsb' 0 23).toNat = 0 := by
    rw [BitVec.extractLsb'_toNat, BitVec.toNat_ofNat, hm, Nat.shiftRight_eq_div_pow]; omega
  have hs : ((BitVec.ofNat 32 (n * 2 ^ 23)).extractLsb' 31 1) = 0#1 := by
    apply BitVec.eq_of_toNat_eq
    rw [BitVec.extractLsb'_toNat, BitVec.toNat_ofNat, hm, Nat.shiftRight_eq_div_pow]
    show _ = 0
    omega
  show Ideal.ieee 8 23 _ = _
  unfold Ideal.ieee
  simp only [he, hf, hs]
  rw [if_neg (by omega), if_neg (by omega)]
  congr 1
  have h3 : ((2 : ℝ) ^ 23) = (2 : ℝ) ^ (23 : ℤ) := by norm_cast
  have : ((0#1 == 1#1) = true) = False := by simp
  simp only [this, if_false, one_mul, Nat.add_zero, Nat.cast_pow, Nat.cast_ofNat]
  rw [h3, ← zpow_add₀ (by norm_num)]
  congr 1
  norm_num

/-- The value of the exponent field `n`: zero for the field zero (the subnormals' field, its fraction zero). -/
def fieldVal (n : ℕ) : EReal := if n = 0 then 0 else (((2 : ℝ) ^ ((n : ℤ) - 127) : ℝ) : EReal)

theorem ofBits_fieldVal (n : ℕ) (h : n ≤ 254) : Ideal.ofBits .f32 (BitVec.ofNat 32 (n * 2 ^ 23)) = fieldVal n := by
  unfold fieldVal
  split
  · next h0 => subst h0; exact Ideal.ofBits_zero_f32
  · next h0 => exact ofBits_field n (by omega) h

theorem pow_le_pow {a b : ℤ} (h : a ≤ b) : (((2 : ℝ) ^ a : ℝ) : EReal) ≤ (((2 : ℝ) ^ b : ℝ) : EReal) :=
  EReal.coe_le_coe_iff.2 (zpow_le_zpow_right₀ (by norm_num) h)

theorem pow_pos' (a : ℤ) : (0 : EReal) < (((2 : ℝ) ^ a : ℝ) : EReal) := by
  have : (0 : ℝ) < (2 : ℝ) ^ a := zpow_pos (by norm_num) a
  exact_mod_cast this

theorem fieldVal_mono {a b : ℕ} (h : a ≤ b) : fieldVal a ≤ fieldVal b := by
  unfold fieldVal
  split
  · split
    · exact le_refl _
    · exact le_of_lt (pow_pos' _)
  · rw [if_neg (by omega)]
    exact pow_le_pow (by omega)

theorem fieldVal_succ (n : ℕ) : fieldVal (n + 1) = (((2 : ℝ) ^ ((n : ℤ) - 126) : ℝ) : EReal) := by
  unfold fieldVal
  rw [if_neg (by omega)]
  congr 2
  push_cast
  ring

/-- The field a lane offers: its own (the lane's number, at most 239) when its value does not exceed `q`, else zero. -/
def offer (q : EReal) (x : Fin 256) : ℕ := if q < fieldVal (min x.val 239) then 0 else min x.val 239

/-- The greatest field at most 239 whose value does not exceed `q`. -/
def top (q : EReal) : ℕ := Finset.univ.sup (offer q)

theorem offer_le (q : EReal) (x : Fin 256) : offer q x ≤ 239 := by unfold offer; split <;> omega

theorem top_le (q : EReal) : top q ≤ 239 := Finset.sup_le fun x _ => offer_le q x

theorem fieldVal_top (q : EReal) (hq : 0 ≤ q) : fieldVal (top q) ≤ q := by
  obtain ⟨x, -, hx⟩ := Finset.exists_mem_eq_sup (Finset.univ : Finset (Fin 256)) ⟨0, Finset.mem_univ _⟩ (offer q)
  rw [top, hx]
  unfold offer
  split
  · exact hq
  · next h => exact not_lt.1 h

theorem le_top (q : EReal) (n : ℕ) (h : n ≤ 239) (hn : fieldVal n ≤ q) : n ≤ top q := by
  have h1 := Finset.le_sup (f := offer q) (Finset.mem_univ (⟨n, by omega⟩ : Fin 256))
  have h2 : offer q ⟨n, by omega⟩ = n := by
    unfold offer
    have : min n 239 = n := by omega
    simp only [this]
    rw [if_neg (not_lt.2 hn)]
  rw [h2] at h1
  exact h1

/-! ## The field as the maximum of words -/

theorem lane_word (x : Fin 256) :
    IntOp.muli (IntOp.minsi (BitVec.ofNat 32 x.val) 239#32) 8388608#32 = BitVec.ofNat 32 (min x.val 239 * 2 ^ 23) := by
  revert x; decide +kernel

theorem toInt_field (n : ℕ) (h : n ≤ 239) : (BitVec.ofNat 32 (n * 2 ^ 23)).toInt = (n * 2 ^ 23 : ℕ) := by
  rw [BitVec.toInt_eq_toNat_of_lt, BitVec.toNat_ofNat, Nat.mod_eq_of_lt (by omega)]
  rw [BitVec.toNat_ofNat, Nat.mod_eq_of_lt (by omega)]; omega

theorem maxsi_fields (a b : ℕ) (ha : a ≤ 239) (hb : b ≤ 239) :
    IntOp.maxsi (BitVec.ofNat 32 (a * 2 ^ 23)) (BitVec.ofNat 32 (b * 2 ^ 23)) = BitVec.ofNat 32 (max a b * 2 ^ 23) := by
  unfold IntOp.maxsi
  rw [BitVec.slt_eq_decide, toInt_field a ha, toInt_field b hb]
  have e : ((b * 2 ^ 23 : ℕ) : ℤ) < ((a * 2 ^ 23 : ℕ) : ℤ) ↔ b < a := by omega
  simp only [e, decide_eq_true_eq]
  by_cases h : b < a
  · rw [max_eq_left h.le, if_pos h]
  · rw [max_eq_right (not_lt.1 h), if_neg h]

theorem maxsi_init (a : ℕ) (ha : a ≤ 239) : IntOp.maxsi (BitVec.ofNat 32 (a * 2 ^ 23)) 2147483648#32 = BitVec.ofNat 32 (a * 2 ^ 23) := by
  have : ∀ a : Fin 240, IntOp.maxsi (BitVec.ofNat 32 (a.val * 2 ^ 23)) 2147483648#32 = BitVec.ofNat 32 (a.val * 2 ^ 23) := by decide +kernel
  exact this ⟨a, by omega⟩

theorem fold_offers (q : EReal) (s : Finset (Fin 256)) :
    (s = ∅ ∧ s.fold IntOp.maxsi 2147483648#32 (fun x => BitVec.ofNat 32 (offer q x * 2 ^ 23)) = 2147483648#32)
    ∨ s.fold IntOp.maxsi 2147483648#32 (fun x => BitVec.ofNat 32 (offer q x * 2 ^ 23)) = BitVec.ofNat 32 (s.sup (offer q) * 2 ^ 23) := by
  induction s using Finset.induction_on with
  | empty => left; exact ⟨rfl, Finset.fold_empty⟩
  | insert x s hx ih =>
    right
    rw [Finset.fold_insert hx, Finset.sup_insert]
    rcases ih with ⟨h0, h1⟩ | h1
    · subst h0; rw [h1, maxsi_init _ (offer_le q x)]; simp
    · rw [h1, maxsi_fields _ _ (offer_le q x) (Finset.sup_le fun y _ => offer_le q y)]

theorem fold_top (q : EReal) :
    Finset.univ.fold IntOp.maxsi 2147483648#32 (fun x : Fin 256 =>
      if q < Ideal.ofBits .f32 (IntOp.muli (IntOp.minsi (BitVec.ofNat 32 x.val) 239#32) 8388608#32) then 0#32
      else IntOp.muli (IntOp.minsi (BitVec.ofNat 32 x.val) 239#32) 8388608#32) = BitVec.ofNat 32 (top q * 2 ^ 23) := by
  have e : (fun x : Fin 256 =>
      if q < Ideal.ofBits .f32 (IntOp.muli (IntOp.minsi (BitVec.ofNat 32 x.val) 239#32) 8388608#32) then 0#32
      else IntOp.muli (IntOp.minsi (BitVec.ofNat 32 x.val) 239#32) 8388608#32)
      = fun x => BitVec.ofNat 32 (offer q x * 2 ^ 23) := by
    funext x
    rw [lane_word, ofBits_fieldVal _ (by omega)]
    unfold offer
    split <;> rfl
  rw [e]
  rcases fold_offers q Finset.univ with ⟨h, -⟩ | h
  · exact absurd h (Finset.univ_nonempty.ne_empty)
  · exact h

/-- The exponent field the kernel works with: the greatest field, with the field zero replaced by that of a half. -/
def field (q : EReal) : BitVec 32 := BitVec.ofNat 32 ((if top q = 0 then 126 else top q) * 2 ^ 23)

/-- The kernel's text of the field. -/
theorem field_eq (q : EReal) (r : BitVec 32) (hr : r = BitVec.ofNat 32 (top q * 2 ^ 23)) :
    Scalar.select (IntOp.cmpi .eq (if q * 0 ≠ 0 then 2139095040#32 else r) 0#32) 1056964608#32 (if q * 0 ≠ 0 then 2139095040#32 else r)
      = field q := by
  subst hr
  have h0 : ¬ (q * 0 ≠ 0) := by simp
  simp only [if_neg h0]
  have : ∀ n : Fin 240, Scalar.select (IntOp.cmpi .eq (BitVec.ofNat 32 (n.val * 2 ^ 23)) 0#32) 1056964608#32 (BitVec.ofNat 32 (n.val * 2 ^ 23))
      = BitVec.ofNat 32 ((if n.val = 0 then 126 else n.val) * 2 ^ 23) := by decide +kernel
  exact this ⟨top q, by have := top_le q; omega⟩

/-! ## The scale -/

/-- The power of two that the reference lists at place `l`. -/
def power (l : Fin 240) : EReal := Ideal.exp2 ((FloatOps.sitofp (F := Ideal) .f32 (BitVec.ofNat 32 l.val) : EReal) - Ideal.ofBits .f32 0x42FC0000#32)

/-- The scale of a row of quotient `q`, as the reference states it: one below the least normal float32, else the least
    listed power of two above `q` (the greatest listed where none is). -/
def scale (q : EReal) : EReal :=
  if q < Ideal.ofBits .f32 0x00800000#32 then 1
  else Finset.univ.fold min (Ideal.ofBits .f32 0x7F800000#32) (fun l : Fin 240 => if q < power l then power l else Ideal.ofBits .f32 0x78000000#32)

theorem ofBits_126 : Ideal.ofBits .f32 0x42FC0000#32 = ((126 : ℝ) : EReal) := by
  show Ideal.ieee 8 23 (0x42FC0000#32 : BitVec 32) = _
  unfold Ideal.ieee
  have he : ((0x42FC0000#32 : BitVec 32).extractLsb' 23 8).toNat = 133 := by decide
  have hf : ((0x42FC0000#32 : BitVec 32).extractLsb' 0 23).toNat = 8126464 - 0 := by decide
  have hs : ((0x42FC0000#32 : BitVec 32).extractLsb' 31 1 == 1#1) = false := by decide
  simp only [he, hf, hs]
  norm_num

theorem power_eq (l : Fin 240) : power l = fieldVal (l.val + 1) := by
  rw [fieldVal_succ]
  have h : (FloatOps.sitofp (F := Ideal) .f32 (BitVec.ofNat 32 l.val) : EReal) = ((l.val : ℝ) : EReal) := by
    show (((BitVec.ofNat 32 l.val).toInt : ℝ) : EReal) = _
    rw [BitVec.toInt_eq_toNat_of_lt, BitVec.toNat_ofNat, Nat.mod_eq_of_lt (by omega)]
    · norm_cast
    · rw [BitVec.toNat_ofNat, Nat.mod_eq_of_lt (by omega)]; omega
  unfold power
  rw [h, ofBits_126, ← EReal.coe_sub, Ideal.exp2_coe]
  congr 1
  rw [show ((l.val : ℝ) - 126) = (((l.val : ℤ) - 126 : ℤ) : ℝ) by push_cast; ring]
  exact Real.rpow_intCast 2 _

theorem scale_eq (q : EReal) (hq : 0 ≤ q) :
    scale q = if top q = 0 then 1 else (((2 : ℝ) ^ ((top q : ℤ) - 126) : ℝ) : EReal) := by
  have h1 : Ideal.ofBits .f32 0x00800000#32 = fieldVal 1 := ofBits_fieldVal 1 (by omega)
  have h113 : Ideal.ofBits .f32 0x78000000#32 = fieldVal 240 := ofBits_fieldVal 240 (by omega)
  have hinf : Ideal.ofBits .f32 0x7F800000#32 = ⊤ := by
    show Ideal.ieee 8 23 (0x7F800000#32 : BitVec 32) = _
    unfold Ideal.ieee
    rw [if_pos (by decide), if_pos (by decide)]
    rfl
  have htop := fieldVal_top q hq
  unfold scale
  simp only [h1, h113, hinf, power_eq]
  by_cases h : q < fieldVal 1
  · rw [if_pos h, if_pos]
    by_contra h0
    exact absurd (lt_of_le_of_lt ((fieldVal_mono (by omega : 1 ≤ top q)).trans htop) h) (lt_irrefl _)
  · have ht : 1 ≤ top q := le_top q 1 (by omega) (not_lt.1 h)
    rw [if_neg h, if_neg (by omega), ← fieldVal_succ]
    have h239 := top_le q
    apply le_antisymm
    · rw [Finset.fold_min_le]
      right
      refine ⟨⟨top q, by omega⟩, Finset.mem_univ _, ?_⟩
      dsimp only
      by_cases hl : q < fieldVal (top q + 1)
      · rw [if_pos hl]
      · rw [if_neg hl]
        by_cases h2 : top q = 239
        · rw [h2]
        · have := le_top q (top q + 1) (by omega) (not_lt.1 hl)
          omega
    · rw [Finset.le_fold_min]
      refine ⟨_root_.le_top, fun l _ => ?_⟩
      split
      · next hl =>
        apply fieldVal_mono
        by_contra hc
        exact absurd (lt_of_le_of_lt ((fieldVal_mono (by omega : l.val + 1 ≤ top q)).trans htop) hl) (lt_irrefl _)
      · exact fieldVal_mono (by omega)

/-- The scale the kernel's field gives is the reference's. -/
theorem field_scale (q : EReal) (hq : 0 ≤ q) : Ideal.ofBits .f32 (IntOp.addi (field q) 8388608#32) = scale q := by
  have h239 := top_le q
  have e : IntOp.addi (field q) 8388608#32 = BitVec.ofNat 32 (((if top q = 0 then 126 else top q) + 1) * 2 ^ 23) := by
    have : ∀ n : Fin 240, IntOp.addi (BitVec.ofNat 32 (n.val * 2 ^ 23)) 8388608#32 = BitVec.ofNat 32 ((n.val + 1) * 2 ^ 23) := by decide +kernel
    exact this ⟨if top q = 0 then 126 else top q, by split <;> omega⟩
  rw [e, scale_eq q hq, ofBits_fieldVal _ (by split <;> omega), fieldVal_succ]
  split
  · norm_num
  · rfl

/-- Multiplying by the power the kernel's field gives is dividing by the reference's scale. -/
theorem mul_field (q v : EReal) (hq : 0 ≤ q) : v * Ideal.ofBits .f32 (IntOp.subi 2122317824#32 (field q)) = Ideal.div v (scale q) := by
  have h239 := top_le q
  have e : IntOp.subi 2122317824#32 (field q) = BitVec.ofNat 32 ((253 - (if top q = 0 then 126 else top q)) * 2 ^ 23) := by
    have : ∀ n : Fin 240, IntOp.subi 2122317824#32 (BitVec.ofNat 32 (n.val * 2 ^ 23)) = BitVec.ofNat 32 ((253 - n.val) * 2 ^ 23) := by decide +kernel
    exact this ⟨if top q = 0 then 126 else top q, by split <;> omega⟩
  rw [e, scale_eq q hq, ofBits_field _ (by split <;> omega) (by split <;> omega)]
  unfold Ideal.div
  split
  · norm_num
  · rw [if_neg (ne_of_gt (pow_pos' _)), ← EReal.coe_inv, ← zpow_neg]
    congr 3
    omega

end Cert.Quantise

end
-- ==== Proof.Math.Model.lean ====
/- One block of 128 rows, as plain mathematics on the extended reals: the two products, the gradient of the gelu, the
   quantiser over groups of 128 columns, and the last product. Both programs are shown to compute these functions. -/
module

public import proofs.«01_k».proof.Proof.Math.Quantise

@[expose] public section

noncomputable section

namespace Cert.Model

open Idealize.ShloMosaic

/-- Column `l` of group `J`. -/
def lane (J : Fin 11) (l : Fin 128) : Fin 1408 := ⟨128 * J.val + l.val, by omega⟩

/-- The group of a column. -/
def group (j : Fin 1408) : Fin 11 := ⟨j.val / 128, by omega⟩

/-- The place of a column in its group. -/
def place (j : Fin 1408) : Fin 128 := ⟨j.val % 128, by omega⟩

theorem lane_group_place (j : Fin 1408) : lane (group j) (place j) = j := by
  apply Fin.ext; simp only [lane, group, place]; omega

theorem group_lane (J : Fin 11) (l : Fin 128) : group (lane J l) = J := by
  apply Fin.ext; simp only [lane, group]; omega

theorem place_lane (J : Fin 11) (l : Fin 128) : place (lane J l) = l := by
  apply Fin.ext; simp only [lane, place]; omega

/-- The quantisation group of one of the 2048 columns. -/
def group16 (k : Fin 2048) : Fin 16 := ⟨k.val / 128, by omega⟩

/-- The gradient through the gelu: the incoming gradient `h` times the derivative at `a` (tanh form). -/
def gelu (a h : EReal) : EReal :=
  h * (Ideal.ofBits .f32 0x3F000000#32
        * (1 + Ideal.tanh (Ideal.ofBits .f32 0x3F4C422A#32 * (a + Ideal.ofBits .f32 0x3D372713#32 * a * a * a)))
      + Ideal.ofBits .f32 0x3F000000#32 * a
          * (1 - Ideal.tanh (Ideal.ofBits .f32 0x3F4C422A#32 * (a + Ideal.ofBits .f32 0x3D372713#32 * a * a * a))
                * Ideal.tanh (Ideal.ofBits .f32 0x3F4C422A#32 * (a + Ideal.ofBits .f32 0x3D372713#32 * a * a * a)))
          * Ideal.ofBits .f32 0x3F4C422A#32
          * (1 + Ideal.ofBits .f32 0x3E095D4F#32 * a * a))

/-- The largest magnitude of a group, over the largest code. -/
def quotient (v : Fin 128 → EReal) : EReal :=
  Finset.univ.fold max (Ideal.ofBits .f32 0xFF800000#32) (fun l => FloatOps.absf (F := Ideal) (φ := .f32) (v l))
    * Ideal.ofBits .f32 0x37924925#32

/-- One code: the value over its scale, kept inside the range of the code type. -/
def clipped (v s : EReal) : EReal :=
  min (Ideal.ofBits .f32 0x47600000#32) (max (Ideal.ofBits .f32 0xC7600000#32) (Ideal.div v s))

section

variable (X Y : Fin 128 → Fin 2048 → EReal) (W : Fin 2048 → Fin 1408 → EReal) (V : Fin 1408 → Fin 2048 → EReal)

/-- The gradient before quantisation. -/
def da (p : Fin 128) (j : Fin 1408) : EReal := gelu (∑ k, X p k * W k j) (∑ k, Y p k * V j k)

/-- The scale of group `J` of row `p`. -/
def sc (p : Fin 128) (J : Fin 11) : EReal := Quantise.scale (quotient fun l => da X Y W V p (lane J l))

/-- The code at column `j` of row `p`. -/
def code (p : Fin 128) (j : Fin 1408) : EReal := clipped (da X Y W V p j) (sc X Y W V p (group j))

/-- The gradient of the input. -/
def dx (p : Fin 128) (k : Fin 2048) : EReal := ∑ j, code X Y W V p j * sc X Y W V p (group j) * W k j

end

/-- The quotient is never negative: it is a maximum of magnitudes times a positive number. -/
theorem quotient_nonneg (v : Fin 128 → EReal) : 0 ≤ quotient v := by
  have h1 : (0 : EReal) ≤ Ideal.ofBits .f32 0x37924925#32 := by
    show (0 : EReal) ≤ Ideal.ieee 8 23 (0x37924925#32)
    unfold Ideal.ieee
    rw [if_neg (by decide), if_neg (by decide)]
    rw [if_neg (by decide)]
    refine EReal.coe_nonneg.2 ?_
    positivity
  refine mul_nonneg ?_ h1
  refine (Finset.le_fold_max _).2 (Or.inr ⟨0, Finset.mem_univ _, ?_⟩)
  show (0 : EReal) ≤ max (v 0) (-v 0)
  rcases le_total 0 (v 0) with h | h
  · exact le_max_of_le_left h
  · exact le_max_of_le_right (EReal.neg_nonneg.2 h)

end Cert.Model
end
end
-- ==== Proof.Ideal.Tiles.lean ====
/- What the vector expressions of the kernel body are, entry by entry: a dequantised tile, a tile of the gradient, its
   codes, its scale, and the last product. Each is stated once, over variable operands. -/
module

public import proofs.«01_k».proof.Proof.Ideal.Runs
public import proofs.«01_k».proof.Proof.Math.Model
public import Idealize.ShloMosaic.Lib.Pointwise

@[expose] public section

set_option maxRecDepth 16384

noncomputable section

namespace Cert.KernelIdeal.Own

open Cert.KernelIdeal Cert.KernelIdeal.Gen Idealize.ShloMosaic

/-! ## Dequantised tiles -/

/-- A tile of the weights: each code times the one scale of the tile. -/
theorem weight_tile (a : FVec Ideal S128x128 .fp8e4m3) (s : FVec Ideal S1x1x1 .f32) (p l : Fin 128) :
    k0_pay3 (F := Ideal) a s (ix2 p l) = a (ix2 p l) * s (ix3 0 0 0) := by
  pointwise [k0_pay3]

/-- A tile of the input: each code times the scale of its row. -/
theorem input_tile (a : FVec Ideal S128x128 .fp8e4m3) (s : FVec Ideal S128x1 .f32) (p l : Fin 128) :
    k0_pay73 (F := Ideal) a s (ix2 p l) = a (ix2 p l) * s (ix2 p 0) := by
  pointwise [k0_pay73]

/-- A tile of the incoming gradient: each code times the scale of its row. -/
theorem grad_tile (a : FVec Ideal S128x128 .fp8e5m2) (s : FVec Ideal S128x1 .f32) (p l : Fin 128) :
    k0_pay74 (F := Ideal) a s (ix2 p l) = a (ix2 p l) * s (ix2 p 0) := by
  pointwise [k0_pay74]

/-! ## A tile of the gradient before quantisation -/

/-- The tile 256 columns wide, from the whole input and gradient blocks and a tile of either weight. -/
def wide (X : FVec Ideal S128x2048 .bf16) (W : FVec Ideal S2048x256 .bf16) (D : FVec Ideal S128x2048 .bf16)
    (V : FVec Ideal S256x2048 .bf16) : FVec Ideal S128x256 .f32 := k0_pay77 (k0_pay76 X W) D V

/-- Its entry is the gradient through the gelu of the two products' entries. -/
theorem wide_apply (X : FVec Ideal S128x2048 .bf16) (W : FVec Ideal S2048x256 .bf16) (D : FVec Ideal S128x2048 .bf16)
    (V : FVec Ideal S256x2048 .bf16) (p : Fin 128) (l : Fin 256) :
    wide X W D V (ix2 p l)
      = Model.gelu (∑ k : Fin 2048, X (ix2 p k) * W (ix2 k l)) (∑ k : Fin 2048, D (ix2 p k) * V (ix2 l k)) := by
  have h : k0_pay76 (F := Ideal) X W (ix2 p l) = ∑ k : Fin 2048, X (ix2 p k) * W (ix2 k l) := by pointwise [k0_pay76]
  rw [← h]
  unfold wide
  generalize k0_pay76 (F := Ideal) X W = A
  unfold Model.gelu
  pointwise [k0_pay77]

/-- The last tile, 128 columns wide. -/
theorem narrow_apply (X : FVec Ideal S128x2048 .bf16) (W : FVec Ideal S2048x128 .bf16) (D : FVec Ideal S128x2048 .bf16)
    (V : FVec Ideal S128x2048 .bf16) (p : Fin 128) (l : Fin 128) :
    k0_pay169 (F := Ideal) X W D V (ix2 p l)
      = Model.gelu (∑ k : Fin 2048, X (ix2 p k) * W (ix2 k l)) (∑ k : Fin 2048, D (ix2 p k) * V (ix2 l k)) := by
  unfold Model.gelu
  pointwise [k0_pay169]

/-- The first 128 columns of a wide tile. -/
def lower (d : FVec Ideal S128x256 .f32) : FVec Ideal S128x128 .f32 :=
  extractStridedSlice S128x128 ![0, 0] d slices_S128x256_o0_0_S128x128

/-- The last 128 columns of a wide tile. -/
def upper (d : FVec Ideal S128x256 .f32) : FVec Ideal S128x128 .f32 :=
  extractStridedSlice S128x128 ![0, 128] d slices_S128x256_o0_128_S128x128

theorem lower_apply (d : FVec Ideal S128x256 .f32) (p l : Fin 128) :
    lower d (ix2 p l) = d (ix2 p (⟨l.val, by omega⟩ : Fin 256)) := by
  pointwise [lower]

theorem upper_apply (d : FVec Ideal S128x256 .f32) (p l : Fin 128) :
    upper d (ix2 p l) = d (ix2 p (⟨128 + l.val, by omega⟩ : Fin 256)) := by
  pointwise [upper]

/-! ## The quantiser on one group -/

/-- The quotient of every row of a group. -/
def rowQuot (d : FVec Ideal S128x128 .f32) : FVec Ideal S128x1 .f32 :=
  mulf (shapeCast S128x1 (multiReduction .maximumf [1] S128 (absf d) 0xFF800000#32 reduces_S128x128_S128 (.inl rfl) rfl)
    shapeCasts_S128_S128x1) (broadcast S128x1 (Scalar.ofBits .f32 0x37924925#32))

theorem rowQuot_apply (d : FVec Ideal S128x128 .f32) (p : Fin 128) :
    rowQuot d (ix2 p 0) = Model.quotient fun l => d (ix2 p l) := by
  unfold Model.quotient
  pointwise [rowQuot]

/-- The lanes' numbers. -/
def lanes : IVec S128x256 32 := iota .tc S128x256 32 [1] iota_S128x256_d1_w32

/-- The exponent fields the lanes offer. -/
def offers : IVec S128x256 32 := muli (minsi lanes k0_pay171) (broadcast S128x256 8388608#32)

theorem offers_apply (p : Fin 128) (x : Fin 256) :
    offers (ix2 p x) = IntOp.muli (IntOp.minsi (BitVec.ofNat 32 x.val) 239#32) 8388608#32 := by
  pointwise [offers, lanes, k0_pay171]

/-- The offers that are not above the row's quotient. -/
def kept (q : FVec Ideal S128x1 .f32) (w : IVec S128x256 32) : IVec S128x256 32 :=
  select (cmpf .olt (broadcastTo S128x256 q broadcasts_S128x1_S128x256) (bitcastToFloat .f32 w)) (broadcast S128x256 0#32) w

theorem kept_apply (q : FVec Ideal S128x1 .f32) (w : IVec S128x256 32) (p : Fin 128) (x : Fin 256) :
    kept q w (ix2 p x) = if q (ix2 p 0) < Ideal.ofBits .f32 (w (ix2 p x)) then 0#32 else w (ix2 p x) := by
  pointwise [kept]

/-- The largest offer of every row. -/
def largest (v : IVec S128x256 32) : IVec S128x1 32 :=
  shapeCast S128x1 (multiReductionI .maxsi [1] S128 v 2147483648#32 reduces_S128x256_S128 rfl) shapeCasts_S128_S128x1

theorem largest_apply (v : IVec S128x256 32) (p : Fin 128) :
    largest v (ix2 p 0) = Finset.fold IntOp.maxsi (2147483648#32) (fun x : Fin 256 => v (ix2 p x)) Finset.univ := by
  pointwise [largest]

/-- An infinite or undefined quotient takes the exponent field of infinity. -/
def guarded (q : FVec Ideal S128x1 .f32) (r : IVec S128x1 32) : IVec S128x1 32 :=
  select (cmpf .one (mulf q (broadcast S128x1 (Scalar.ofBits .f32 0x00000000#32))) (broadcast S128x1 (Scalar.ofBits .f32 0x00000000#32)))
    (broadcast S128x1 2139095040#32) r

theorem guarded_apply (q : FVec Ideal S128x1 .f32) (r : IVec S128x1 32) (p : Fin 128) :
    guarded q r (ix2 p 0) = if q (ix2 p 0) * 0 ≠ 0 then 2139095040#32 else r (ix2 p 0) := by
  pointwise [guarded]

/-- The exponent field zero is replaced. -/
def replaced (r : IVec S128x1 32) : IVec S128x1 32 :=
  select (cmpi .eq r (broadcast S128x1 0#32)) (broadcast S128x1 1056964608#32) r

theorem replaced_apply (r : IVec S128x1 32) (p : Fin 128) :
    replaced r (ix2 p 0) = Scalar.select (IntOp.cmpi .eq (r (ix2 p 0)) 0#32) 1056964608#32 (r (ix2 p 0)) := by
  pointwise [replaced]

/-- The exponent field the body computes is the one of the quotient. -/
theorem field_apply (q : FVec Ideal S128x1 .f32) (p : Fin 128) :
    k0_pay172 (F := Ideal) q lanes k0_pay171 (ix2 p 0) = Quantise.field (q (ix2 p 0)) := by
  have e : k0_pay172 (F := Ideal) q lanes k0_pay171 = replaced (guarded q (largest (kept q offers))) := rfl
  rw [e, replaced_apply, guarded_apply, largest_apply]
  refine Quantise.field_eq _ _ ?_
  refine Eq.trans ?_ (Quantise.fold_top (q (ix2 p 0)))
  congr 1
  funext x
  rw [kept_apply, offers_apply]

/-- The codes of a group. -/
def codesOf (d : FVec Ideal S128x128 .f32) : FVec Ideal S128x128 .fp8e5m2 := k0_pay174 d (rowQuot d) lanes k0_pay171

/-- The scales of a group. -/
def scaleOf (d : FVec Ideal S128x128 .f32) : FVec Ideal S128x1 .f32 := k0_pay173 (rowQuot d) lanes k0_pay171

/-- A group dequantised again. -/
def backOf (d : FVec Ideal S128x128 .f32) : FVec Ideal S128x128 .bf16 := k0_pay175 d (rowQuot d) lanes k0_pay171

theorem codes_word (d : FVec Ideal S128x128 .f32) (q : FVec Ideal S128x1 .f32) (I J : IVec S128x256 32) (p l : Fin 128) :
    k0_pay174 (F := Ideal) d q I J (ix2 p l)
      = min (Ideal.ofBits .f32 0x47600000#32) (max (Ideal.ofBits .f32 0xC7600000#32)
          (d (ix2 p l) * Ideal.ofBits .f32 (IntOp.subi 2122317824#32 (k0_pay172 (F := Ideal) q I J (ix2 p 0))))) := by
  pointwise [k0_pay174]

theorem scale_word (q : FVec Ideal S128x1 .f32) (I J : IVec S128x256 32) (p : Fin 128) :
    k0_pay173 (F := Ideal) q I J (ix2 p 0) = Ideal.ofBits .f32 (IntOp.addi (k0_pay172 (F := Ideal) q I J (ix2 p 0)) 8388608#32) := by
  pointwise [k0_pay173]

theorem back_word (d : FVec Ideal S128x128 .f32) (q : FVec Ideal S128x1 .f32) (I J : IVec S128x256 32) (p l : Fin 128) :
    k0_pay175 (F := Ideal) d q I J (ix2 p l)
      = k0_pay174 (F := Ideal) d q I J (ix2 p l) * k0_pay173 (F := Ideal) q I J (ix2 p 0) := by
  pointwise [k0_pay175]

/-- The scale of a group is the model's, of the row's quotient. -/
theorem scaleOf_apply (d : FVec Ideal S128x128 .f32) (p : Fin 128) :
    scaleOf d (ix2 p 0) = Quantise.scale (Model.quotient fun l => d (ix2 p l)) := by
  unfold scaleOf
  rw [scale_word, field_apply, rowQuot_apply, Quantise.field_scale _ (Model.quotient_nonneg _)]

/-- The code is the model's. -/
theorem codesOf_apply (d : FVec Ideal S128x128 .f32) (p l : Fin 128) :
    codesOf d (ix2 p l) = Model.clipped (d (ix2 p l)) (Quantise.scale (Model.quotient fun l => d (ix2 p l))) := by
  unfold codesOf
  rw [codes_word, field_apply, rowQuot_apply, Quantise.mul_field _ _ (Model.quotient_nonneg _)]
  rfl

/-- The dequantised group is the code times the scale. -/
theorem backOf_apply (d : FVec Ideal S128x128 .f32) (p l : Fin 128) :
    backOf d (ix2 p l) = codesOf d (ix2 p l) * scaleOf d (ix2 p 0) := back_word d (rowQuot d) lanes k0_pay171 p l

/-! ## The scales' array and the last product -/

/-- The column `J` of the array of scales takes the scale, the others stay. -/
def placed (J : BitVec 32) (s : FVec Ideal S128x1 .f32) (acc : FVec Ideal S128x128 .f32) : FVec Ideal S128x128 .f32 :=
  select (cmpi .eq (iota .tc S128x128 32 [1] iota_S128x128_d1_w32) (broadcast S128x128 J))
    (broadcastTo S128x128 (shapeCast S128x1 s shapeCasts_S128x1_S128x1) broadcasts_S128x1_S128x128) acc

theorem placed_apply (J : BitVec 32) (s : FVec Ideal S128x1 .f32) (acc : FVec Ideal S128x128 .f32) (p l : Fin 128) :
    placed J s acc (ix2 p l)
      = Scalar.select (IntOp.cmpi .eq (BitVec.ofNat 32 l.val) J) (s (ix2 p 0)) (acc (ix2 p l)) := by
  pointwise [placed]

/-- The columns that are results. -/
def columns (acc : FVec Ideal S128x128 .f32) : FVec Ideal S128x11 .f32 :=
  extractStridedSlice S128x11 ![0, 0] acc slices_S128x128_o0_0_S128x11

theorem columns_apply (acc : FVec Ideal S128x128 .f32) (p : Fin 128) (J : Fin 11) :
    columns acc (ix2 p J) = acc (ix2 p (⟨J.val, by omega⟩ : Fin 128)) := by
  pointwise [columns]

/-- The last product. -/
theorem last_apply (Z : FVec Ideal S128x1408 .bf16) (W : FVec Ideal S2048x1408 .bf16) (p : Fin 128) (k : Fin 2048) :
    k0_pay2 (F := Ideal) Z W (ix2 p k) = ∑ j : Fin 1408, Z (ix2 p j) * W (ix2 k j) := by
  pointwise [k0_pay2]

end Cert.KernelIdeal.Own
end
end
-- ==== Proof.Ideal.Pieces.lean ====
/- What the kernel body stores piece by piece, over variable operands: the dequantised blocks and weights, the codes, the
   codes dequantised again and the scales. Every list of pieces agrees with one function of the whole buffer's index. -/
module

public import proofs.«01_k».proof.Proof.Ideal.Tiles
public import Idealize.ShloMosaic.Lib.Pipeline.Value

@[expose] public section

set_option maxRecDepth 16384
set_option backward.proofsInPublic true

noncomputable section

namespace Cert.KernelIdeal.Own

open Cert.KernelIdeal Cert.KernelIdeal.Gen Idealize.ShloMosaic

/-! ## Lists of pieces that agree with one function -/

/-- Every piece of the list is the tile of `G` its rectangle names. -/
def Agrees {S : Shape} {e : EltTy} (G : S.Idx → Elt Ideal e) (L : List (View.Piece (Elt Ideal) S e)) : Prop :=
  ∀ p ∈ L, ∀ x : p.1.shape.Idx, p.2 x = G (p.1.emb x)

theorem Agrees.nil {S : Shape} {e : EltTy} (G : S.Idx → Elt Ideal e) : Agrees G [] :=
  fun _ h => absurd h List.not_mem_nil

theorem Agrees.cons {S : Shape} {e : EltTy} {G : S.Idx → Elt Ideal e} {r : Rect S} {w : r.shape.Idx → Elt Ideal e}
    {L : List (View.Piece (Elt Ideal) S e)} (h : ∀ x, w x = G (r.emb x)) (hL : Agrees G L) : Agrees G (⟨r, w⟩ :: L) := by
  intro p hp
  rcases List.mem_cons.1 hp with rfl | hp
  · exact h
  · exact hL p hp

/-- A covering list that agrees with `G` holds `G`. -/
theorem Agrees.canon {S : Shape} {e : EltTy} {G : S.Idx → Elt Ideal e} {L : List (View.Piece (Elt Ideal) S e)}
    (h : Agrees G L) (hc : ∀ y, ∃ p ∈ L, y ∈ p.1.set) : View.canon L = G :=
  funext fun y => View.canon_apply_of_pieces G L h y (hc y)

/-- A tile of a two-axis array, at an index. -/
theorem ld_tile {e : EltTy} {a b c d : ℕ} (S : (⟨2, ![a, b]⟩ : Shape).Idx → Elt Ideal e) (o1 o2 : ℕ)
    (inb : ∀ i, ![o1, o2] i + ![c, d] i ≤ (⟨2, ![a, b]⟩ : Shape).size i) (p : Fin c) (l : Fin d) :
    View.ld S (Rect.unit (s := ⟨2, ![a, b]⟩) ![o1, o2] ![c, d] inb) (ix2 p l)
      = S (ix2 ⟨o1 + p.val, Nat.lt_of_lt_of_le (Nat.add_lt_add_left p.isLt _) (inb 0)⟩
            ⟨o2 + l.val, Nat.lt_of_lt_of_le (Nat.add_lt_add_left l.isLt _) (inb 1)⟩) := by
  refine congrArg S (funext fun i => Fin.ext ?_)
  match i with
  | ⟨0, _⟩ => exact congrArg (o1 + ·) (Nat.one_mul _)
  | ⟨1, _⟩ => exact congrArg (o2 + ·) (Nat.one_mul _)

/-- Where a tile's index lies in the array. -/
theorem emb_tile {a b c d : ℕ} (o1 o2 : ℕ)
    (inb : ∀ i, ![o1, o2] i + ![c, d] i ≤ (⟨2, ![a, b]⟩ : Shape).size i) (p : Fin c) (l : Fin d) :
    (Rect.unit (s := ⟨2, ![a, b]⟩) ![o1, o2] ![c, d] inb).emb (ix2 p l)
      = ix2 ⟨o1 + p.val, Nat.lt_of_lt_of_le (Nat.add_lt_add_left p.isLt _) (inb 0)⟩
            ⟨o2 + l.val, Nat.lt_of_lt_of_le (Nat.add_lt_add_left l.isLt _) (inb 1)⟩ := by
  refine funext fun i => Fin.ext ?_
  match i with
  | ⟨0, _⟩ => exact congrArg (o1 + ·) (Nat.one_mul _)
  | ⟨1, _⟩ => exact congrArg (o2 + ·) (Nat.one_mul _)

/-- A load of a tile from a staging buffer that holds `x`. -/
theorem read_tile {sp : Space} {e : EltTy} {a b c d : ℕ} (v : View sig .tc sp ⟨2, ![a, b]⟩ e) (x : (⟨2, ![a, b]⟩ : Shape).Idx → Elt Ideal e)
    (o1 o2 : ℕ) (inb : ∀ i, ![o1, o2] i + ![c, d] i ≤ (⟨2, ![a, b]⟩ : Shape).size i) (p : Fin c) (l : Fin d) :
    View.readAt (Elt Ideal) v (Rect.unit (s := ⟨2, ![a, b]⟩) ![o1, o2] ![c, d] inb).toLoadRect (v.rep x) (ix2 p l)
      = x (ix2 ⟨o1 + p.val, Nat.lt_of_lt_of_le (Nat.add_lt_add_left p.isLt _) (inb 0)⟩
            ⟨o2 + l.val, Nat.lt_of_lt_of_le (Nat.add_lt_add_left l.isLt _) (inb 1)⟩) := by
  rw [View.readAt_rep]
  exact ld_tile x o1 o2 inb p l

/-! ## The dequantised blocks -/

/-- The input block dequantised: the code times the scale of its row and group. -/
def inputBlock (x0 : S128x2048.Idx → EReal) (x1 : S128x16.Idx → EReal) (i : S128x2048.Idx) : EReal :=
  x0 i * x1 (ix2 (i 0 : Fin 128) (Model.group16 (i 1)))

/-- A weight block of shape 2048 × 1408 dequantised: the code times the scale of its tile. -/
def weight1Block (x2 : S2048x1408.Idx → EReal) (x4 : S1x16x11.Idx → EReal) (i : S2048x1408.Idx) : EReal :=
  x2 i * x4 (ix3 (0 : Fin 1) (Model.group16 (i 0)) (Model.group (i 1)))

/-- A weight block of shape 1408 × 2048 dequantised. -/
def weight2Block (x3 : S1408x2048.Idx → EReal) (x5 : S1x11x16.Idx → EReal) (i : S1408x2048.Idx) : EReal :=
  x3 i * x5 (ix3 (0 : Fin 1) (Model.group (i 0)) (Model.group16 (i 1)))

theorem input_piece {sp sp' : Space} (v : View sig .tc sp S128x2048 .fp8e4m3) (v' : View sig .tc sp' S128x16 .f32)
    (x0 : S128x2048.Idx → EReal) (x1 : S128x16.Idx → EReal) (o g : ℕ) (h : o = 128 * g)
    (inb : ∀ i, ![0, o] i + S128x128.size i ≤ S128x2048.size i) (inb' : ∀ i, ![0, g] i + S128x1.size i ≤ S128x16.size i)
    (x : S128x128.Idx) :
    k0_pay73 (F := Ideal) (View.readAt (Elt Ideal) v (Rect.unit (s := S128x2048) ![0, o] S128x128.size inb).toLoadRect (v.rep x0))
      (View.readAt (Elt Ideal) v' (Rect.unit (s := S128x16) ![0, g] S128x1.size inb').toLoadRect (v'.rep x1)) x
      = inputBlock x0 x1 ((Rect.unit (s := S128x2048) ![0, o] S128x128.size inb).emb x) := by
  subst h
  obtain ⟨p, l, rfl⟩ : ∃ (p l : Fin 128), x = ix2 p l := ⟨x 0, x 1, eq_ix2 x⟩
  refine (input_tile _ _ p l).trans ?_
  rw [show (Rect.unit (s := S128x2048) ![0, 128 * g] S128x128.size inb).emb (ix2 p l) = _ from emb_tile 0 (128 * g) inb p l]
  unfold inputBlock
  refine congrArg₂ (· * ·) (read_tile v x0 0 (128 * g) inb p l) ((read_tile v' x1 0 g inb' p 0).trans ?_)
  refine congrArg x1 (congrArg₂ ix2 (Fin.ext rfl) (Fin.ext ?_))
  simp only [Model.group16]
  show g + 0 = (128 * g + l.val) / 128
  omega

theorem grad_piece {sp sp' : Space} (v : View sig .tc sp S128x2048 .fp8e5m2) (v' : View sig .tc sp' S128x16 .f32)
    (x0 : S128x2048.Idx → EReal) (x1 : S128x16.Idx → EReal) (o g : ℕ) (h : o = 128 * g)
    (inb : ∀ i, ![0, o] i + S128x128.size i ≤ S128x2048.size i) (inb' : ∀ i, ![0, g] i + S128x1.size i ≤ S128x16.size i)
    (x : S128x128.Idx) :
    k0_pay74 (F := Ideal) (View.readAt (Elt Ideal) v (Rect.unit (s := S128x2048) ![0, o] S128x128.size inb).toLoadRect (v.rep x0))
      (View.readAt (Elt Ideal) v' (Rect.unit (s := S128x16) ![0, g] S128x1.size inb').toLoadRect (v'.rep x1)) x
      = inputBlock x0 x1 ((Rect.unit (s := S128x2048) ![0, o] S128x128.size inb).emb x) := by
  subst h
  obtain ⟨p, l, rfl⟩ : ∃ (p l : Fin 128), x = ix2 p l := ⟨x 0, x 1, eq_ix2 x⟩
  refine (grad_tile _ _ p l).trans ?_
  rw [show (Rect.unit (s := S128x2048) ![0, 128 * g] S128x128.size inb).emb (ix2 p l) = _ from emb_tile 0 (128 * g) inb p l]
  unfold inputBlock
  refine congrArg₂ (· * ·) (read_tile v x0 0 (128 * g) inb p l) ((read_tile v' x1 0 g inb' p 0).trans ?_)
  refine congrArg x1 (congrArg₂ ix2 (Fin.ext rfl) (Fin.ext ?_))
  simp only [Model.group16]
  show g + 0 = (128 * g + l.val) / 128
  omega

theorem weight1_piece {sp sp' : Space} (v : View sig .tc sp S2048x1408 .fp8e4m3) (v' : View sig .tc sp' S1x16x11 .f32)
    (x2 : S2048x1408.Idx → EReal) (x4 : S1x16x11.Idx → EReal) (o1 o2 g1 g2 : ℕ) (h1 : o1 = 128 * g1) (h2 : o2 = 128 * g2)
    (inb : ∀ i, ![o1, o2] i + S128x128.size i ≤ S2048x1408.size i)
    (inb' : ∀ i, ![0, g1, g2] i + S1x1x1.size i ≤ S1x16x11.size i) (x : S128x128.Idx) :
    k0_pay3 (F := Ideal) (View.readAt (Elt Ideal) v (Rect.unit (s := S2048x1408) ![o1, o2] S128x128.size inb).toLoadRect (v.rep x2))
      (View.readAt (Elt Ideal) v' (Rect.unit (s := S1x16x11) ![0, g1, g2] S1x1x1.size inb').toLoadRect (v'.rep x4)) x
      = weight1Block x2 x4 ((Rect.unit (s := S2048x1408) ![o1, o2] S128x128.size inb).emb x) := by
  subst h1 h2
  obtain ⟨p, l, rfl⟩ : ∃ (p l : Fin 128), x = ix2 p l := ⟨x 0, x 1, eq_ix2 x⟩
  refine (weight_tile _ _ p l).trans ?_
  rw [show (Rect.unit (s := S2048x1408) ![128 * g1, 128 * g2] S128x128.size inb).emb (ix2 p l) = _ from emb_tile (128 * g1) (128 * g2) inb p l]
  unfold weight1Block
  refine congrArg₂ (· * ·) (read_tile v x2 (128 * g1) (128 * g2) inb p l) ?_
  rw [View.readAt_rep]
  refine congrArg x4 (funext fun i => Fin.ext ?_)
  match i with
  | ⟨0, _⟩ => rfl
  | ⟨1, _⟩ => show g1 + 1 * 0 = (128 * g1 + p.val) / 128; omega
  | ⟨2, _⟩ => show g2 + 1 * 0 = (128 * g2 + l.val) / 128; omega

theorem weight2_piece {sp sp' : Space} (v : View sig .tc sp S1408x2048 .fp8e4m3) (v' : View sig .tc sp' S1x11x16 .f32)
    (x3 : S1408x2048.Idx → EReal) (x5 : S1x11x16.Idx → EReal) (o1 o2 g1 g2 : ℕ) (h1 : o1 = 128 * g1) (h2 : o2 = 128 * g2)
    (inb : ∀ i, ![o1, o2] i + S128x128.size i ≤ S1408x2048.size i)
    (inb' : ∀ i, ![0, g1, g2] i + S1x1x1.size i ≤ S1x11x16.size i) (x : S128x128.Idx) :
    k0_pay3 (F := Ideal) (View.readAt (Elt Ideal) v (Rect.unit (s := S1408x2048) ![o1, o2] S128x128.size inb).toLoadRect (v.rep x3))
      (View.readAt (Elt Ideal) v' (Rect.unit (s := S1x11x16) ![0, g1, g2] S1x1x1.size inb').toLoadRect (v'.rep x5)) x
      = weight2Block x3 x5 ((Rect.unit (s := S1408x2048) ![o1, o2] S128x128.size inb).emb x) := by
  subst h1 h2
  obtain ⟨p, l, rfl⟩ : ∃ (p l : Fin 128), x = ix2 p l := ⟨x 0, x 1, eq_ix2 x⟩
  refine (weight_tile _ _ p l).trans ?_
  rw [show (Rect.unit (s := S1408x2048) ![128 * g1, 128 * g2] S128x128.size inb).emb (ix2 p l) = _ from emb_tile (128 * g1) (128 * g2) inb p l]
  unfold weight2Block
  refine congrArg₂ (· * ·) (read_tile v x3 (128 * g1) (128 * g2) inb p l) ?_
  rw [View.readAt_rep]
  refine congrArg x5 (funext fun i => Fin.ext ?_)
  match i with
  | ⟨0, _⟩ => rfl
  | ⟨1, _⟩ => show g1 + 1 * 0 = (128 * g1 + p.val) / 128; omega
  | ⟨2, _⟩ => show g2 + 1 * 0 = (128 * g2 + l.val) / 128; omega

/-! ## The tiles of the gradient -/

section

variable (XS D : FVec Ideal S128x2048 .bf16) (S0 : FVec Ideal S2048x1408 .bf16) (S1 : FVec Ideal S1408x2048 .bf16)

/-- The model's gradient of the whole block, from the dequantised operands. -/
abbrev daOf (p : Fin 128) (j : Fin 1408) : EReal :=
  Model.da (fun p k => XS (ix2 p k)) (fun p k => D (ix2 p k)) (fun k j => S0 (ix2 k j)) (fun j k => S1 (ix2 j k)) p j

/-- The model's scale. -/
abbrev scOf (p : Fin 128) (J : Fin 11) : EReal :=
  Model.sc (fun p k => XS (ix2 p k)) (fun p k => D (ix2 p k)) (fun k j => S0 (ix2 k j)) (fun j k => S1 (ix2 j k)) p J

/-- The model's code. -/
abbrev codeOf (p : Fin 128) (j : Fin 1408) : EReal :=
  Model.code (fun p k => XS (ix2 p k)) (fun p k => D (ix2 p k)) (fun k j => S0 (ix2 k j)) (fun j k => S1 (ix2 j k)) p j

theorem wide_da (o : ℕ) (h : o + 256 ≤ 1408) (inb : ∀ i, ![0, o] i + S2048x256.size i ≤ S2048x1408.size i)
    (inb' : ∀ i, ![o, 0] i + S256x2048.size i ≤ S1408x2048.size i) (p : Fin 128) (l : Fin 256) :
    wide XS (View.ld (Val := Elt Ideal) (e' := .bf16) S0 (Rect.unit (s := S2048x1408) ![0, o] S2048x256.size inb)) D (View.ld (Val := Elt Ideal) (e' := .bf16) S1 (Rect.unit (s := S1408x2048) ![o, 0] S256x2048.size inb')) (ix2 p l)
      = daOf XS D S0 S1 p ⟨o + l.val, by omega⟩ := by
  rw [wide_apply]
  unfold daOf Model.da
  refine congrArg₂ Model.gelu (Finset.sum_congr rfl fun k _ => congrArg (_ * ·) ?_) (Finset.sum_congr rfl fun k _ => congrArg (_ * ·) ?_)
  · refine (ld_tile (e := .bf16) S0 0 o inb k l).trans (congrArg S0 (congrArg₂ ix2 (Fin.ext ?_) (Fin.ext rfl)))
    exact Nat.zero_add _
  · refine (ld_tile (e := .bf16) S1 o 0 inb' l k).trans (congrArg S1 (congrArg₂ ix2 (Fin.ext rfl) (Fin.ext ?_)))
    exact Nat.zero_add _

theorem narrow_da (inb : ∀ i, ![0, 1280] i + S2048x128.size i ≤ S2048x1408.size i)
    (inb' : ∀ i, ![1280, 0] i + S128x2048.size i ≤ S1408x2048.size i) (p : Fin 128) (l : Fin 128) :
    k0_pay169 (F := Ideal) XS (View.ld (Val := Elt Ideal) (e' := .bf16) S0 (Rect.unit (s := S2048x1408) ![0, 1280] S2048x128.size inb)) D (View.ld (Val := Elt Ideal) (e' := .bf16) S1 (Rect.unit (s := S1408x2048) ![1280, 0] S128x2048.size inb')) (ix2 p l)
      = daOf XS D S0 S1 p ⟨1280 + l.val, by omega⟩ := by
  rw [narrow_apply]
  unfold daOf Model.da
  refine congrArg₂ Model.gelu (Finset.sum_congr rfl fun k _ => congrArg (_ * ·) ?_) (Finset.sum_congr rfl fun k _ => congrArg (_ * ·) ?_)
  · refine (ld_tile (e := .bf16) S0 0 1280 inb k l).trans (congrArg S0 (congrArg₂ ix2 (Fin.ext ?_) (Fin.ext rfl)))
    exact Nat.zero_add _
  · refine (ld_tile (e := .bf16) S1 1280 0 inb' l k).trans (congrArg S1 (congrArg₂ ix2 (Fin.ext rfl) (Fin.ext ?_)))
    exact Nat.zero_add _

/-- A group's tile holds the model's gradient. -/
def IsGroup (J : Fin 11) (d : FVec Ideal S128x128 .f32) : Prop := ∀ p l : Fin 128, d (ix2 p l) = daOf XS D S0 S1 p (Model.lane J l)

/-- A wide tile holds the model's gradient from column `o`. -/
def IsWide (o : ℕ) (h : o + 256 ≤ 1408) (t : FVec Ideal S128x256 .f32) : Prop :=
  ∀ (p : Fin 128) (l : Fin 256), t (ix2 p l) = daOf XS D S0 S1 p ⟨o + l.val, by omega⟩

variable {XS D S0 S1}

theorem IsWide.lower {o : ℕ} {h : o + 256 ≤ 1408} {t : FVec Ideal S128x256 .f32} (ht : IsWide XS D S0 S1 o h t) (J : Fin 11)
    (hJ : o = 128 * J.val) : IsGroup XS D S0 S1 J (lower t) := fun p l => by
  rw [lower_apply, ht]
  exact congrArg (daOf XS D S0 S1 p) (Fin.ext (congrArg (· + l.val) hJ))

theorem IsWide.upper {o : ℕ} {h : o + 256 ≤ 1408} {t : FVec Ideal S128x256 .f32} (ht : IsWide XS D S0 S1 o h t) (J : Fin 11)
    (hJ : o + 128 = 128 * J.val) : IsGroup XS D S0 S1 J (upper t) := fun p l => by
  rw [upper_apply, ht]
  refine congrArg (daOf XS D S0 S1 p) (Fin.ext ?_)
  show o + (128 + l.val) = 128 * J.val + l.val
  omega

theorem IsGroup.scale {J : Fin 11} {d : FVec Ideal S128x128 .f32} (hd : IsGroup XS D S0 S1 J d) (p : Fin 128) :
    scaleOf d (ix2 p 0) = scOf XS D S0 S1 p J := by
  rw [scaleOf_apply, funext (hd p)]
  rfl

theorem IsGroup.code {J : Fin 11} {d : FVec Ideal S128x128 .f32} (hd : IsGroup XS D S0 S1 J d) (p l : Fin 128) :
    codesOf d (ix2 p l) = codeOf XS D S0 S1 p (Model.lane J l) := by
  rw [codesOf_apply, funext (hd p), hd p l]
  unfold codeOf Model.code
  rw [Model.group_lane]
  rfl

theorem IsGroup.back {J : Fin 11} {d : FVec Ideal S128x128 .f32} (hd : IsGroup XS D S0 S1 J d) (p l : Fin 128) :
    backOf d (ix2 p l) = codeOf XS D S0 S1 p (Model.lane J l) * scOf XS D S0 S1 p J := by
  rw [backOf_apply, hd.code, hd.scale]

theorem IsGroup.code_piece {J : Fin 11} {d : FVec Ideal S128x128 .f32} (hd : IsGroup XS D S0 S1 J d) (o : ℕ) (h : o = 128 * J.val)
    (inb : ∀ i, ![0, o] i + S128x128.size i ≤ S128x1408.size i) (x : S128x128.Idx) :
    codesOf d x = (fun i : S128x1408.Idx => codeOf XS D S0 S1 (i 0) (i 1)) ((Rect.unit (s := S128x1408) ![0, o] S128x128.size inb).emb x) := by
  obtain ⟨p, l, rfl⟩ : ∃ (p l : Fin 128), x = ix2 p l := ⟨x 0, x 1, eq_ix2 x⟩
  rw [hd.code, show (Rect.unit (s := S128x1408) ![0, o] S128x128.size inb).emb (ix2 p l) = _ from emb_tile 0 o inb p l]
  refine congrArg₂ (codeOf XS D S0 S1) (Fin.ext ?_) (Fin.ext ?_)
  · exact (Nat.zero_add _).symm
  · exact congrArg (· + l.val) h.symm

theorem IsGroup.back_piece {J : Fin 11} {d : FVec Ideal S128x128 .f32} (hd : IsGroup XS D S0 S1 J d) (o : ℕ) (h : o = 128 * J.val)
    (inb : ∀ i, ![0, o] i + S128x128.size i ≤ S128x1408.size i) (x : S128x128.Idx) :
    backOf d x = (fun i : S128x1408.Idx => codeOf XS D S0 S1 (i 0) (i 1) * scOf XS D S0 S1 (i 0) (Model.group (i 1)))
      ((Rect.unit (s := S128x1408) ![0, o] S128x128.size inb).emb x) := by
  obtain ⟨p, l, rfl⟩ : ∃ (p l : Fin 128), x = ix2 p l := ⟨x 0, x 1, eq_ix2 x⟩
  rw [hd.back, show (Rect.unit (s := S128x1408) ![0, o] S128x128.size inb).emb (ix2 p l) = _ from emb_tile 0 o inb p l]
  have e0 : (⟨0 + p.val, by omega⟩ : Fin 128) = p := Fin.ext (Nat.zero_add _)
  have e1 : (⟨o + l.val, by omega⟩ : Fin 1408) = Model.lane J l := Fin.ext (congrArg (· + l.val) h)
  show _ = codeOf XS D S0 S1 (⟨0 + p.val, by omega⟩ : Fin 128) (⟨o + l.val, by omega⟩ : Fin 1408)
    * scOf XS D S0 S1 (⟨0 + p.val, by omega⟩ : Fin 128) (Model.group (⟨o + l.val, by omega⟩ : Fin 1408))
  rw [e0, e1, Model.group_lane]

end

/-! ## The three lists, from the six tiles -/

/-- The pieces of the codes. -/
def codeList (t0 t1 t2 t3 t4 : FVec Ideal S128x256 .f32) (t5 : FVec Ideal S128x128 .f32) :
    List (View.Piece (Elt Ideal) S128x1408 .fp8e5m2) :=
  [⟨Rect.unit (s := S128x1408) ![0, 1280] S128x128.size inb_S128x1408_S128x128_0_1280, codesOf t5⟩,
   ⟨Rect.unit (s := S128x1408) ![0, 1152] S128x128.size inb_S128x1408_S128x128_0_1152, codesOf (upper t4)⟩,
   ⟨Rect.unit (s := S128x1408) ![0, 1024] S128x128.size inb_S128x1408_S128x128_0_1024, codesOf (lower t4)⟩,
   ⟨Rect.unit (s := S128x1408) ![0, 896] S128x128.size inb_S128x1408_S128x128_0_896, codesOf (upper t3)⟩,
   ⟨Rect.unit (s := S128x1408) ![0, 768] S128x128.size inb_S128x1408_S128x128_0_768, codesOf (lower t3)⟩,
   ⟨Rect.unit (s := S128x1408) ![0, 640] S128x128.size inb_S128x1408_S128x128_0_640, codesOf (upper t2)⟩,
   ⟨Rect.unit (s := S128x1408) ![0, 512] S128x128.size inb_S128x1408_S128x128_0_512, codesOf (lower t2)⟩,
   ⟨Rect.unit (s := S128x1408) ![0, 384] S128x128.size inb_S128x1408_S128x128_0_384, codesOf (upper t1)⟩,
   ⟨Rect.unit (s := S128x1408) ![0, 256] S128x128.size inb_S128x1408_S128x128_0_256, codesOf (lower t1)⟩,
   ⟨Rect.unit (s := S128x1408) ![0, 128] S128x128.size inb_S128x1408_S128x128_0_128, codesOf (upper t0)⟩,
   ⟨Rect.unit (s := S128x1408) ![0, 0] S128x128.size inb_S128x1408_S128x128_0_0, codesOf (lower t0)⟩]

/-- The pieces of the codes dequantised again. -/
def backList (t0 t1 t2 t3 t4 : FVec Ideal S128x256 .f32) (t5 : FVec Ideal S128x128 .f32) :
    List (View.Piece (Elt Ideal) S128x1408 .bf16) :=
  [⟨Rect.unit (s := S128x1408) ![0, 1280] S128x128.size inb_S128x1408_S128x128_0_1280, backOf t5⟩,
   ⟨Rect.unit (s := S128x1408) ![0, 1152] S128x128.size inb_S128x1408_S128x128_0_1152, backOf (upper t4)⟩,
   ⟨Rect.unit (s := S128x1408) ![0, 1024] S128x128.size inb_S128x1408_S128x128_0_1024, backOf (lower t4)⟩,
   ⟨Rect.unit (s := S128x1408) ![0, 896] S128x128.size inb_S128x1408_S128x128_0_896, backOf (upper t3)⟩,
   ⟨Rect.unit (s := S128x1408) ![0, 768] S128x128.size inb_S128x1408_S128x128_0_768, backOf (lower t3)⟩,
   ⟨Rect.unit (s := S128x1408) ![0, 640] S128x128.size inb_S128x1408_S128x128_0_640, backOf (upper t2)⟩,
   ⟨Rect.unit (s := S128x1408) ![0, 512] S128x128.size inb_S128x1408_S128x128_0_512, backOf (lower t2)⟩,
   ⟨Rect.unit (s := S128x1408) ![0, 384] S128x128.size inb_S128x1408_S128x128_0_384, backOf (upper t1)⟩,
   ⟨Rect.unit (s := S128x1408) ![0, 256] S128x128.size inb_S128x1408_S128x128_0_256, backOf (lower t1)⟩,
   ⟨Rect.unit (s := S128x1408) ![0, 128] S128x128.size inb_S128x1408_S128x128_0_128, backOf (upper t0)⟩,
   ⟨Rect.unit (s := S128x1408) ![0, 0] S128x128.size inb_S128x1408_S128x128_0_0, backOf (lower t0)⟩]

/-- A column of the array of scales takes the scale when it is the column placed. -/
theorem placed_self (J : ℕ) (h : J < 128) (s : FVec Ideal S128x1 .f32) (acc : FVec Ideal S128x128 .f32) (p : Fin 128) :
    placed (BitVec.ofNat 32 J) s acc (ix2 p ⟨J, h⟩) = s (ix2 p 0) := by
  rw [placed_apply]
  unfold Scalar.select IntOp.cmpi
  simp

/-- It stays when it is another one. -/
theorem placed_ne (J l : ℕ) (hJ : J < 128) (hl : l < 128) (hne : l ≠ J) (s : FVec Ideal S128x1 .f32) (acc : FVec Ideal S128x128 .f32) (p : Fin 128) :
    placed (BitVec.ofNat 32 J) s acc (ix2 p ⟨l, hl⟩) = acc (ix2 p ⟨l, hl⟩) := by
  rw [placed_apply]
  have : ¬ BitVec.ofNat 32 l = BitVec.ofNat 32 J := by
    intro h
    have := congrArg BitVec.toNat h
    rw [BitVec.toNat_ofNat, BitVec.toNat_ofNat] at this
    omega
  unfold Scalar.select IntOp.cmpi
  simp only [beq_eq_false_iff_ne.2 this]
  rfl

/-- The array of scales, column by column. -/
def scaleArray (t0 t1 t2 t3 t4 : FVec Ideal S128x256 .f32) (t5 : FVec Ideal S128x128 .f32) : FVec Ideal S128x11 .f32 :=
  columns (placed 10#32 (scaleOf t5) (placed 9#32 (scaleOf (upper t4)) (placed 8#32 (scaleOf (lower t4))
    (placed 7#32 (scaleOf (upper t3)) (placed 6#32 (scaleOf (lower t3)) (placed 5#32 (scaleOf (upper t2))
      (placed 4#32 (scaleOf (lower t2)) (placed 3#32 (scaleOf (upper t1)) (placed 2#32 (scaleOf (lower t1))
        (placed 1#32 (scaleOf (upper t0)) (placed 0#32 (scaleOf (lower t0)) k0_pay75)))))))))))

section

variable {XS D : FVec Ideal S128x2048 .bf16} {S0 : FVec Ideal S2048x1408 .bf16} {S1 : FVec Ideal S1408x2048 .bf16}
  {t0 t1 t2 t3 t4 : FVec Ideal S128x256 .f32} {t5 : FVec Ideal S128x128 .f32}
  (h0 : IsWide XS D S0 S1 0 (by omega) t0) (h1 : IsWide XS D S0 S1 256 (by omega) t1) (h2 : IsWide XS D S0 S1 512 (by omega) t2)
  (h3 : IsWide XS D S0 S1 768 (by omega) t3) (h4 : IsWide XS D S0 S1 1024 (by omega) t4) (h5 : IsGroup XS D S0 S1 10 t5)

include h0 h1 h2 h3 h4 h5

theorem codeList_agrees : Agrees (fun i : S128x1408.Idx => codeOf XS D S0 S1 (i 0) (i 1)) (codeList t0 t1 t2 t3 t4 t5) :=
  .cons (h5.code_piece 1280 rfl _) <| .cons ((h4.upper 9 rfl).code_piece 1152 rfl _) <| .cons ((h4.lower 8 rfl).code_piece 1024 rfl _) <|
  .cons ((h3.upper 7 rfl).code_piece 896 rfl _) <| .cons ((h3.lower 6 rfl).code_piece 768 rfl _) <|
  .cons ((h2.upper 5 rfl).code_piece 640 rfl _) <| .cons ((h2.lower 4 rfl).code_piece 512 rfl _) <|
  .cons ((h1.upper 3 rfl).code_piece 384 rfl _) <| .cons ((h1.lower 2 rfl).code_piece 256 rfl _) <|
  .cons ((h0.upper 1 rfl).code_piece 128 rfl _) <| .cons ((h0.lower 0 rfl).code_piece 0 rfl _) <| .nil _

theorem backList_agrees :
    Agrees (fun i : S128x1408.Idx => codeOf XS D S0 S1 (i 0) (i 1) * scOf XS D S0 S1 (i 0) (Model.group (i 1))) (backList t0 t1 t2 t3 t4 t5) :=
  .cons (h5.back_piece 1280 rfl _) <| .cons ((h4.upper 9 rfl).back_piece 1152 rfl _) <| .cons ((h4.lower 8 rfl).back_piece 1024 rfl _) <|
  .cons ((h3.upper 7 rfl).back_piece 896 rfl _) <| .cons ((h3.lower 6 rfl).back_piece 768 rfl _) <|
  .cons ((h2.upper 5 rfl).back_piece 640 rfl _) <| .cons ((h2.lower 4 rfl).back_piece 512 rfl _) <|
  .cons ((h1.upper 3 rfl).back_piece 384 rfl _) <| .cons ((h1.lower 2 rfl).back_piece 256 rfl _) <|
  .cons ((h0.upper 1 rfl).back_piece 128 rfl _) <| .cons ((h0.lower 0 rfl).back_piece 0 rfl _) <| .nil _

theorem scaleArray_apply (p : Fin 128) (J : Fin 11) : scaleArray t0 t1 t2 t3 t4 t5 (ix2 p J) = scOf XS D S0 S1 p J := by
  unfold scaleArray
  rw [columns_apply]
  match J with
  | ⟨0, _⟩ =>
    exact (placed_ne 10 0 (by decide) (by decide) (by decide) _ _ p).trans <| (placed_ne 9 0 (by decide) (by decide) (by decide) _ _ p).trans <| (placed_ne 8 0 (by decide) (by decide) (by decide) _ _ p).trans <| (placed_ne 7 0 (by decide) (by decide) (by decide) _ _ p).trans <| (placed_ne 6 0 (by decide) (by decide) (by decide) _ _ p).trans <| (placed_ne 5 0 (by decide) (by decide) (by decide) _ _ p).trans <| (placed_ne 4 0 (by decide) (by decide) (by decide) _ _ p).trans <| (placed_ne 3 0 (by decide) (by decide) (by decide) _ _ p).trans <| (placed_ne 2 0 (by decide) (by decide) (by decide) _ _ p).trans <| (placed_ne 1 0 (by decide) (by decide) (by decide) _ _ p).trans <| (placed_self 0 (by decide) _ _ p).trans ((h0.lower 0 rfl).scale p)
  | ⟨1, _⟩ =>
    exact (placed_ne 10 1 (by decide) (by decide) (by decide) _ _ p).trans <| (placed_ne 9 1 (by decide) (by decide) (by decide) _ _ p).trans <| (placed_ne 8 1 (by decide) (by decide) (by decide) _ _ p).trans <| (placed_ne 7 1 (by decide) (by decide) (by decide) _ _ p).trans <| (placed_ne 6 1 (by decide) (by decide) (by decide) _ _ p).trans <| (placed_ne 5 1 (by decide) (by decide) (by decide) _ _ p).trans <| (placed_ne 4 1 (by decide) (by decide) (by decide) _ _ p).trans <| (placed_ne 3 1 (by decide) (by decide) (by decide) _ _ p).trans <| (placed_ne 2 1 (by decide) (by decide) (by decide) _ _ p).trans <| (placed_self 1 (by decide) _ _ p).trans ((h0.upper 1 rfl).scale p)
  | ⟨2, _⟩ =>
    exact (placed_ne 10 2 (by decide) (by decide) (by decide) _ _ p).trans <| (placed_ne 9 2 (by decide) (by decide) (by decide) _ _ p).trans <| (placed_ne 8 2 (by decide) (by decide) (by decide) _ _ p).trans <| (placed_ne 7 2 (by decide) (by decide) (by decide) _ _ p).trans <| (placed_ne 6 2 (by decide) (by decide) (by decide) _ _ p).trans <| (placed_ne 5 2 (by decide) (by decide) (by decide) _ _ p).trans <| (placed_ne 4 2 (by decide) (by decide) (by decide) _ _ p).trans <| (placed_ne 3 2 (by decide) (by decide) (by decide) _ _ p).trans <| (placed_self 2 (by decide) _ _ p).trans ((h1.lower 2 rfl).scale p)
  | ⟨3, _⟩ =>
    exact (placed_ne 10 3 (by decide) (by decide) (by decide) _ _ p).trans <| (placed_ne 9 3 (by decide) (by decide) (by decide) _ _ p).trans <| (placed_ne 8 3 (by decide) (by decide) (by decide) _ _ p).trans <| (placed_ne 7 3 (by decide) (by decide) (by decide) _ _ p).trans <| (placed_ne 6 3 (by decide) (by decide) (by decide) _ _ p).trans <| (placed_ne 5 3 (by decide) (by decide) (by decide) _ _ p).trans <| (placed_ne 4 3 (by decide) (by decide) (by decide) _ _ p).trans <| (placed_self 3 (by decide) _ _ p).trans ((h1.upper 3 rfl).scale p)
  | ⟨4, _⟩ =>
    exact (placed_ne 10 4 (by decide) (by decide) (by decide) _ _ p).trans <| (placed_ne 9 4 (by decide) (by decide) (by decide) _ _ p).trans <| (placed_ne 8 4 (by decide) (by decide) (by decide) _ _ p).trans <| (placed_ne 7 4 (by decide) (by decide) (by decide) _ _ p).trans <| (placed_ne 6 4 (by decide) (by decide) (by decide) _ _ p).trans <| (placed_ne 5 4 (by decide) (by decide) (by decide) _ _ p).trans <| (placed_self 4 (by decide) _ _ p).trans ((h2.lower 4 rfl).scale p)
  | ⟨5, _⟩ =>
    exact (placed_ne 10 5 (by decide) (by decide) (by decide) _ _ p).trans <| (placed_ne 9 5 (by decide) (by decide) (by decide) _ _ p).trans <| (placed_ne 8 5 (by decide) (by decide) (by decide) _ _ p).trans <| (placed_ne 7 5 (by decide) (by decide) (by decide) _ _ p).trans <| (placed_ne 6 5 (by decide) (by decide) (by decide) _ _ p).trans <| (placed_self 5 (by decide) _ _ p).trans ((h2.upper 5 rfl).scale p)
  | ⟨6, _⟩ =>
    exact (placed_ne 10 6 (by decide) (by decide) (by decide) _ _ p).trans <| (placed_ne 9 6 (by decide) (by decide) (by decide) _ _ p).trans <| (placed_ne 8 6 (by decide) (by decide) (by decide) _ _ p).trans <| (placed_ne 7 6 (by decide) (by decide) (by decide) _ _ p).trans <| (placed_self 6 (by decide) _ _ p).trans ((h3.lower 6 rfl).scale p)
  | ⟨7, _⟩ =>
    exact (placed_ne 10 7 (by decide) (by decide) (by decide) _ _ p).trans <| (placed_ne 9 7 (by decide) (by decide) (by decide) _ _ p).trans <| (placed_ne 8 7 (by decide) (by decide) (by decide) _ _ p).trans <| (placed_self 7 (by decide) _ _ p).trans ((h3.upper 7 rfl).scale p)
  | ⟨8, _⟩ =>
    exact (placed_ne 10 8 (by decide) (by decide) (by decide) _ _ p).trans <| (placed_ne 9 8 (by decide) (by decide) (by decide) _ _ p).trans <| (placed_self 8 (by decide) _ _ p).trans ((h4.lower 8 rfl).scale p)
  | ⟨9, _⟩ =>
    exact (placed_ne 10 9 (by decide) (by decide) (by decide) _ _ p).trans <| (placed_self 9 (by decide) _ _ p).trans ((h4.upper 9 rfl).scale p)
  | ⟨10, _⟩ =>
    exact (placed_self 10 (by decide) _ _ p).trans (h5.scale p)

end

end Cert.KernelIdeal.Own
end
end
-- ==== Proof.Ideal.Tile.lean ====
/- The six tiles of the gradient from whole operands, what the three lists made of them hold, and two facts on lists of
   pieces read back. -/
module

public import proofs.«01_k».proof.Proof.Ideal.Pieces

@[expose] public section

set_option maxRecDepth 16384
set_option backward.proofsInPublic true

noncomputable section

namespace Cert.KernelIdeal.Own

open Cert.KernelIdeal Cert.KernelIdeal.Gen Idealize.ShloMosaic Idealize.ShloMosaic.Tactic
open Idealize.SL Idealize.SL.ProofMode

/-- A load of a rectangle from a buffer filled by pieces that agree with `G` reads `G`. -/
theorem Agrees.readCov {S : Shape} {e : EltTy} {G : S.Idx → Elt Ideal e} {L : List (View.Piece (Elt Ideal) S e)}
    (h : Agrees G L) (hc : ∀ y, ∃ p ∈ L, y ∈ p.1.set) {sp : Space} (v : View sig .tc sp S e) (r : Rect S) :
    v.readCov L r.toLoadRect = View.ld G r :=
  (View.readCov_eq_canon_ld v L r hc).trans (congrArg (fun X => View.ld X r) (h.canon hc))

theorem zero2 : (![0, 0] : Fin 2 → ℕ) = fun _ => 0 := funext fun a => by fin_cases a <;> rfl

/-- A load of the whole buffer reads `G`. -/
theorem Agrees.readCov_whole {a b : ℕ} {e : EltTy} {G : (⟨2, ![a, b]⟩ : Shape).Idx → Elt Ideal e}
    {L : List (View.Piece (Elt Ideal) (⟨2, ![a, b]⟩ : Shape) e)}
    (h : Agrees G L) (hc : ∀ y, ∃ p ∈ L, y ∈ p.1.set) {sp : Space} (v : View sig .tc sp (⟨2, ![a, b]⟩ : Shape) e)
    (inb : ∀ i, ![0, 0] i + (⟨2, ![a, b]⟩ : Shape).size i ≤ (⟨2, ![a, b]⟩ : Shape).size i) :
    v.readCov L (Rect.unit (s := ⟨2, ![a, b]⟩) ![0, 0] (⟨2, ![a, b]⟩ : Shape).size inb).toLoadRect = G :=
  (h.readCov hc v _).trans (View.ld_unit_zero zero2 inb G)

/-- What a filled buffer reads. -/
theorem Agrees.read_junk {S : Shape} {e : EltTy} {G : S.Idx → Elt Ideal e} {L : List (View.Piece (Elt Ideal) S e)}
    (h : Agrees G L) (hc : ∀ y, ∃ p ∈ L, y ∈ p.1.set) {sp : Space} (v : View sig .tc sp S e) :
    v.read (Elt Ideal) (v.writes (Elt Ideal) v.junk L) = G :=
  (View.read_writes_junk_eq_canon v L).trans (h.canon hc)

section

variable (XS : FVec Ideal S128x2048 .bf16) (S0 : FVec Ideal S2048x1408 .bf16) (D : FVec Ideal S128x2048 .bf16)
  (S1 : FVec Ideal S1408x2048 .bf16)

/-- The tiles: columns 0 to 255, and so on by 256, the last of 128 columns. -/
abbrev tile0 : FVec Ideal S128x256 .f32 := wide XS (View.ld (Val := Elt Ideal) (e' := .bf16) S0 (Rect.unit (s := S2048x1408) ![0, 0] S2048x256.size inb_S2048x1408_S2048x256_0_0)) D
  (View.ld (Val := Elt Ideal) (e' := .bf16) S1 (Rect.unit (s := S1408x2048) ![0, 0] S256x2048.size inb_S1408x2048_S256x2048_0_0))
abbrev tile1 : FVec Ideal S128x256 .f32 := wide XS (View.ld (Val := Elt Ideal) (e' := .bf16) S0 (Rect.unit (s := S2048x1408) ![0, 256] S2048x256.size inb_S2048x1408_S2048x256_0_256)) D
  (View.ld (Val := Elt Ideal) (e' := .bf16) S1 (Rect.unit (s := S1408x2048) ![256, 0] S256x2048.size inb_S1408x2048_S256x2048_256_0))
abbrev tile2 : FVec Ideal S128x256 .f32 := wide XS (View.ld (Val := Elt Ideal) (e' := .bf16) S0 (Rect.unit (s := S2048x1408) ![0, 512] S2048x256.size inb_S2048x1408_S2048x256_0_512)) D
  (View.ld (Val := Elt Ideal) (e' := .bf16) S1 (Rect.unit (s := S1408x2048) ![512, 0] S256x2048.size inb_S1408x2048_S256x2048_512_0))
abbrev tile3 : FVec Ideal S128x256 .f32 := wide XS (View.ld (Val := Elt Ideal) (e' := .bf16) S0 (Rect.unit (s := S2048x1408) ![0, 768] S2048x256.size inb_S2048x1408_S2048x256_0_768)) D
  (View.ld (Val := Elt Ideal) (e' := .bf16) S1 (Rect.unit (s := S1408x2048) ![768, 0] S256x2048.size inb_S1408x2048_S256x2048_768_0))
abbrev tile4 : FVec Ideal S128x256 .f32 := wide XS (View.ld (Val := Elt Ideal) (e' := .bf16) S0 (Rect.unit (s := S2048x1408) ![0, 1024] S2048x256.size inb_S2048x1408_S2048x256_0_1024)) D
  (View.ld (Val := Elt Ideal) (e' := .bf16) S1 (Rect.unit (s := S1408x2048) ![1024, 0] S256x2048.size inb_S1408x2048_S256x2048_1024_0))
abbrev tile5 : FVec Ideal S128x128 .f32 := k0_pay169 XS (View.ld (Val := Elt Ideal) (e' := .bf16) S0 (Rect.unit (s := S2048x1408) ![0, 1280] S2048x128.size inb_S2048x1408_S2048x128_0_1280)) D
  (View.ld (Val := Elt Ideal) (e' := .bf16) S1 (Rect.unit (s := S1408x2048) ![1280, 0] S128x2048.size inb_S1408x2048_S128x2048_1280_0))

theorem tile0_is : IsWide XS D S0 S1 0 (by omega) (tile0 XS S0 D S1) := fun p l => wide_da XS D S0 S1 0 (by omega) _ _ p l
theorem tile1_is : IsWide XS D S0 S1 256 (by omega) (tile1 XS S0 D S1) := fun p l => wide_da XS D S0 S1 256 (by omega) _ _ p l
theorem tile2_is : IsWide XS D S0 S1 512 (by omega) (tile2 XS S0 D S1) := fun p l => wide_da XS D S0 S1 512 (by omega) _ _ p l
theorem tile3_is : IsWide XS D S0 S1 768 (by omega) (tile3 XS S0 D S1) := fun p l => wide_da XS D S0 S1 768 (by omega) _ _ p l
theorem tile4_is : IsWide XS D S0 S1 1024 (by omega) (tile4 XS S0 D S1) := fun p l => wide_da XS D S0 S1 1024 (by omega) _ _ p l
theorem tile5_is : IsGroup XS D S0 S1 10 (tile5 XS S0 D S1) := fun p l => narrow_da XS D S0 S1 _ _ p l

/-- The codes' pieces cover. -/
theorem codeList_cover (t0 t1 t2 t3 t4 : FVec Ideal S128x256 .f32) (t5 : FVec Ideal S128x128 .f32) (y : S128x1408.Idx) :
    ∃ p ∈ codeList t0 t1 t2 t3 t4 t5, y ∈ p.1.set :=
  View.cover_of_tiledL (codeList t0 t1 t2 t3 t4 t5) S128x128.size (by sl_kernel_rfl) y

/-- The dequantised codes' pieces cover. -/
theorem backList_cover (t0 t1 t2 t3 t4 : FVec Ideal S128x256 .f32) (t5 : FVec Ideal S128x128 .f32) (y : S128x1408.Idx) :
    ∃ p ∈ backList t0 t1 t2 t3 t4 t5, y ∈ p.1.set :=
  View.cover_of_tiledL (backList t0 t1 t2 t3 t4 t5) S128x128.size (by sl_kernel_rfl) y

/-- The codes of the whole block. -/
theorem codes_agree : Agrees (fun i : S128x1408.Idx => codeOf XS D S0 S1 (i 0) (i 1))
    (codeList (tile0 XS S0 D S1) (tile1 XS S0 D S1) (tile2 XS S0 D S1) (tile3 XS S0 D S1) (tile4 XS S0 D S1) (tile5 XS S0 D S1)) :=
  codeList_agrees (tile0_is XS S0 D S1) (tile1_is XS S0 D S1) (tile2_is XS S0 D S1) (tile3_is XS S0 D S1) (tile4_is XS S0 D S1) (tile5_is XS S0 D S1)

/-- The codes dequantised again. -/
theorem back_agrees : Agrees (fun i : S128x1408.Idx => codeOf XS D S0 S1 (i 0) (i 1) * scOf XS D S0 S1 (i 0) (Model.group (i 1)))
    (backList (tile0 XS S0 D S1) (tile1 XS S0 D S1) (tile2 XS S0 D S1) (tile3 XS S0 D S1) (tile4 XS S0 D S1) (tile5 XS S0 D S1)) :=
  backList_agrees (tile0_is XS S0 D S1) (tile1_is XS S0 D S1) (tile2_is XS S0 D S1) (tile3_is XS S0 D S1) (tile4_is XS S0 D S1) (tile5_is XS S0 D S1)

/-- The scales. -/
theorem scales_apply (p : Fin 128) (J : Fin 11) :
    scaleArray (tile0 XS S0 D S1) (tile1 XS S0 D S1) (tile2 XS S0 D S1) (tile3 XS S0 D S1) (tile4 XS S0 D S1) (tile5 XS S0 D S1) (ix2 p J)
      = scOf XS D S0 S1 p J :=
  scaleArray_apply (tile0_is XS S0 D S1) (tile1_is XS S0 D S1) (tile2_is XS S0 D S1) (tile3_is XS S0 D S1) (tile4_is XS S0 D S1) (tile5_is XS S0 D S1) p J

/-- The gradient of the input block. -/
theorem last_dx (p : Fin 128) (k : Fin 2048) :
    k0_pay2 (F := Ideal) (fun i : S128x1408.Idx => codeOf XS D S0 S1 (i 0) (i 1) * scOf XS D S0 S1 (i 0) (Model.group (i 1))) S0 (ix2 p k)
      = Model.dx (fun p k => XS (ix2 p k)) (fun p k => D (ix2 p k)) (fun k j => S0 (ix2 k j)) (fun j k => S1 (ix2 j k)) p k :=
  (last_apply _ _ p k).trans rfl

end

end Cert.KernelIdeal.Own
end
-- ==== Proof.Ideal.PathA.lean ====
/- The row blocks that refresh the dequantised weights.
   What path A of the kernel body leaves, as the model's functions of the operands it reads. -/
module

public import proofs.«01_k».proof.Proof.Ideal.Tile

@[expose] public section

set_option maxRecDepth 16384
set_option backward.proofsInPublic true

noncomputable section

namespace Cert.KernelIdeal.Own.PathA

open Cert.KernelIdeal Cert.KernelIdeal.Gen Idealize.ShloMosaic Idealize.ShloMosaic.TcCoe Idealize.ShloMosaic.Tactic
open Idealize.SL Idealize.SL.ProofMode

variable (c : Dev nD) (arg2 : Memref sig .tc .vmem S128x2048 .fp8e4m3) (arg3 : Memref sig .tc .vmem S128x16 .f32)
  (arg4 : Memref sig .tc .vmem S2048x1408 .fp8e4m3) (arg5 : Memref sig .tc .vmem S1408x2048 .fp8e4m3)
  (arg6 : Memref sig .tc .vmem S1x16x11 .f32) (arg7 : Memref sig .tc .vmem S1x11x16 .f32)
  (arg8 : Memref sig .tc .vmem S128x2048 .fp8e5m2) (arg9 : Memref sig .tc .vmem S128x16 .f32)
  (x0 : S128x2048.Idx → EReal) (x1 : S128x16.Idx → EReal) (x2 : S2048x1408.Idx → EReal) (x3 : S1408x2048.Idx → EReal)
  (x4 : S1x16x11.Idx → EReal) (x5 : S1x11x16.Idx → EReal) (x6 : S128x2048.Idx → EReal) (x7 : S128x16.Idx → EReal)

theorem input_agrees : Agrees (inputBlock x0 x1) (kernelRun0_A.sl.HS2_16 arg2 arg3 x0 x1) :=
  .cons (input_piece _ _ _ _ 1920 15 rfl _ _) <| .cons (input_piece _ _ _ _ 1792 14 rfl _ _) <| .cons (input_piece _ _ _ _ 1664 13 rfl _ _) <|
  .cons (input_piece _ _ _ _ 1536 12 rfl _ _) <| .cons (input_piece _ _ _ _ 1408 11 rfl _ _) <| .cons (input_piece _ _ _ _ 1280 10 rfl _ _) <|
  .cons (input_piece _ _ _ _ 1152 9 rfl _ _) <| .cons (input_piece _ _ _ _ 1024 8 rfl _ _) <| .cons (input_piece _ _ _ _ 896 7 rfl _ _) <|
  .cons (input_piece _ _ _ _ 768 6 rfl _ _) <| .cons (input_piece _ _ _ _ 640 5 rfl _ _) <| .cons (input_piece _ _ _ _ 512 4 rfl _ _) <|
  .cons (input_piece _ _ _ _ 384 3 rfl _ _) <| .cons (input_piece _ _ _ _ 256 2 rfl _ _) <| .cons (input_piece _ _ _ _ 128 1 rfl _ _) <|
  .cons (input_piece _ _ _ _ 0 0 rfl _ _) <| .nil _

theorem input_cover (y : S128x2048.Idx) : ∃ p ∈ kernelRun0_A.sl.HS2_16 arg2 arg3 x0 x1, y ∈ p.1.set :=
  View.cover_of_tiledL (kernelRun0_A.sl.HS2_16 arg2 arg3 x0 x1) S128x128.size (by sl_kernel_rfl) y

/-- The input block the products read is the dequantised block. -/
theorem input_eq : kernelRun0_A.sl.v301 arg2 arg3 x0 x1 = inputBlock x0 x1 :=
  (input_agrees arg2 arg3 x0 x1).readCov_whole (input_cover arg2 arg3 x0 x1) _ _

theorem grad_agrees : Agrees (inputBlock x6 x7) (kernelRun0_A.sl.HS3_16 arg8 arg9 x6 x7) :=
  .cons (grad_piece _ _ _ _ 1920 15 rfl _ _) <| .cons (grad_piece _ _ _ _ 1792 14 rfl _ _) <| .cons (grad_piece _ _ _ _ 1664 13 rfl _ _) <|
  .cons (grad_piece _ _ _ _ 1536 12 rfl _ _) <| .cons (grad_piece _ _ _ _ 1408 11 rfl _ _) <| .cons (grad_piece _ _ _ _ 1280 10 rfl _ _) <|
  .cons (grad_piece _ _ _ _ 1152 9 rfl _ _) <| .cons (grad_piece _ _ _ _ 1024 8 rfl _ _) <| .cons (grad_piece _ _ _ _ 896 7 rfl _ _) <|
  .cons (grad_piece _ _ _ _ 768 6 rfl _ _) <| .cons (grad_piece _ _ _ _ 640 5 rfl _ _) <| .cons (grad_piece _ _ _ _ 512 4 rfl _ _) <|
  .cons (grad_piece _ _ _ _ 384 3 rfl _ _) <| .cons (grad_piece _ _ _ _ 256 2 rfl _ _) <| .cons (grad_piece _ _ _ _ 128 1 rfl _ _) <|
  .cons (grad_piece _ _ _ _ 0 0 rfl _ _) <| .nil _

theorem grad_cover (y : S128x2048.Idx) : ∃ p ∈ kernelRun0_A.sl.HS3_16 arg8 arg9 x6 x7, y ∈ p.1.set :=
  View.cover_of_tiledL (kernelRun0_A.sl.HS3_16 arg8 arg9 x6 x7) S128x128.size (by sl_kernel_rfl) y

/-- The incoming gradient block the products read is the dequantised block. -/
theorem grad_eq : kernelRun0_A.sl.v304 arg8 arg9 x6 x7 = inputBlock x6 x7 :=
  (grad_agrees arg8 arg9 x6 x7).readCov_whole (grad_cover arg8 arg9 x6 x7) _ _

theorem weight1_agrees : Agrees (weight1Block x2 x4) (kernelRun0_A.sl.HS0_176 arg4 arg6 x2 x4) :=
  .cons (weight1_piece _ _ _ _ 1920 1280 15 10 rfl rfl _ _) <| .cons (weight1_piece _ _ _ _ 1920 1152 15 9 rfl rfl _ _) <| .cons (weight1_piece _ _ _ _ 1920 1024 15 8 rfl rfl _ _) <|
  .cons (weight1_piece _ _ _ _ 1920 896 15 7 rfl rfl _ _) <| .cons (weight1_piece _ _ _ _ 1920 768 15 6 rfl rfl _ _) <| .cons (weight1_piece _ _ _ _ 1920 640 15 5 rfl rfl _ _) <|
  .cons (weight1_piece _ _ _ _ 1920 512 15 4 rfl rfl _ _) <| .cons (weight1_piece _ _ _ _ 1920 384 15 3 rfl rfl _ _) <| .cons (weight1_piece _ _ _ _ 1920 256 15 2 rfl rfl _ _) <|
  .cons (weight1_piece _ _ _ _ 1920 128 15 1 rfl rfl _ _) <| .cons (weight1_piece _ _ _ _ 1920 0 15 0 rfl rfl _ _) <| .cons (weight1_piece _ _ _ _ 1792 1280 14 10 rfl rfl _ _) <|
  .cons (weight1_piece _ _ _ _ 1792 1152 14 9 rfl rfl _ _) <| .cons (weight1_piece _ _ _ _ 1792 1024 14 8 rfl rfl _ _) <| .cons (weight1_piece _ _ _ _ 1792 896 14 7 rfl rfl _ _) <|
  .cons (weight1_piece _ _ _ _ 1792 768 14 6 rfl rfl _ _) <| .cons (weight1_piece _ _ _ _ 1792 640 14 5 rfl rfl _ _) <| .cons (weight1_piece _ _ _ _ 1792 512 14 4 rfl rfl _ _) <|
  .cons (weight1_piece _ _ _ _ 1792 384 14 3 rfl rfl _ _) <| .cons (weight1_piece _ _ _ _ 1792 256 14 2 rfl rfl _ _) <| .cons (weight1_piece _ _ _ _ 1792 128 14 1 rfl rfl _ _) <|
  .cons (weight1_piece _ _ _ _ 1792 0 14 0 rfl rfl _ _) <| .cons (weight1_piece _ _ _ _ 1664 1280 13 10 rfl rfl _ _) <| .cons (weight1_piece _ _ _ _ 1664 1152 13 9 rfl rfl _ _) <|
  .cons (weight1_piece _ _ _ _ 1664 1024 13 8 rfl rfl _ _) <| .cons (weight1_piece _ _ _ _ 1664 896 13 7 rfl rfl _ _) <| .cons (weight1_piece _ _ _ _ 1664 768 13 6 rfl rfl _ _) <|
  .cons (weight1_piece _ _ _ _ 1664 640 13 5 rfl rfl _ _) <| .cons (weight1_piece _ _ _ _ 1664 512 13 4 rfl rfl _ _) <| .cons (weight1_piece _ _ _ _ 1664 384 13 3 rfl rfl _ _) <|
  .cons (weight1_piece _ _ _ _ 1664 256 13 2 rfl rfl _ _) <| .cons (weight1_piece _ _ _ _ 1664 128 13 1 rfl rfl _ _) <| .cons (weight1_piece _ _ _ _ 1664 0 13 0 rfl rfl _ _) <|
  .cons (weight1_piece _ _ _ _ 1536 1280 12 10 rfl rfl _ _) <| .cons (weight1_piece _ _ _ _ 1536 1152 12 9 rfl rfl _ _) <| .cons (weight1_piece _ _ _ _ 1536 1024 12 8 rfl rfl _ _) <|
  .cons (weight1_piece _ _ _ _ 1536 896 12 7 rfl rfl _ _) <| .cons (weight1_piece _ _ _ _ 1536 768 12 6 rfl rfl _ _) <| .cons (weight1_piece _ _ _ _ 1536 640 12 5 rfl rfl _ _) <|
  .cons (weight1_piece _ _ _ _ 1536 512 12 4 rfl rfl _ _) <| .cons (weight1_piece _ _ _ _ 1536 384 12 3 rfl rfl _ _) <| .cons (weight1_piece _ _ _ _ 1536 256 12 2 rfl rfl _ _) <|
  .cons (weight1_piece _ _ _ _ 1536 128 12 1 rfl rfl _ _) <| .cons (weight1_piece _ _ _ _ 1536 0 12 0 rfl rfl _ _) <| .cons (weight1_piece _ _ _ _ 1408 1280 11 10 rfl rfl _ _) <|
  .cons (weight1_piece _ _ _ _ 1408 1152 11 9 rfl rfl _ _) <| .cons (weight1_piece _ _ _ _ 1408 1024 11 8 rfl rfl _ _) <| .cons (weight1_piece _ _ _ _ 1408 896 11 7 rfl rfl _ _) <|
  .cons (weight1_piece _ _ _ _ 1408 768 11 6 rfl rfl _ _) <| .cons (weight1_piece _ _ _ _ 1408 640 11 5 rfl rfl _ _) <| .cons (weight1_piece _ _ _ _ 1408 512 11 4 rfl rfl _ _) <|
  .cons (weight1_piece _ _ _ _ 1408 384 11 3 rfl rfl _ _) <| .cons (weight1_piece _ _ _ _ 1408 256 11 2 rfl rfl _ _) <| .cons (weight1_piece _ _ _ _ 1408 128 11 1 rfl rfl _ _) <|
  .cons (weight1_piece _ _ _ _ 1408 0 11 0 rfl rfl _ _) <| .cons (weight1_piece _ _ _ _ 1280 1280 10 10 rfl rfl _ _) <| .cons (weight1_piece _ _ _ _ 1280 1152 10 9 rfl rfl _ _) <|
  .cons (weight1_piece _ _ _ _ 1280 1024 10 8 rfl rfl _ _) <| .cons (weight1_piece _ _ _ _ 1280 896 10 7 rfl rfl _ _) <| .cons (weight1_piece _ _ _ _ 1280 768 10 6 rfl rfl _ _) <|
  .cons (weight1_piece _ _ _ _ 1280 640 10 5 rfl rfl _ _) <| .cons (weight1_piece _ _ _ _ 1280 512 10 4 rfl rfl _ _) <| .cons (weight1_piece _ _ _ _ 1280 384 10 3 rfl rfl _ _) <|
  .cons (weight1_piece _ _ _ _ 1280 256 10 2 rfl rfl _ _) <| .cons (weight1_piece _ _ _ _ 1280 128 10 1 rfl rfl _ _) <| .cons (weight1_piece _ _ _ _ 1280 0 10 0 rfl rfl _ _) <|
  .cons (weight1_piece _ _ _ _ 1152 1280 9 10 rfl rfl _ _) <| .cons (weight1_piece _ _ _ _ 1152 1152 9 9 rfl rfl _ _) <| .cons (weight1_piece _ _ _ _ 1152 1024 9 8 rfl rfl _ _) <|
  .cons (weight1_piece _ _ _ _ 1152 896 9 7 rfl rfl _ _) <| .cons (weight1_piece _ _ _ _ 1152 768 9 6 rfl rfl _ _) <| .cons (weight1_piece _ _ _ _ 1152 640 9 5 rfl rfl _ _) <|
  .cons (weight1_piece _ _ _ _ 1152 512 9 4 rfl rfl _ _) <| .cons (weight1_piece _ _ _ _ 1152 384 9 3 rfl rfl _ _) <| .cons (weight1_piece _ _ _ _ 1152 256 9 2 rfl rfl _ _) <|
  .cons (weight1_piece _ _ _ _ 1152 128 9 1 rfl rfl _ _) <| .cons (weight1_piece _ _ _ _ 1152 0 9 0 rfl rfl _ _) <| .cons (weight1_piece _ _ _ _ 1024 1280 8 10 rfl rfl _ _) <|
  .cons (weight1_piece _ _ _ _ 1024 1152 8 9 rfl rfl _ _) <| .cons (weight1_piece _ _ _ _ 1024 1024 8 8 rfl rfl _ _) <| .cons (weight1_piece _ _ _ _ 1024 896 8 7 rfl rfl _ _) <|
  .cons (weight1_piece _ _ _ _ 1024 768 8 6 rfl rfl _ _) <| .cons (weight1_piece _ _ _ _ 1024 640 8 5 rfl rfl _ _) <| .cons (weight1_piece _ _ _ _ 1024 512 8 4 rfl rfl _ _) <|
  .cons (weight1_piece _ _ _ _ 1024 384 8 3 rfl rfl _ _) <| .cons (weight1_piece _ _ _ _ 1024 256 8 2 rfl rfl _ _) <| .cons (weight1_piece _ _ _ _ 1024 128 8 1 rfl rfl _ _) <|
  .cons (weight1_piece _ _ _ _ 1024 0 8 0 rfl rfl _ _) <| .cons (weight1_piece _ _ _ _ 896 1280 7 10 rfl rfl _ _) <| .cons (weight1_piece _ _ _ _ 896 1152 7 9 rfl rfl _ _) <|
  .cons (weight1_piece _ _ _ _ 896 1024 7 8 rfl rfl _ _) <| .cons (weight1_piece _ _ _ _ 896 896 7 7 rfl rfl _ _) <| .cons (weight1_piece _ _ _ _ 896 768 7 6 rfl rfl _ _) <|
  .cons (weight1_piece _ _ _ _ 896 640 7 5 rfl rfl _ _) <| .cons (weight1_piece _ _ _ _ 896 512 7 4 rfl rfl _ _) <| .cons (weight1_piece _ _ _ _ 896 384 7 3 rfl rfl _ _) <|
  .cons (weight1_piece _ _ _ _ 896 256 7 2 rfl rfl _ _) <| .cons (weight1_piece _ _ _ _ 896 128 7 1 rfl rfl _ _) <| .cons (weight1_piece _ _ _ _ 896 0 7 0 rfl rfl _ _) <|
  .cons (weight1_piece _ _ _ _ 768 1280 6 10 rfl rfl _ _) <| .cons (weight1_piece _ _ _ _ 768 1152 6 9 rfl rfl _ _) <| .cons (weight1_piece _ _ _ _ 768 1024 6 8 rfl rfl _ _) <|
  .cons (weight1_piece _ _ _ _ 768 896 6 7 rfl rfl _ _) <| .cons (weight1_piece _ _ _ _ 768 768 6 6 rfl rfl _ _) <| .cons (weight1_piece _ _ _ _ 768 640 6 5 rfl rfl _ _) <|
  .cons (weight1_piece _ _ _ _ 768 512 6 4 rfl rfl _ _) <| .cons (weight1_piece _ _ _ _ 768 384 6 3 rfl rfl _ _) <| .cons (weight1_piece _ _ _ _ 768 256 6 2 rfl rfl _ _) <|
  .cons (weight1_piece _ _ _ _ 768 128 6 1 rfl rfl _ _) <| .cons (weight1_piece _ _ _ _ 768 0 6 0 rfl rfl _ _) <| .cons (weight1_piece _ _ _ _ 640 1280 5 10 rfl rfl _ _) <|
  .cons (weight1_piece _ _ _ _ 640 1152 5 9 rfl rfl _ _) <| .cons (weight1_piece _ _ _ _ 640 1024 5 8 rfl rfl _ _) <| .cons (weight1_piece _ _ _ _ 640 896 5 7 rfl rfl _ _) <|
  .cons (weight1_piece _ _ _ _ 640 768 5 6 rfl rfl _ _) <| .cons (weight1_piece _ _ _ _ 640 640 5 5 rfl rfl _ _) <| .cons (weight1_piece _ _ _ _ 640 512 5 4 rfl rfl _ _) <|
  .cons (weight1_piece _ _ _ _ 640 384 5 3 rfl rfl _ _) <| .cons (weight1_piece _ _ _ _ 640 256 5 2 rfl rfl _ _) <| .cons (weight1_piece _ _ _ _ 640 128 5 1 rfl rfl _ _) <|
  .cons (weight1_piece _ _ _ _ 640 0 5 0 rfl rfl _ _) <| .cons (weight1_piece _ _ _ _ 512 1280 4 10 rfl rfl _ _) <| .cons (weight1_piece _ _ _ _ 512 1152 4 9 rfl rfl _ _) <|
  .cons (weight1_piece _ _ _ _ 512 1024 4 8 rfl rfl _ _) <| .cons (weight1_piece _ _ _ _ 512 896 4 7 rfl rfl _ _) <| .cons (weight1_piece _ _ _ _ 512 768 4 6 rfl rfl _ _) <|
  .cons (weight1_piece _ _ _ _ 512 640 4 5 rfl rfl _ _) <| .cons (weight1_piece _ _ _ _ 512 512 4 4 rfl rfl _ _) <| .cons (weight1_piece _ _ _ _ 512 384 4 3 rfl rfl _ _) <|
  .cons (weight1_piece _ _ _ _ 512 256 4 2 rfl rfl _ _) <| .cons (weight1_piece _ _ _ _ 512 128 4 1 rfl rfl _ _) <| .cons (weight1_piece _ _ _ _ 512 0 4 0 rfl rfl _ _) <|
  .cons (weight1_piece _ _ _ _ 384 1280 3 10 rfl rfl _ _) <| .cons (weight1_piece _ _ _ _ 384 1152 3 9 rfl rfl _ _) <| .cons (weight1_piece _ _ _ _ 384 1024 3 8 rfl rfl _ _) <|
  .cons (weight1_piece _ _ _ _ 384 896 3 7 rfl rfl _ _) <| .cons (weight1_piece _ _ _ _ 384 768 3 6 rfl rfl _ _) <| .cons (weight1_piece _ _ _ _ 384 640 3 5 rfl rfl _ _) <|
  .cons (weight1_piece _ _ _ _ 384 512 3 4 rfl rfl _ _) <| .cons (weight1_piece _ _ _ _ 384 384 3 3 rfl rfl _ _) <| .cons (weight1_piece _ _ _ _ 384 256 3 2 rfl rfl _ _) <|
  .cons (weight1_piece _ _ _ _ 384 128 3 1 rfl rfl _ _) <| .cons (weight1_piece _ _ _ _ 384 0 3 0 rfl rfl _ _) <| .cons (weight1_piece _ _ _ _ 256 1280 2 10 rfl rfl _ _) <|
  .cons (weight1_piece _ _ _ _ 256 1152 2 9 rfl rfl _ _) <| .cons (weight1_piece _ _ _ _ 256 1024 2 8 rfl rfl _ _) <| .cons (weight1_piece _ _ _ _ 256 896 2 7 rfl rfl _ _) <|
  .cons (weight1_piece _ _ _ _ 256 768 2 6 rfl rfl _ _) <| .cons (weight1_piece _ _ _ _ 256 640 2 5 rfl rfl _ _) <| .cons (weight1_piece _ _ _ _ 256 512 2 4 rfl rfl _ _) <|
  .cons (weight1_piece _ _ _ _ 256 384 2 3 rfl rfl _ _) <| .cons (weight1_piece _ _ _ _ 256 256 2 2 rfl rfl _ _) <| .cons (weight1_piece _ _ _ _ 256 128 2 1 rfl rfl _ _) <|
  .cons (weight1_piece _ _ _ _ 256 0 2 0 rfl rfl _ _) <| .cons (weight1_piece _ _ _ _ 128 1280 1 10 rfl rfl _ _) <| .cons (weight1_piece _ _ _ _ 128 1152 1 9 rfl rfl _ _) <|
  .cons (weight1_piece _ _ _ _ 128 1024 1 8 rfl rfl _ _) <| .cons (weight1_piece _ _ _ _ 128 896 1 7 rfl rfl _ _) <| .cons (weight1_piece _ _ _ _ 128 768 1 6 rfl rfl _ _) <|
  .cons (weight1_piece _ _ _ _ 128 640 1 5 rfl rfl _ _) <| .cons (weight1_piece _ _ _ _ 128 512 1 4 rfl rfl _ _) <| .cons (weight1_piece _ _ _ _ 128 384 1 3 rfl rfl _ _) <|
  .cons (weight1_piece _ _ _ _ 128 256 1 2 rfl rfl _ _) <| .cons (weight1_piece _ _ _ _ 128 128 1 1 rfl rfl _ _) <| .cons (weight1_piece _ _ _ _ 128 0 1 0 rfl rfl _ _) <|
  .cons (weight1_piece _ _ _ _ 0 1280 0 10 rfl rfl _ _) <| .cons (weight1_piece _ _ _ _ 0 1152 0 9 rfl rfl _ _) <| .cons (weight1_piece _ _ _ _ 0 1024 0 8 rfl rfl _ _) <|
  .cons (weight1_piece _ _ _ _ 0 896 0 7 rfl rfl _ _) <| .cons (weight1_piece _ _ _ _ 0 768 0 6 rfl rfl _ _) <| .cons (weight1_piece _ _ _ _ 0 640 0 5 rfl rfl _ _) <|
  .cons (weight1_piece _ _ _ _ 0 512 0 4 rfl rfl _ _) <| .cons (weight1_piece _ _ _ _ 0 384 0 3 rfl rfl _ _) <| .cons (weight1_piece _ _ _ _ 0 256 0 2 rfl rfl _ _) <|
  .cons (weight1_piece _ _ _ _ 0 128 0 1 rfl rfl _ _) <| .cons (weight1_piece _ _ _ _ 0 0 0 0 rfl rfl _ _) <| .nil _

theorem weight1_cover (y : S2048x1408.Idx) : ∃ p ∈ kernelRun0_A.sl.HS0_176 arg4 arg6 x2 x4, y ∈ p.1.set :=
  View.cover_of_tiledL (kernelRun0_A.sl.HS0_176 arg4 arg6 x2 x4) S128x128.size (by sl_kernel_rfl) y

theorem weight2_agrees : Agrees (weight2Block x3 x5) (kernelRun0_A.sl.HS1_176 arg5 arg7 x3 x5) :=
  .cons (weight2_piece _ _ _ _ 1280 1920 10 15 rfl rfl _ _) <| .cons (weight2_piece _ _ _ _ 1280 1792 10 14 rfl rfl _ _) <| .cons (weight2_piece _ _ _ _ 1280 1664 10 13 rfl rfl _ _) <|
  .cons (weight2_piece _ _ _ _ 1280 1536 10 12 rfl rfl _ _) <| .cons (weight2_piece _ _ _ _ 1280 1408 10 11 rfl rfl _ _) <| .cons (weight2_piece _ _ _ _ 1280 1280 10 10 rfl rfl _ _) <|
  .cons (weight2_piece _ _ _ _ 1280 1152 10 9 rfl rfl _ _) <| .cons (weight2_piece _ _ _ _ 1280 1024 10 8 rfl rfl _ _) <| .cons (weight2_piece _ _ _ _ 1280 896 10 7 rfl rfl _ _) <|
  .cons (weight2_piece _ _ _ _ 1280 768 10 6 rfl rfl _ _) <| .cons (weight2_piece _ _ _ _ 1280 640 10 5 rfl rfl _ _) <| .cons (weight2_piece _ _ _ _ 1280 512 10 4 rfl rfl _ _) <|
  .cons (weight2_piece _ _ _ _ 1280 384 10 3 rfl rfl _ _) <| .cons (weight2_piece _ _ _ _ 1280 256 10 2 rfl rfl _ _) <| .cons (weight2_piece _ _ _ _ 1280 128 10 1 rfl rfl _ _) <|
  .cons (weight2_piece _ _ _ _ 1280 0 10 0 rfl rfl _ _) <| .cons (weight2_piece _ _ _ _ 1152 1920 9 15 rfl rfl _ _) <| .cons (weight2_piece _ _ _ _ 1152 1792 9 14 rfl rfl _ _) <|
  .cons (weight2_piece _ _ _ _ 1152 1664 9 13 rfl rfl _ _) <| .cons (weight2_piece _ _ _ _ 1152 1536 9 12 rfl rfl _ _) <| .cons (weight2_piece _ _ _ _ 1152 1408 9 11 rfl rfl _ _) <|
  .cons (weight2_piece _ _ _ _ 1152 1280 9 10 rfl rfl _ _) <| .cons (weight2_piece _ _ _ _ 1152 1152 9 9 rfl rfl _ _) <| .cons (weight2_piece _ _ _ _ 1152 1024 9 8 rfl rfl _ _) <|
  .cons (weight2_piece _ _ _ _ 1152 896 9 7 rfl rfl _ _) <| .cons (weight2_piece _ _ _ _ 1152 768 9 6 rfl rfl _ _) <| .cons (weight2_piece _ _ _ _ 1152 640 9 5 rfl rfl _ _) <|
  .cons (weight2_piece _ _ _ _ 1152 512 9 4 rfl rfl _ _) <| .cons (weight2_piece _ _ _ _ 1152 384 9 3 rfl rfl _ _) <| .cons (weight2_piece _ _ _ _ 1152 256 9 2 rfl rfl _ _) <|
  .cons (weight2_piece _ _ _ _ 1152 128 9 1 rfl rfl _ _) <| .cons (weight2_piece _ _ _ _ 1152 0 9 0 rfl rfl _ _) <| .cons (weight2_piece _ _ _ _ 1024 1920 8 15 rfl rfl _ _) <|
  .cons (weight2_piece _ _ _ _ 1024 1792 8 14 rfl rfl _ _) <| .cons (weight2_piece _ _ _ _ 1024 1664 8 13 rfl rfl _ _) <| .cons (weight2_piece _ _ _ _ 1024 1536 8 12 rfl rfl _ _) <|
  .cons (weight2_piece _ _ _ _ 1024 1408 8 11 rfl rfl _ _) <| .cons (weight2_piece _ _ _ _ 1024 1280 8 10 rfl rfl _ _) <| .cons (weight2_piece _ _ _ _ 1024 1152 8 9 rfl rfl _ _) <|
  .cons (weight2_piece _ _ _ _ 1024 1024 8 8 rfl rfl _ _) <| .cons (weight2_piece _ _ _ _ 1024 896 8 7 rfl rfl _ _) <| .cons (weight2_piece _ _ _ _ 1024 768 8 6 rfl rfl _ _) <|
  .cons (weight2_piece _ _ _ _ 1024 640 8 5 rfl rfl _ _) <| .cons (weight2_piece _ _ _ _ 1024 512 8 4 rfl rfl _ _) <| .cons (weight2_piece _ _ _ _ 1024 384 8 3 rfl rfl _ _) <|
  .cons (weight2_piece _ _ _ _ 1024 256 8 2 rfl rfl _ _) <| .cons (weight2_piece _ _ _ _ 1024 128 8 1 rfl rfl _ _) <| .cons (weight2_piece _ _ _ _ 1024 0 8 0 rfl rfl _ _) <|
  .cons (weight2_piece _ _ _ _ 896 1920 7 15 rfl rfl _ _) <| .cons (weight2_piece _ _ _ _ 896 1792 7 14 rfl rfl _ _) <| .cons (weight2_piece _ _ _ _ 896 1664 7 13 rfl rfl _ _) <|
  .cons (weight2_piece _ _ _ _ 896 1536 7 12 rfl rfl _ _) <| .cons (weight2_piece _ _ _ _ 896 1408 7 11 rfl rfl _ _) <| .cons (weight2_piece _ _ _ _ 896 1280 7 10 rfl rfl _ _) <|
  .cons (weight2_piece _ _ _ _ 896 1152 7 9 rfl rfl _ _) <| .cons (weight2_piece _ _ _ _ 896 1024 7 8 rfl rfl _ _) <| .cons (weight2_piece _ _ _ _ 896 896 7 7 rfl rfl _ _) <|
  .cons (weight2_piece _ _ _ _ 896 768 7 6 rfl rfl _ _) <| .cons (weight2_piece _ _ _ _ 896 640 7 5 rfl rfl _ _) <| .cons (weight2_piece _ _ _ _ 896 512 7 4 rfl rfl _ _) <|
  .cons (weight2_piece _ _ _ _ 896 384 7 3 rfl rfl _ _) <| .cons (weight2_piece _ _ _ _ 896 256 7 2 rfl rfl _ _) <| .cons (weight2_piece _ _ _ _ 896 128 7 1 rfl rfl _ _) <|
  .cons (weight2_piece _ _ _ _ 896 0 7 0 rfl rfl _ _) <| .cons (weight2_piece _ _ _ _ 768 1920 6 15 rfl rfl _ _) <| .cons (weight2_piece _ _ _ _ 768 1792 6 14 rfl rfl _ _) <|
  .cons (weight2_piece _ _ _ _ 768 1664 6 13 rfl rfl _ _) <| .cons (weight2_piece _ _ _ _ 768 1536 6 12 rfl rfl _ _) <| .cons (weight2_piece _ _ _ _ 768 1408 6 11 rfl rfl _ _) <|
  .cons (weight2_piece _ _ _ _ 768 1280 6 10 rfl rfl _ _) <| .cons (weight2_piece _ _ _ _ 768 1152 6 9 rfl rfl _ _) <| .cons (weight2_piece _ _ _ _ 768 1024 6 8 rfl rfl _ _) <|
  .cons (weight2_piece _ _ _ _ 768 896 6 7 rfl rfl _ _) <| .cons (weight2_piece _ _ _ _ 768 768 6 6 rfl rfl _ _) <| .cons (weight2_piece _ _ _ _ 768 640 6 5 rfl rfl _ _) <|
  .cons (weight2_piece _ _ _ _ 768 512 6 4 rfl rfl _ _) <| .cons (weight2_piece _ _ _ _ 768 384 6 3 rfl rfl _ _) <| .cons (weight2_piece _ _ _ _ 768 256 6 2 rfl rfl _ _) <|
  .cons (weight2_piece _ _ _ _ 768 128 6 1 rfl rfl _ _) <| .cons (weight2_piece _ _ _ _ 768 0 6 0 rfl rfl _ _) <| .cons (weight2_piece _ _ _ _ 640 1920 5 15 rfl rfl _ _) <|
  .cons (weight2_piece _ _ _ _ 640 1792 5 14 rfl rfl _ _) <| .cons (weight2_piece _ _ _ _ 640 1664 5 13 rfl rfl _ _) <| .cons (weight2_piece _ _ _ _ 640 1536 5 12 rfl rfl _ _) <|
  .cons (weight2_piece _ _ _ _ 640 1408 5 11 rfl rfl _ _) <| .cons (weight2_piece _ _ _ _ 640 1280 5 10 rfl rfl _ _) <| .cons (weight2_piece _ _ _ _ 640 1152 5 9 rfl rfl _ _) <|
  .cons (weight2_piece _ _ _ _ 640 1024 5 8 rfl rfl _ _) <| .cons (weight2_piece _ _ _ _ 640 896 5 7 rfl rfl _ _) <| .cons (weight2_piece _ _ _ _ 640 768 5 6 rfl rfl _ _) <|
  .cons (weight2_piece _ _ _ _ 640 640 5 5 rfl rfl _ _) <| .cons (weight2_piece _ _ _ _ 640 512 5 4 rfl rfl _ _) <| .cons (weight2_piece _ _ _ _ 640 384 5 3 rfl rfl _ _) <|
  .cons (weight2_piece _ _ _ _ 640 256 5 2 rfl rfl _ _) <| .cons (weight2_piece _ _ _ _ 640 128 5 1 rfl rfl _ _) <| .cons (weight2_piece _ _ _ _ 640 0 5 0 rfl rfl _ _) <|
  .cons (weight2_piece _ _ _ _ 512 1920 4 15 rfl rfl _ _) <| .cons (weight2_piece _ _ _ _ 512 1792 4 14 rfl rfl _ _) <| .cons (weight2_piece _ _ _ _ 512 1664 4 13 rfl rfl _ _) <|
  .cons (weight2_piece _ _ _ _ 512 1536 4 12 rfl rfl _ _) <| .cons (weight2_piece _ _ _ _ 512 1408 4 11 rfl rfl _ _) <| .cons (weight2_piece _ _ _ _ 512 1280 4 10 rfl rfl _ _) <|
  .cons (weight2_piece _ _ _ _ 512 1152 4 9 rfl rfl _ _) <| .cons (weight2_piece _ _ _ _ 512 1024 4 8 rfl rfl _ _) <| .cons (weight2_piece _ _ _ _ 512 896 4 7 rfl rfl _ _) <|
  .cons (weight2_piece _ _ _ _ 512 768 4 6 rfl rfl _ _) <| .cons (weight2_piece _ _ _ _ 512 640 4 5 rfl rfl _ _) <| .cons (weight2_piece _ _ _ _ 512 512 4 4 rfl rfl _ _) <|
  .cons (weight2_piece _ _ _ _ 512 384 4 3 rfl rfl _ _) <| .cons (weight2_piece _ _ _ _ 512 256 4 2 rfl rfl _ _) <| .cons (weight2_piece _ _ _ _ 512 128 4 1 rfl rfl _ _) <|
  .cons (weight2_piece _ _ _ _ 512 0 4 0 rfl rfl _ _) <| .cons (weight2_piece _ _ _ _ 384 1920 3 15 rfl rfl _ _) <| .cons (weight2_piece _ _ _ _ 384 1792 3 14 rfl rfl _ _) <|
  .cons (weight2_piece _ _ _ _ 384 1664 3 13 rfl rfl _ _) <| .cons (weight2_piece _ _ _ _ 384 1536 3 12 rfl rfl _ _) <| .cons (weight2_piece _ _ _ _ 384 1408 3 11 rfl rfl _ _) <|
  .cons (weight2_piece _ _ _ _ 384 1280 3 10 rfl rfl _ _) <| .cons (weight2_piece _ _ _ _ 384 1152 3 9 rfl rfl _ _) <| .cons (weight2_piece _ _ _ _ 384 1024 3 8 rfl rfl _ _) <|
  .cons (weight2_piece _ _ _ _ 384 896 3 7 rfl rfl _ _) <| .cons (weight2_piece _ _ _ _ 384 768 3 6 rfl rfl _ _) <| .cons (weight2_piece _ _ _ _ 384 640 3 5 rfl rfl _ _) <|
  .cons (weight2_piece _ _ _ _ 384 512 3 4 rfl rfl _ _) <| .cons (weight2_piece _ _ _ _ 384 384 3 3 rfl rfl _ _) <| .cons (weight2_piece _ _ _ _ 384 256 3 2 rfl rfl _ _) <|
  .cons (weight2_piece _ _ _ _ 384 128 3 1 rfl rfl _ _) <| .cons (weight2_piece _ _ _ _ 384 0 3 0 rfl rfl _ _) <| .cons (weight2_piece _ _ _ _ 256 1920 2 15 rfl rfl _ _) <|
  .cons (weight2_piece _ _ _ _ 256 1792 2 14 rfl rfl _ _) <| .cons (weight2_piece _ _ _ _ 256 1664 2 13 rfl rfl _ _) <| .cons (weight2_piece _ _ _ _ 256 1536 2 12 rfl rfl _ _) <|
  .cons (weight2_piece _ _ _ _ 256 1408 2 11 rfl rfl _ _) <| .cons (weight2_piece _ _ _ _ 256 1280 2 10 rfl rfl _ _) <| .cons (weight2_piece _ _ _ _ 256 1152 2 9 rfl rfl _ _) <|
  .cons (weight2_piece _ _ _ _ 256 1024 2 8 rfl rfl _ _) <| .cons (weight2_piece _ _ _ _ 256 896 2 7 rfl rfl _ _) <| .cons (weight2_piece _ _ _ _ 256 768 2 6 rfl rfl _ _) <|
  .cons (weight2_piece _ _ _ _ 256 640 2 5 rfl rfl _ _) <| .cons (weight2_piece _ _ _ _ 256 512 2 4 rfl rfl _ _) <| .cons (weight2_piece _ _ _ _ 256 384 2 3 rfl rfl _ _) <|
  .cons (weight2_piece _ _ _ _ 256 256 2 2 rfl rfl _ _) <| .cons (weight2_piece _ _ _ _ 256 128 2 1 rfl rfl _ _) <| .cons (weight2_piece _ _ _ _ 256 0 2 0 rfl rfl _ _) <|
  .cons (weight2_piece _ _ _ _ 128 1920 1 15 rfl rfl _ _) <| .cons (weight2_piece _ _ _ _ 128 1792 1 14 rfl rfl _ _) <| .cons (weight2_piece _ _ _ _ 128 1664 1 13 rfl rfl _ _) <|
  .cons (weight2_piece _ _ _ _ 128 1536 1 12 rfl rfl _ _) <| .cons (weight2_piece _ _ _ _ 128 1408 1 11 rfl rfl _ _) <| .cons (weight2_piece _ _ _ _ 128 1280 1 10 rfl rfl _ _) <|
  .cons (weight2_piece _ _ _ _ 128 1152 1 9 rfl rfl _ _) <| .cons (weight2_piece _ _ _ _ 128 1024 1 8 rfl rfl _ _) <| .cons (weight2_piece _ _ _ _ 128 896 1 7 rfl rfl _ _) <|
  .cons (weight2_piece _ _ _ _ 128 768 1 6 rfl rfl _ _) <| .cons (weight2_piece _ _ _ _ 128 640 1 5 rfl rfl _ _) <| .cons (weight2_piece _ _ _ _ 128 512 1 4 rfl rfl _ _) <|
  .cons (weight2_piece _ _ _ _ 128 384 1 3 rfl rfl _ _) <| .cons (weight2_piece _ _ _ _ 128 256 1 2 rfl rfl _ _) <| .cons (weight2_piece _ _ _ _ 128 128 1 1 rfl rfl _ _) <|
  .cons (weight2_piece _ _ _ _ 128 0 1 0 rfl rfl _ _) <| .cons (weight2_piece _ _ _ _ 0 1920 0 15 rfl rfl _ _) <| .cons (weight2_piece _ _ _ _ 0 1792 0 14 rfl rfl _ _) <|
  .cons (weight2_piece _ _ _ _ 0 1664 0 13 rfl rfl _ _) <| .cons (weight2_piece _ _ _ _ 0 1536 0 12 rfl rfl _ _) <| .cons (weight2_piece _ _ _ _ 0 1408 0 11 rfl rfl _ _) <|
  .cons (weight2_piece _ _ _ _ 0 1280 0 10 rfl rfl _ _) <| .cons (weight2_piece _ _ _ _ 0 1152 0 9 rfl rfl _ _) <| .cons (weight2_piece _ _ _ _ 0 1024 0 8 rfl rfl _ _) <|
  .cons (weight2_piece _ _ _ _ 0 896 0 7 rfl rfl _ _) <| .cons (weight2_piece _ _ _ _ 0 768 0 6 rfl rfl _ _) <| .cons (weight2_piece _ _ _ _ 0 640 0 5 rfl rfl _ _) <|
  .cons (weight2_piece _ _ _ _ 0 512 0 4 rfl rfl _ _) <| .cons (weight2_piece _ _ _ _ 0 384 0 3 rfl rfl _ _) <| .cons (weight2_piece _ _ _ _ 0 256 0 2 rfl rfl _ _) <|
  .cons (weight2_piece _ _ _ _ 0 128 0 1 rfl rfl _ _) <| .cons (weight2_piece _ _ _ _ 0 0 0 0 rfl rfl _ _) <| .nil _

theorem weight2_cover (y : S1408x2048.Idx) : ∃ p ∈ kernelRun0_A.sl.HS1_176 arg5 arg7 x3 x5, y ∈ p.1.set :=
  View.cover_of_tiledL (kernelRun0_A.sl.HS1_176 arg5 arg7 x3 x5) S128x128.size (by sl_kernel_rfl) y

/-- The tiles as the run names them. -/
abbrev raw0 : FVec Ideal S128x256 .f32 := wide (kernelRun0_A.sl.v301 arg2 arg3 x0 x1) (scM0_0.view.readCov (kernelRun0_A.sl.HS0_176 arg4 arg6 x2 x4) (Rect.unit (s := S2048x1408) ![0, 0] S2048x256.size inb_S2048x1408_S2048x256_0_0).toLoadRect) (kernelRun0_A.sl.v304 arg8 arg9 x6 x7) (scM0_1.view.readCov (kernelRun0_A.sl.HS1_176 arg5 arg7 x3 x5) (Rect.unit (s := S1408x2048) ![0, 0] S256x2048.size inb_S1408x2048_S256x2048_0_0).toLoadRect)
abbrev raw1 : FVec Ideal S128x256 .f32 := wide (kernelRun0_A.sl.v301 arg2 arg3 x0 x1) (scM0_0.view.readCov (kernelRun0_A.sl.HS0_176 arg4 arg6 x2 x4) (Rect.unit (s := S2048x1408) ![0, 256] S2048x256.size inb_S2048x1408_S2048x256_0_256).toLoadRect) (kernelRun0_A.sl.v304 arg8 arg9 x6 x7) (scM0_1.view.readCov (kernelRun0_A.sl.HS1_176 arg5 arg7 x3 x5) (Rect.unit (s := S1408x2048) ![256, 0] S256x2048.size inb_S1408x2048_S256x2048_256_0).toLoadRect)
abbrev raw2 : FVec Ideal S128x256 .f32 := wide (kernelRun0_A.sl.v301 arg2 arg3 x0 x1) (scM0_0.view.readCov (kernelRun0_A.sl.HS0_176 arg4 arg6 x2 x4) (Rect.unit (s := S2048x1408) ![0, 512] S2048x256.size inb_S2048x1408_S2048x256_0_512).toLoadRect) (kernelRun0_A.sl.v304 arg8 arg9 x6 x7) (scM0_1.view.readCov (kernelRun0_A.sl.HS1_176 arg5 arg7 x3 x5) (Rect.unit (s := S1408x2048) ![512, 0] S256x2048.size inb_S1408x2048_S256x2048_512_0).toLoadRect)
abbrev raw3 : FVec Ideal S128x256 .f32 := wide (kernelRun0_A.sl.v301 arg2 arg3 x0 x1) (scM0_0.view.readCov (kernelRun0_A.sl.HS0_176 arg4 arg6 x2 x4) (Rect.unit (s := S2048x1408) ![0, 768] S2048x256.size inb_S2048x1408_S2048x256_0_768).toLoadRect) (kernelRun0_A.sl.v304 arg8 arg9 x6 x7) (scM0_1.view.readCov (kernelRun0_A.sl.HS1_176 arg5 arg7 x3 x5) (Rect.unit (s := S1408x2048) ![768, 0] S256x2048.size inb_S1408x2048_S256x2048_768_0).toLoadRect)
abbrev raw4 : FVec Ideal S128x256 .f32 := wide (kernelRun0_A.sl.v301 arg2 arg3 x0 x1) (scM0_0.view.readCov (kernelRun0_A.sl.HS0_176 arg4 arg6 x2 x4) (Rect.unit (s := S2048x1408) ![0, 1024] S2048x256.size inb_S2048x1408_S2048x256_0_1024).toLoadRect) (kernelRun0_A.sl.v304 arg8 arg9 x6 x7) (scM0_1.view.readCov (kernelRun0_A.sl.HS1_176 arg5 arg7 x3 x5) (Rect.unit (s := S1408x2048) ![1024, 0] S256x2048.size inb_S1408x2048_S256x2048_1024_0).toLoadRect)
abbrev raw5 : FVec Ideal S128x128 .f32 := k0_pay169 (kernelRun0_A.sl.v301 arg2 arg3 x0 x1) (scM0_0.view.readCov (kernelRun0_A.sl.HS0_176 arg4 arg6 x2 x4) (Rect.unit (s := S2048x1408) ![0, 1280] S2048x128.size inb_S2048x1408_S2048x128_0_1280).toLoadRect) (kernelRun0_A.sl.v304 arg8 arg9 x6 x7) (scM0_1.view.readCov (kernelRun0_A.sl.HS1_176 arg5 arg7 x3 x5) (Rect.unit (s := S1408x2048) ![1280, 0] S128x2048.size inb_S1408x2048_S128x2048_1280_0).toLoadRect)

theorem raw0_eq : raw0 arg2 arg3 arg4 arg5 arg6 arg7 arg8 arg9 x0 x1 x2 x3 x4 x5 x6 x7 = tile0 (inputBlock x0 x1) (weight1Block x2 x4) (inputBlock x6 x7) (weight2Block x3 x5) := by
  unfold raw0
  rw [input_eq, grad_eq, (weight1_agrees arg4 arg6 x2 x4).readCov (weight1_cover arg4 arg6 x2 x4),
    (weight2_agrees arg5 arg7 x3 x5).readCov (weight2_cover arg5 arg7 x3 x5)]

theorem raw1_eq : raw1 arg2 arg3 arg4 arg5 arg6 arg7 arg8 arg9 x0 x1 x2 x3 x4 x5 x6 x7 = tile1 (inputBlock x0 x1) (weight1Block x2 x4) (inputBlock x6 x7) (weight2Block x3 x5) := by
  unfold raw1
  rw [input_eq, grad_eq, (weight1_agrees arg4 arg6 x2 x4).readCov (weight1_cover arg4 arg6 x2 x4),
    (weight2_agrees arg5 arg7 x3 x5).readCov (weight2_cover arg5 arg7 x3 x5)]

theorem raw2_eq : raw2 arg2 arg3 arg4 arg5 arg6 arg7 arg8 arg9 x0 x1 x2 x3 x4 x5 x6 x7 = tile2 (inputBlock x0 x1) (weight1Block x2 x4) (inputBlock x6 x7) (weight2Block x3 x5) := by
  unfold raw2
  rw [input_eq, grad_eq, (weight1_agrees arg4 arg6 x2 x4).readCov (weight1_cover arg4 arg6 x2 x4),
    (weight2_agrees arg5 arg7 x3 x5).readCov (weight2_cover arg5 arg7 x3 x5)]

theorem raw3_eq : raw3 arg2 arg3 arg4 arg5 arg6 arg7 arg8 arg9 x0 x1 x2 x3 x4 x5 x6 x7 = tile3 (inputBlock x0 x1) (weight1Block x2 x4) (inputBlock x6 x7) (weight2Block x3 x5) := by
  unfold raw3
  rw [input_eq, grad_eq, (weight1_agrees arg4 arg6 x2 x4).readCov (weight1_cover arg4 arg6 x2 x4),
    (weight2_agrees arg5 arg7 x3 x5).readCov (weight2_cover arg5 arg7 x3 x5)]

theorem raw4_eq : raw4 arg2 arg3 arg4 arg5 arg6 arg7 arg8 arg9 x0 x1 x2 x3 x4 x5 x6 x7 = tile4 (inputBlock x0 x1) (weight1Block x2 x4) (inputBlock x6 x7) (weight2Block x3 x5) := by
  unfold raw4
  rw [input_eq, grad_eq, (weight1_agrees arg4 arg6 x2 x4).readCov (weight1_cover arg4 arg6 x2 x4),
    (weight2_agrees arg5 arg7 x3 x5).readCov (weight2_cover arg5 arg7 x3 x5)]

theorem raw5_eq : raw5 arg2 arg3 arg4 arg5 arg6 arg7 arg8 arg9 x0 x1 x2 x3 x4 x5 x6 x7 = tile5 (inputBlock x0 x1) (weight1Block x2 x4) (inputBlock x6 x7) (weight2Block x3 x5) := by
  unfold raw5
  rw [input_eq, grad_eq, (weight1_agrees arg4 arg6 x2 x4).readCov (weight1_cover arg4 arg6 x2 x4),
    (weight2_agrees arg5 arg7 x3 x5).readCov (weight2_cover arg5 arg7 x3 x5)]

theorem codes_raw : kernelRun0_A.sl.HO9_11 arg2 arg3 arg4 arg5 arg6 arg7 arg8 arg9 x0 x1 x2 x3 x4 x5 x6 x7 = codeList (raw0 arg2 arg3 arg4 arg5 arg6 arg7 arg8 arg9 x0 x1 x2 x3 x4 x5 x6 x7) (raw1 arg2 arg3 arg4 arg5 arg6 arg7 arg8 arg9 x0 x1 x2 x3 x4 x5 x6 x7) (raw2 arg2 arg3 arg4 arg5 arg6 arg7 arg8 arg9 x0 x1 x2 x3 x4 x5 x6 x7) (raw3 arg2 arg3 arg4 arg5 arg6 arg7 arg8 arg9 x0 x1 x2 x3 x4 x5 x6 x7) (raw4 arg2 arg3 arg4 arg5 arg6 arg7 arg8 arg9 x0 x1 x2 x3 x4 x5 x6 x7) (raw5 arg2 arg3 arg4 arg5 arg6 arg7 arg8 arg9 x0 x1 x2 x3 x4 x5 x6 x7) := rfl

theorem back_raw : kernelRun0_A.sl.HS4_11 arg2 arg3 arg4 arg5 arg6 arg7 arg8 arg9 x0 x1 x2 x3 x4 x5 x6 x7 = backList (raw0 arg2 arg3 arg4 arg5 arg6 arg7 arg8 arg9 x0 x1 x2 x3 x4 x5 x6 x7) (raw1 arg2 arg3 arg4 arg5 arg6 arg7 arg8 arg9 x0 x1 x2 x3 x4 x5 x6 x7) (raw2 arg2 arg3 arg4 arg5 arg6 arg7 arg8 arg9 x0 x1 x2 x3 x4 x5 x6 x7) (raw3 arg2 arg3 arg4 arg5 arg6 arg7 arg8 arg9 x0 x1 x2 x3 x4 x5 x6 x7) (raw4 arg2 arg3 arg4 arg5 arg6 arg7 arg8 arg9 x0 x1 x2 x3 x4 x5 x6 x7) (raw5 arg2 arg3 arg4 arg5 arg6 arg7 arg8 arg9 x0 x1 x2 x3 x4 x5 x6 x7) := rfl

theorem scales_raw : kernelRun0_A.sl.HO10_1 arg2 arg3 arg4 arg5 arg6 arg7 arg8 arg9 x0 x1 x2 x3 x4 x5 x6 x7
    = [⟨Rect.unit (s := S128x11) ![0, 0] S128x11.size inb_S128x11_S128x11_0_0, scaleArray (raw0 arg2 arg3 arg4 arg5 arg6 arg7 arg8 arg9 x0 x1 x2 x3 x4 x5 x6 x7) (raw1 arg2 arg3 arg4 arg5 arg6 arg7 arg8 arg9 x0 x1 x2 x3 x4 x5 x6 x7) (raw2 arg2 arg3 arg4 arg5 arg6 arg7 arg8 arg9 x0 x1 x2 x3 x4 x5 x6 x7) (raw3 arg2 arg3 arg4 arg5 arg6 arg7 arg8 arg9 x0 x1 x2 x3 x4 x5 x6 x7) (raw4 arg2 arg3 arg4 arg5 arg6 arg7 arg8 arg9 x0 x1 x2 x3 x4 x5 x6 x7) (raw5 arg2 arg3 arg4 arg5 arg6 arg7 arg8 arg9 x0 x1 x2 x3 x4 x5 x6 x7)⟩] := rfl

/-- The codes' buffer holds the model's codes. -/
theorem codes_eq : View.canon (kernelRun0_A.sl.HO9_11 arg2 arg3 arg4 arg5 arg6 arg7 arg8 arg9 x0 x1 x2 x3 x4 x5 x6 x7) = fun i : S128x1408.Idx => codeOf (inputBlock x0 x1) (inputBlock x6 x7) (weight1Block x2 x4) (weight2Block x3 x5) (i 0) (i 1) := by
  rw [codes_raw, raw0_eq, raw1_eq, raw2_eq, raw3_eq, raw4_eq, raw5_eq]
  exact (codes_agree (inputBlock x0 x1) (weight1Block x2 x4) (inputBlock x6 x7) (weight2Block x3 x5)).canon (codeList_cover _ _ _ _ _ _)

/-- The scales' buffer holds the model's scales. -/
theorem scales_eq : View.canon (kernelRun0_A.sl.HO10_1 arg2 arg3 arg4 arg5 arg6 arg7 arg8 arg9 x0 x1 x2 x3 x4 x5 x6 x7) = fun i : S128x11.Idx => scOf (inputBlock x0 x1) (inputBlock x6 x7) (weight1Block x2 x4) (weight2Block x3 x5) (i 0) (i 1) := by
  rw [scales_raw, raw0_eq, raw1_eq, raw2_eq, raw3_eq, raw4_eq, raw5_eq, View.canon_unit_zero zero2]
  funext i
  obtain ⟨p, J, rfl⟩ : ∃ (p : Fin 128) (J : Fin 11), i = ix2 p J := ⟨i 0, i 1, eq_ix2 i⟩
  exact scales_apply (inputBlock x0 x1) (weight1Block x2 x4) (inputBlock x6 x7) (weight2Block x3 x5) p J

/-- The codes dequantised again, read back. -/
theorem back_eq : kernelRun0_A.sl.v1100 arg2 arg3 arg4 arg5 arg6 arg7 arg8 arg9 x0 x1 x2 x3 x4 x5 x6 x7
    = fun i : S128x1408.Idx => codeOf (inputBlock x0 x1) (inputBlock x6 x7) (weight1Block x2 x4) (weight2Block x3 x5) (i 0) (i 1) * scOf (inputBlock x0 x1) (inputBlock x6 x7) (weight1Block x2 x4) (weight2Block x3 x5) (i 0) (Model.group (i 1)) := by
  unfold kernelRun0_A.sl.v1100
  rw [back_raw, raw0_eq, raw1_eq, raw2_eq, raw3_eq, raw4_eq, raw5_eq]
  exact (back_agrees (inputBlock x0 x1) (weight1Block x2 x4) (inputBlock x6 x7) (weight2Block x3 x5)).readCov_whole (backList_cover _ _ _ _ _ _) _ _

/-- The gradient's buffer holds the model's gradient of the input. -/
theorem gradient_eq (p : Fin 128) (k : Fin 2048) : View.canon (kernelRun0_A.sl.HO8_1 arg2 arg3 arg4 arg5 arg6 arg7 arg8 arg9 x0 x1 x2 x3 x4 x5 x6 x7) (ix2 p k)
    = Model.dx (fun p k => inputBlock x0 x1 (ix2 p k)) (fun p k => inputBlock x6 x7 (ix2 p k))
        (fun k j => (weight1Block x2 x4) (ix2 k j)) (fun j k => (weight2Block x3 x5) (ix2 j k)) p k := by
  unfold kernelRun0_A.sl.HO8_1
  rw [View.canon_unit_zero zero2, back_eq, show kernelRun0_A.sl.v1101 arg4 arg6 x2 x4 = weight1Block x2 x4 from
    (weight1_agrees arg4 arg6 x2 x4).readCov_whole (weight1_cover arg4 arg6 x2 x4) _ _]
  exact last_dx (inputBlock x0 x1) (weight1Block x2 x4) (inputBlock x6 x7) (weight2Block x3 x5) p k

end Cert.KernelIdeal.Own.PathA
end
-- ==== Proof.Ideal.PathB.lean ====
/- The row blocks that keep the dequantised weights.
   What path B of the kernel body leaves, as the model's functions of the operands it reads. -/
module

public import proofs.«01_k».proof.Proof.Ideal.Tile

@[expose] public section

set_option maxRecDepth 16384
set_option backward.proofsInPublic true

noncomputable section

namespace Cert.KernelIdeal.Own.PathB

open Cert.KernelIdeal Cert.KernelIdeal.Gen Idealize.ShloMosaic Idealize.ShloMosaic.TcCoe Idealize.ShloMosaic.Tactic
open Idealize.SL Idealize.SL.ProofMode

variable (c : Dev nD) (arg2 : Memref sig .tc .vmem S128x2048 .fp8e4m3) (arg3 : Memref sig .tc .vmem S128x16 .f32)
  (arg4 : Memref sig .tc .vmem S2048x1408 .fp8e4m3) (arg5 : Memref sig .tc .vmem S1408x2048 .fp8e4m3)
  (arg6 : Memref sig .tc .vmem S1x16x11 .f32) (arg7 : Memref sig .tc .vmem S1x11x16 .f32)
  (arg8 : Memref sig .tc .vmem S128x2048 .fp8e5m2) (arg9 : Memref sig .tc .vmem S128x16 .f32)
  (x0 : S128x2048.Idx → EReal) (x1 : S128x16.Idx → EReal) (x2 : S2048x1408.Idx → EReal) (x3 : S1408x2048.Idx → EReal)
  (x4 : S1x16x11.Idx → EReal) (x5 : S1x11x16.Idx → EReal) (x6 : S128x2048.Idx → EReal) (x7 : S128x16.Idx → EReal)
  (xa0 : Buf (Elt Ideal) ((c : Thread nD τ).loc cc0_scratch0)) (xa1 : Buf (Elt Ideal) ((c : Thread nD τ).loc cc0_scratch1))

theorem input_agrees : Agrees (inputBlock x0 x1) (kernelRun0_B.sl.HS2_16 arg2 arg3 x0 x1) :=
  .cons (input_piece _ _ _ _ 1920 15 rfl _ _) <| .cons (input_piece _ _ _ _ 1792 14 rfl _ _) <| .cons (input_piece _ _ _ _ 1664 13 rfl _ _) <|
  .cons (input_piece _ _ _ _ 1536 12 rfl _ _) <| .cons (input_piece _ _ _ _ 1408 11 rfl _ _) <| .cons (input_piece _ _ _ _ 1280 10 rfl _ _) <|
  .cons (input_piece _ _ _ _ 1152 9 rfl _ _) <| .cons (input_piece _ _ _ _ 1024 8 rfl _ _) <| .cons (input_piece _ _ _ _ 896 7 rfl _ _) <|
  .cons (input_piece _ _ _ _ 768 6 rfl _ _) <| .cons (input_piece _ _ _ _ 640 5 rfl _ _) <| .cons (input_piece _ _ _ _ 512 4 rfl _ _) <|
  .cons (input_piece _ _ _ _ 384 3 rfl _ _) <| .cons (input_piece _ _ _ _ 256 2 rfl _ _) <| .cons (input_piece _ _ _ _ 128 1 rfl _ _) <|
  .cons (input_piece _ _ _ _ 0 0 rfl _ _) <| .nil _

theorem input_cover (y : S128x2048.Idx) : ∃ p ∈ kernelRun0_B.sl.HS2_16 arg2 arg3 x0 x1, y ∈ p.1.set :=
  View.cover_of_tiledL (kernelRun0_B.sl.HS2_16 arg2 arg3 x0 x1) S128x128.size (by sl_kernel_rfl) y

/-- The input block the products read is the dequantised block. -/
theorem input_eq : kernelRun0_B.sl.v301 arg2 arg3 x0 x1 = inputBlock x0 x1 :=
  (input_agrees arg2 arg3 x0 x1).readCov_whole (input_cover arg2 arg3 x0 x1) _ _

theorem grad_agrees : Agrees (inputBlock x6 x7) (kernelRun0_B.sl.HS3_16 arg8 arg9 x6 x7) :=
  .cons (grad_piece _ _ _ _ 1920 15 rfl _ _) <| .cons (grad_piece _ _ _ _ 1792 14 rfl _ _) <| .cons (grad_piece _ _ _ _ 1664 13 rfl _ _) <|
  .cons (grad_piece _ _ _ _ 1536 12 rfl _ _) <| .cons (grad_piece _ _ _ _ 1408 11 rfl _ _) <| .cons (grad_piece _ _ _ _ 1280 10 rfl _ _) <|
  .cons (grad_piece _ _ _ _ 1152 9 rfl _ _) <| .cons (grad_piece _ _ _ _ 1024 8 rfl _ _) <| .cons (grad_piece _ _ _ _ 896 7 rfl _ _) <|
  .cons (grad_piece _ _ _ _ 768 6 rfl _ _) <| .cons (grad_piece _ _ _ _ 640 5 rfl _ _) <| .cons (grad_piece _ _ _ _ 512 4 rfl _ _) <|
  .cons (grad_piece _ _ _ _ 384 3 rfl _ _) <| .cons (grad_piece _ _ _ _ 256 2 rfl _ _) <| .cons (grad_piece _ _ _ _ 128 1 rfl _ _) <|
  .cons (grad_piece _ _ _ _ 0 0 rfl _ _) <| .nil _

theorem grad_cover (y : S128x2048.Idx) : ∃ p ∈ kernelRun0_B.sl.HS3_16 arg8 arg9 x6 x7, y ∈ p.1.set :=
  View.cover_of_tiledL (kernelRun0_B.sl.HS3_16 arg8 arg9 x6 x7) S128x128.size (by sl_kernel_rfl) y

/-- The incoming gradient block the products read is the dequantised block. -/
theorem grad_eq : kernelRun0_B.sl.v304 arg8 arg9 x6 x7 = inputBlock x6 x7 :=
  (grad_agrees arg8 arg9 x6 x7).readCov_whole (grad_cover arg8 arg9 x6 x7) _ _

/-- The tiles as the run names them. -/
abbrev raw0 : FVec Ideal S128x256 .f32 := wide (kernelRun0_B.sl.v301 arg2 arg3 x0 x1) (View.readAt (Elt Ideal) scM0_0.view (Rect.unit (s := S2048x1408) ![0, 0] S2048x256.size inb_S2048x1408_S2048x256_0_0).toLoadRect xa0) (kernelRun0_B.sl.v304 arg8 arg9 x6 x7) (View.readAt (Elt Ideal) scM0_1.view (Rect.unit (s := S1408x2048) ![0, 0] S256x2048.size inb_S1408x2048_S256x2048_0_0).toLoadRect xa1)
abbrev raw1 : FVec Ideal S128x256 .f32 := wide (kernelRun0_B.sl.v301 arg2 arg3 x0 x1) (View.readAt (Elt Ideal) scM0_0.view (Rect.unit (s := S2048x1408) ![0, 256] S2048x256.size inb_S2048x1408_S2048x256_0_256).toLoadRect xa0) (kernelRun0_B.sl.v304 arg8 arg9 x6 x7) (View.readAt (Elt Ideal) scM0_1.view (Rect.unit (s := S1408x2048) ![256, 0] S256x2048.size inb_S1408x2048_S256x2048_256_0).toLoadRect xa1)
abbrev raw2 : FVec Ideal S128x256 .f32 := wide (kernelRun0_B.sl.v301 arg2 arg3 x0 x1) (View.readAt (Elt Ideal) scM0_0.view (Rect.unit (s := S2048x1408) ![0, 512] S2048x256.size inb_S2048x1408_S2048x256_0_512).toLoadRect xa0) (kernelRun0_B.sl.v304 arg8 arg9 x6 x7) (View.readAt (Elt Ideal) scM0_1.view (Rect.unit (s := S1408x2048) ![512, 0] S256x2048.size inb_S1408x2048_S256x2048_512_0).toLoadRect xa1)
abbrev raw3 : FVec Ideal S128x256 .f32 := wide (kernelRun0_B.sl.v301 arg2 arg3 x0 x1) (View.readAt (Elt Ideal) scM0_0.view (Rect.unit (s := S2048x1408) ![0, 768] S2048x256.size inb_S2048x1408_S2048x256_0_768).toLoadRect xa0) (kernelRun0_B.sl.v304 arg8 arg9 x6 x7) (View.readAt (Elt Ideal) scM0_1.view (Rect.unit (s := S1408x2048) ![768, 0] S256x2048.size inb_S1408x2048_S256x2048_768_0).toLoadRect xa1)
abbrev raw4 : FVec Ideal S128x256 .f32 := wide (kernelRun0_B.sl.v301 arg2 arg3 x0 x1) (View.readAt (Elt Ideal) scM0_0.view (Rect.unit (s := S2048x1408) ![0, 1024] S2048x256.size inb_S2048x1408_S2048x256_0_1024).toLoadRect xa0) (kernelRun0_B.sl.v304 arg8 arg9 x6 x7) (View.readAt (Elt Ideal) scM0_1.view (Rect.unit (s := S1408x2048) ![1024, 0] S256x2048.size inb_S1408x2048_S256x2048_1024_0).toLoadRect xa1)
abbrev raw5 : FVec Ideal S128x128 .f32 := k0_pay169 (kernelRun0_B.sl.v301 arg2 arg3 x0 x1) (View.readAt (Elt Ideal) scM0_0.view (Rect.unit (s := S2048x1408) ![0, 1280] S2048x128.size inb_S2048x1408_S2048x128_0_1280).toLoadRect xa0) (kernelRun0_B.sl.v304 arg8 arg9 x6 x7) (View.readAt (Elt Ideal) scM0_1.view (Rect.unit (s := S1408x2048) ![1280, 0] S128x2048.size inb_S1408x2048_S128x2048_1280_0).toLoadRect xa1)

theorem raw0_eq : raw0 c arg2 arg3 arg8 arg9 x0 x1 x6 x7 xa0 xa1 = tile0 (inputBlock x0 x1) xa0 (inputBlock x6 x7) xa1 := by
  unfold raw0
  rw [input_eq, grad_eq]
  rfl

theorem raw1_eq : raw1 c arg2 arg3 arg8 arg9 x0 x1 x6 x7 xa0 xa1 = tile1 (inputBlock x0 x1) xa0 (inputBlock x6 x7) xa1 := by
  unfold raw1
  rw [input_eq, grad_eq]
  rfl

theorem raw2_eq : raw2 c arg2 arg3 arg8 arg9 x0 x1 x6 x7 xa0 xa1 = tile2 (inputBlock x0 x1) xa0 (inputBlock x6 x7) xa1 := by
  unfold raw2
  rw [input_eq, grad_eq]
  rfl

theorem raw3_eq : raw3 c arg2 arg3 arg8 arg9 x0 x1 x6 x7 xa0 xa1 = tile3 (inputBlock x0 x1) xa0 (inputBlock x6 x7) xa1 := by
  unfold raw3
  rw [input_eq, grad_eq]
  rfl

theorem raw4_eq : raw4 c arg2 arg3 arg8 arg9 x0 x1 x6 x7 xa0 xa1 = tile4 (inputBlock x0 x1) xa0 (inputBlock x6 x7) xa1 := by
  unfold raw4
  rw [input_eq, grad_eq]
  rfl

theorem raw5_eq : raw5 c arg2 arg3 arg8 arg9 x0 x1 x6 x7 xa0 xa1 = tile5 (inputBlock x0 x1) xa0 (inputBlock x6 x7) xa1 := by
  unfold raw5
  rw [input_eq, grad_eq]
  rfl

theorem codes_raw : kernelRun0_B.sl.HO9_11 c arg2 arg3 arg8 arg9 x0 x1 x6 x7 xa0 xa1 = codeList (raw0 c arg2 arg3 arg8 arg9 x0 x1 x6 x7 xa0 xa1) (raw1 c arg2 arg3 arg8 arg9 x0 x1 x6 x7 xa0 xa1) (raw2 c arg2 arg3 arg8 arg9 x0 x1 x6 x7 xa0 xa1) (raw3 c arg2 arg3 arg8 arg9 x0 x1 x6 x7 xa0 xa1) (raw4 c arg2 arg3 arg8 arg9 x0 x1 x6 x7 xa0 xa1) (raw5 c arg2 arg3 arg8 arg9 x0 x1 x6 x7 xa0 xa1) := rfl

theorem back_raw : kernelRun0_B.sl.HS4_11 c arg2 arg3 arg8 arg9 x0 x1 x6 x7 xa0 xa1 = backList (raw0 c arg2 arg3 arg8 arg9 x0 x1 x6 x7 xa0 xa1) (raw1 c arg2 arg3 arg8 arg9 x0 x1 x6 x7 xa0 xa1) (raw2 c arg2 arg3 arg8 arg9 x0 x1 x6 x7 xa0 xa1) (raw3 c arg2 arg3 arg8 arg9 x0 x1 x6 x7 xa0 xa1) (raw4 c arg2 arg3 arg8 arg9 x0 x1 x6 x7 xa0 xa1) (raw5 c arg2 arg3 arg8 arg9 x0 x1 x6 x7 xa0 xa1) := rfl

theorem scales_raw : kernelRun0_B.sl.HO10_1 c arg2 arg3 arg8 arg9 x0 x1 x6 x7 xa0 xa1
    = [⟨Rect.unit (s := S128x11) ![0, 0] S128x11.size inb_S128x11_S128x11_0_0, scaleArray (raw0 c arg2 arg3 arg8 arg9 x0 x1 x6 x7 xa0 xa1) (raw1 c arg2 arg3 arg8 arg9 x0 x1 x6 x7 xa0 xa1) (raw2 c arg2 arg3 arg8 arg9 x0 x1 x6 x7 xa0 xa1) (raw3 c arg2 arg3 arg8 arg9 x0 x1 x6 x7 xa0 xa1) (raw4 c arg2 arg3 arg8 arg9 x0 x1 x6 x7 xa0 xa1) (raw5 c arg2 arg3 arg8 arg9 x0 x1 x6 x7 xa0 xa1)⟩] := rfl

/-- The codes' buffer holds the model's codes. -/
theorem codes_eq : View.canon (kernelRun0_B.sl.HO9_11 c arg2 arg3 arg8 arg9 x0 x1 x6 x7 xa0 xa1) = fun i : S128x1408.Idx => codeOf (inputBlock x0 x1) (inputBlock x6 x7) xa0 xa1 (i 0) (i 1) := by
  rw [codes_raw, raw0_eq, raw1_eq, raw2_eq, raw3_eq, raw4_eq, raw5_eq]
  exact (codes_agree (inputBlock x0 x1) xa0 (inputBlock x6 x7) xa1).canon (codeList_cover _ _ _ _ _ _)

/-- The scales' buffer holds the model's scales. -/
theorem scales_eq : View.canon (kernelRun0_B.sl.HO10_1 c arg2 arg3 arg8 arg9 x0 x1 x6 x7 xa0 xa1) = fun i : S128x11.Idx => scOf (inputBlock x0 x1) (inputBlock x6 x7) xa0 xa1 (i 0) (i 1) := by
  rw [scales_raw, raw0_eq, raw1_eq, raw2_eq, raw3_eq, raw4_eq, raw5_eq, View.canon_unit_zero zero2]
  funext i
  obtain ⟨p, J, rfl⟩ : ∃ (p : Fin 128) (J : Fin 11), i = ix2 p J := ⟨i 0, i 1, eq_ix2 i⟩
  exact scales_apply (inputBlock x0 x1) xa0 (inputBlock x6 x7) xa1 p J

/-- The codes dequantised again, read back. -/
theorem back_eq : kernelRun0_B.sl.v1100 c arg2 arg3 arg8 arg9 x0 x1 x6 x7 xa0 xa1
    = fun i : S128x1408.Idx => codeOf (inputBlock x0 x1) (inputBlock x6 x7) xa0 xa1 (i 0) (i 1) * scOf (inputBlock x0 x1) (inputBlock x6 x7) xa0 xa1 (i 0) (Model.group (i 1)) := by
  unfold kernelRun0_B.sl.v1100
  rw [back_raw, raw0_eq, raw1_eq, raw2_eq, raw3_eq, raw4_eq, raw5_eq]
  exact (back_agrees (inputBlock x0 x1) xa0 (inputBlock x6 x7) xa1).readCov_whole (backList_cover _ _ _ _ _ _) _ _

/-- The gradient's buffer holds the model's gradient of the input. -/
theorem gradient_eq (p : Fin 128) (k : Fin 2048) : View.canon (kernelRun0_B.sl.HO8_1 c arg2 arg3 arg8 arg9 x0 x1 x6 x7 xa0 xa1) (ix2 p k)
    = Model.dx (fun p k => inputBlock x0 x1 (ix2 p k)) (fun p k => inputBlock x6 x7 (ix2 p k))
        (fun k j => xa0 (ix2 k j)) (fun j k => xa1 (ix2 j k)) p k := by
  unfold kernelRun0_B.sl.HO8_1
  rw [View.canon_unit_zero zero2, back_eq,
    show View.readAt (Elt Ideal) scM0_0.view (Rect.unit (s := S2048x1408) ![0, 0] S2048x1408.size inb_S2048x1408_S2048x1408_0_0).toLoadRect xa0
      = xa0 from View.ld_unit_zero (Val := Elt Ideal) (S := S2048x1408) (e := .bf16) zero2 inb_S2048x1408_S2048x1408_0_0 xa0]
  exact last_dx (inputBlock x0 x1) xa0 (inputBlock x6 x7) xa1 p k

end Cert.KernelIdeal.Own.PathB
end
-- ==== Proof.Ideal.Blocks.lean ====
/- The entries of each operand block: which entry of its array a block's entry is, at the point of row block `r`. The
   row blocks are 128 rows each; the weight blocks are those of the expert the table names for the row block. -/
module

public import proofs.«01_k».proof.Proof.Ideal.Table
public import Idealize.ShloMosaic.Lib.Pipeline.Value
public import Idealize.ShloMosaic.Lib.Pointwise

@[expose] public section

set_option maxRecDepth 16384
set_option backward.proofsInPublic true

noncomputable section

namespace Cert.KernelIdeal.Own

open Cert.KernelIdeal Cert.KernelIdeal.Gen
open Idealize.ShloMosaic Idealize.ShloMosaic.TcCoe

variable (ch : Tab)
variable (m : (ℓ : Loc nD τ sig) → Buf (Elt Ideal) ℓ) (ρ : Dev nD → PrngReg)

/-- The number of points. -/
theorem points : (cfgA ch).N = 448 := (by decide : grid0.N = 448)

/-- The point of row block `r`. -/
def pt (r : Fin 448) : Fin (cfgA ch).N := ⟨r.val, by rw [points]; exact r.isLt⟩

/-- Row `p` of row block `r`, among all rows. -/
def rowOf (r : Fin 448) (p : Fin 128) : Fin 57344 := ⟨128 * r.val + p.val, by omega⟩

/-- The expert of row block `r`. -/
def expert (r : Fin 448) : Fin 64 := ⟨(ch.1 (ix1 r)).toNat, ch.2 _⟩

/-- Column `j` of the expert of row block `r`, among all columns. -/
def colOf (r : Fin 448) (j : Fin 1408) : Fin 90112 := ⟨1408 * (expert ch r).val + j.val, by have := (expert ch r).isLt; omega⟩

theorem crd_pt (r : Fin 448) : ((crd ch (pt ch r)) 0).val = r.val := crd_val ch (pt ch r)

theorem ofNat_toNat (n : ℕ) (h : n < 448) : (BitVec.ofNat 32 n).toNat = n := by
  rw [BitVec.toNat_ofNat, Nat.mod_eq_of_lt (by omega)]

/-- The word the index maps read at a point is the table's word for it. -/
theorem word_at (i : grid0.Coords) (h) : ((pfN ch).at 0 (Rect.unit (s := S448) ![(Scalar.indexCast (BitVec.ofNat 32 (i 0).val)).toNat] S1.size h) numel1_S1)
    = ch.1 (ix1 (i 0)) := by
  refine congrArg ch.1 (funext fun a => ?_)
  fin_cases a
  refine Fin.ext ?_
  show (BitVec.ofNat 32 (i 0).val).toNat + 1 * 0 = (i 0).val
  rw [ofNat_toNat _ (i 0).isLt, Nat.mul_zero, Nat.add_zero]

theorem word_pt (r : Fin 448) (h) : ((pfN ch).at 0 (Rect.unit (s := S448) ![(Scalar.indexCast (BitVec.ofNat 32 ((crd ch (pt ch r)) 0).val)).toNat] S1.size h) numel1_S1).toNat
    = (expert ch r).val := by
  rw [word_at]
  exact congrArg (fun x => (ch.1 (ix1 x)).toNat) (Fin.ext (crd_pt ch r))

/-- The input's codes. -/
theorem iblk_0 (c : Dev nD) (r : Fin 448) (p : Fin 128) (k : Fin 2048) :
    iblk ch m ρ c (0 : Fin 11) (pt ch r) (ix2 p k) = m ((c : Thread nD τ).loc main_arg0) (ix2 (rowOf r p) k) := by
  refine congrArg (m ((c : Thread nD τ).loc main_arg0)) (funext fun a => ?_)
  fin_cases a
  · refine Fin.ext ((Pipeline.Window.rect_emb_val ((cfgA ch).win (0 : Fin 11)) (pt ch r) (ix2 p k) 0 rfl).trans ?_)
    show (BitVec.ofNat 32 ((crd ch (pt ch r)) 0).val).toNat * 128 + p.val = 128 * r.val + p.val
    rw [crd_pt, ofNat_toNat _ r.isLt, Nat.mul_comm]
  · refine Fin.ext ((Pipeline.Window.rect_emb_val ((cfgA ch).win (0 : Fin 11)) (pt ch r) (ix2 p k) 1 rfl).trans ?_)
    show 0 * 2048 + k.val = k.val
    omega

/-- The input's scales. -/
theorem iblk_1 (c : Dev nD) (r : Fin 448) (p : Fin 128) (k : Fin 16) :
    iblk ch m ρ c (1 : Fin 11) (pt ch r) (ix2 p k) = m ((c : Thread nD τ).loc main_arg1) (ix2 (rowOf r p) k) := by
  refine congrArg (m ((c : Thread nD τ).loc main_arg1)) (funext fun a => ?_)
  fin_cases a
  · refine Fin.ext ((Pipeline.Window.rect_emb_val ((cfgA ch).win (1 : Fin 11)) (pt ch r) (ix2 p k) 0 rfl).trans ?_)
    show (BitVec.ofNat 32 ((crd ch (pt ch r)) 0).val).toNat * 128 + p.val = 128 * r.val + p.val
    rw [crd_pt, ofNat_toNat _ r.isLt, Nat.mul_comm]
  · refine Fin.ext ((Pipeline.Window.rect_emb_val ((cfgA ch).win (1 : Fin 11)) (pt ch r) (ix2 p k) 1 rfl).trans ?_)
    show 0 * 16 + k.val = k.val
    omega

/-- The first weight's codes. -/
theorem iblk_2 (c : Dev nD) (r : Fin 448) (k : Fin 2048) (j : Fin 1408) :
    iblk ch m ρ c (2 : Fin 11) (pt ch r) (ix2 k j) = m ((c : Thread nD τ).loc main_arg2) (ix2 k (colOf ch r j)) := by
  refine congrArg (m ((c : Thread nD τ).loc main_arg2)) (funext fun a => ?_)
  fin_cases a
  · refine Fin.ext ((Pipeline.Window.rect_emb_val ((cfgA ch).win (2 : Fin 11)) (pt ch r) (ix2 k j) 0 rfl).trans ?_)
    show 0 * 2048 + k.val = k.val
    omega
  · refine Fin.ext ((Pipeline.Window.rect_emb_val ((cfgA ch).win (2 : Fin 11)) (pt ch r) (ix2 k j) 1 rfl).trans ?_)
    refine (congrArg (fun n => n * 1408 + j.val) (word_pt ch r (k0_off1_inb _))).trans ?_
    show (expert ch r).val * 1408 + j.val = 1408 * (expert ch r).val + j.val
    omega

/-- The second weight's codes. -/
theorem iblk_3 (c : Dev nD) (r : Fin 448) (j : Fin 1408) (k : Fin 2048) :
    iblk ch m ρ c (3 : Fin 11) (pt ch r) (ix2 j k) = m ((c : Thread nD τ).loc main_arg4) (ix2 (colOf ch r j) k) := by
  refine congrArg (m ((c : Thread nD τ).loc main_arg4)) (funext fun a => ?_)
  fin_cases a
  · refine Fin.ext ((Pipeline.Window.rect_emb_val ((cfgA ch).win (3 : Fin 11)) (pt ch r) (ix2 j k) 0 rfl).trans ?_)
    refine (congrArg (fun n => n * 1408 + j.val) (word_pt ch r (k0_off1_inb _))).trans ?_
    show (expert ch r).val * 1408 + j.val = 1408 * (expert ch r).val + j.val
    omega
  · refine Fin.ext ((Pipeline.Window.rect_emb_val ((cfgA ch).win (3 : Fin 11)) (pt ch r) (ix2 j k) 1 rfl).trans ?_)
    show 0 * 2048 + k.val = k.val
    omega

/-- The first weight's scales. -/
theorem iblk_4 (c : Dev nD) (r : Fin 448) (g : Fin 16) (J : Fin 11) :
    iblk ch m ρ c (4 : Fin 11) (pt ch r) (ix3 0 g J) = m ((c : Thread nD τ).loc main_v4) (ix3 (expert ch r) g J) := by
  refine congrArg (m ((c : Thread nD τ).loc main_v4)) (funext fun a => ?_)
  fin_cases a
  · refine Fin.ext ((Pipeline.Window.rect_emb_val ((cfgA ch).win (4 : Fin 11)) (pt ch r) (ix3 0 g J) 0 rfl).trans ?_)
    refine (congrArg (fun n => n * 1 + 0) (word_pt ch r (k0_off1_inb _))).trans ?_
    show (expert ch r).val * 1 + 0 = (expert ch r).val
    omega
  · refine Fin.ext ((Pipeline.Window.rect_emb_val ((cfgA ch).win (4 : Fin 11)) (pt ch r) (ix3 0 g J) 1 rfl).trans ?_)
    show 0 * 16 + g.val = g.val
    omega
  · refine Fin.ext ((Pipeline.Window.rect_emb_val ((cfgA ch).win (4 : Fin 11)) (pt ch r) (ix3 0 g J) 2 rfl).trans ?_)
    show 0 * 11 + J.val = J.val
    omega

/-- The second weight's scales. -/
theorem iblk_5 (c : Dev nD) (r : Fin 448) (J : Fin 11) (g : Fin 16) :
    iblk ch m ρ c (5 : Fin 11) (pt ch r) (ix3 0 J g) = m ((c : Thread nD τ).loc main_v5) (ix3 (expert ch r) J g) := by
  refine congrArg (m ((c : Thread nD τ).loc main_v5)) (funext fun a => ?_)
  fin_cases a
  · refine Fin.ext ((Pipeline.Window.rect_emb_val ((cfgA ch).win (5 : Fin 11)) (pt ch r) (ix3 0 J g) 0 rfl).trans ?_)
    refine (congrArg (fun n => n * 1 + 0) (word_pt ch r (k0_off1_inb _))).trans ?_
    show (expert ch r).val * 1 + 0 = (expert ch r).val
    omega
  · refine Fin.ext ((Pipeline.Window.rect_emb_val ((cfgA ch).win (5 : Fin 11)) (pt ch r) (ix3 0 J g) 1 rfl).trans ?_)
    show 0 * 11 + J.val = J.val
    omega
  · refine Fin.ext ((Pipeline.Window.rect_emb_val ((cfgA ch).win (5 : Fin 11)) (pt ch r) (ix3 0 J g) 2 rfl).trans ?_)
    show 0 * 16 + g.val = g.val
    omega

/-- The incoming gradient's codes. -/
theorem iblk_6 (c : Dev nD) (r : Fin 448) (p : Fin 128) (k : Fin 2048) :
    iblk ch m ρ c (6 : Fin 11) (pt ch r) (ix2 p k) = m ((c : Thread nD τ).loc main_arg7) (ix2 (rowOf r p) k) := by
  refine congrArg (m ((c : Thread nD τ).loc main_arg7)) (funext fun a => ?_)
  fin_cases a
  · refine Fin.ext ((Pipeline.Window.rect_emb_val ((cfgA ch).win (6 : Fin 11)) (pt ch r) (ix2 p k) 0 rfl).trans ?_)
    show (BitVec.ofNat 32 ((crd ch (pt ch r)) 0).val).toNat * 128 + p.val = 128 * r.val + p.val
    rw [crd_pt, ofNat_toNat _ r.isLt, Nat.mul_comm]
  · refine Fin.ext ((Pipeline.Window.rect_emb_val ((cfgA ch).win (6 : Fin 11)) (pt ch r) (ix2 p k) 1 rfl).trans ?_)
    show 0 * 2048 + k.val = k.val
    omega

/-- The incoming gradient's scales. -/
theorem iblk_7 (c : Dev nD) (r : Fin 448) (p : Fin 128) (k : Fin 16) :
    iblk ch m ρ c (7 : Fin 11) (pt ch r) (ix2 p k) = m ((c : Thread nD τ).loc main_arg8) (ix2 (rowOf r p) k) := by
  refine congrArg (m ((c : Thread nD τ).loc main_arg8)) (funext fun a => ?_)
  fin_cases a
  · refine Fin.ext ((Pipeline.Window.rect_emb_val ((cfgA ch).win (7 : Fin 11)) (pt ch r) (ix2 p k) 0 rfl).trans ?_)
    show (BitVec.ofNat 32 ((crd ch (pt ch r)) 0).val).toNat * 128 + p.val = 128 * r.val + p.val
    rw [crd_pt, ofNat_toNat _ r.isLt, Nat.mul_comm]
  · refine Fin.ext ((Pipeline.Window.rect_emb_val ((cfgA ch).win (7 : Fin 11)) (pt ch r) (ix2 p k) 1 rfl).trans ?_)
    show 0 * 16 + k.val = k.val
    omega

end Cert.KernelIdeal.Own

end
-- ==== Proof.Ideal.Outs.lean ====
/- The outputs of the body's two paths, named by the lists of stores the run records. -/
module

public import proofs.«01_k».proof.Proof.Ideal.Runs
public import Idealize.ShloMosaic.Lib.Pipeline.Value

@[expose] public section

set_option maxRecDepth 16384
set_option backward.proofsInPublic true

noncomputable section

namespace Cert.KernelIdeal.Own

open Cert.KernelIdeal Cert.KernelIdeal.Gen
open Idealize.ShloMosaic Idealize.ShloMosaic.TcCoe Idealize.ShloMosaic.Tactic
open Idealize.SL Idealize.SL.ProofMode

theorem out_A_8 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) :
    out0_A_8 c i arg2 harg2 arg3 harg3 arg4 harg4 arg5 harg5 arg6 harg6 arg7 harg7 arg8 harg8 arg9 harg9 arg10 harg10 arg11 harg11 arg12 harg12 T0 x0 x1 x2 x3 x4 x5 x6 x7 hc0 = View.canon (kernelRun0_A.sl.HO8_1 arg2 arg3 arg4 arg5 arg6 arg7 arg8 arg9 x0 x1 x2 x3 x4 x5 x6 x7) := by
  unfold out0_A_8 kernelRun0_A
  dsimp only
  exact View.read_writes_junk_eq_canon _ _

theorem out_A_9 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) :
    out0_A_9 c i arg2 harg2 arg3 harg3 arg4 harg4 arg5 harg5 arg6 harg6 arg7 harg7 arg8 harg8 arg9 harg9 arg10 harg10 arg11 harg11 arg12 harg12 T0 x0 x1 x2 x3 x4 x5 x6 x7 hc0 = View.canon (kernelRun0_A.sl.HO9_11 arg2 arg3 arg4 arg5 arg6 arg7 arg8 arg9 x0 x1 x2 x3 x4 x5 x6 x7) := by
  unfold out0_A_9 kernelRun0_A
  dsimp only
  exact View.read_writes_junk_eq_canon _ _

theorem out_A_10 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) :
    out0_A_10 c i arg2 harg2 arg3 harg3 arg4 harg4 arg5 harg5 arg6 harg6 arg7 harg7 arg8 harg8 arg9 harg9 arg10 harg10 arg11 harg11 arg12 harg12 T0 x0 x1 x2 x3 x4 x5 x6 x7 hc0 = View.canon (kernelRun0_A.sl.HO10_1 arg2 arg3 arg4 arg5 arg6 arg7 arg8 arg9 x0 x1 x2 x3 x4 x5 x6 x7) := by
  unfold out0_A_10 kernelRun0_A
  dsimp only
  exact View.read_writes_junk_eq_canon _ _

theorem scratch_A_0 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) :
    (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.2.2.1 = (View.whole cc0_scratch0).writes (Elt Ideal) (View.whole cc0_scratch0).junk (kernelRun0_A.sl.HS0_176 arg4 arg6 x2 x4) := by
  unfold kernelRun0_A
  dsimp only

theorem scratch_A_1 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) :
    (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.2.2.2.1 = (View.whole cc0_scratch1).writes (Elt Ideal) (View.whole cc0_scratch1).junk (kernelRun0_A.sl.HS1_176 arg5 arg7 x3 x5) := by
  unfold kernelRun0_A
  dsimp only

theorem out_B_8 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) :
    out0_B_8 c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0 = View.canon (kernelRun0_B.sl.HO8_1 c arg2 arg3 arg8 arg9 x0 x1 x6 x7 xa0 xa1) := by
  unfold out0_B_8 kernelRun0_B
  dsimp only
  exact View.read_writes_junk_eq_canon _ _

theorem out_B_9 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) :
    out0_B_9 c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0 = View.canon (kernelRun0_B.sl.HO9_11 c arg2 arg3 arg8 arg9 x0 x1 x6 x7 xa0 xa1) := by
  unfold out0_B_9 kernelRun0_B
  dsimp only
  exact View.read_writes_junk_eq_canon _ _

theorem out_B_10 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) :
    out0_B_10 c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0 = View.canon (kernelRun0_B.sl.HO10_1 c arg2 arg3 arg8 arg9 x0 x1 x6 x7 xa0 xa1) := by
  unfold out0_B_10 kernelRun0_B
  dsimp only
  exact View.read_writes_junk_eq_canon _ _

theorem scratch_B_0 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) :
    (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.2.2.1 = xa0 := by
  unfold kernelRun0_B
  dsimp only

theorem scratch_B_1 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) :
    (kernelRun0_B c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).2.2.2.2.1 = xa1 := by
  unfold kernelRun0_B
  dsimp only

end Cert.KernelIdeal.Own

end
-- ==== Proof.Ideal.Value.lean ====
/- What the pipeline computes: after every point the three output blocks are the model's functions of the point's operand
   blocks, and the two weight buffers hold the dequantised weights of the point's expert; so the three result arrays. -/
module

public import proofs.«01_k».proof.Proof.Ideal.PathA
public import proofs.«01_k».proof.Proof.Ideal.PathB
public import proofs.«01_k».proof.Proof.Ideal.Blocks
public import proofs.«01_k».proof.Proof.Ideal.Run
public import proofs.«01_k».proof.Proof.Ideal.Outs

@[expose] public section

set_option maxRecDepth 16384
set_option backward.proofsInPublic true

noncomputable section

namespace Cert.KernelIdeal.Own

open Cert.KernelIdeal Cert.KernelIdeal.Gen
open Idealize.ShloMosaic Idealize.ShloMosaic.TcCoe

variable (ch : Tab)
variable (m : (ℓ : Loc nD τ sig) → Buf (Elt Ideal) ℓ) (ρ : Dev nD → PrngReg)

/-! ## The operands of a point, dequantised -/

/-- The input block. -/
abbrev xs (c : Dev nD) (t : Fin (cfgA ch).N) : S128x2048.Idx → EReal := inputBlock (iblk ch m ρ c (0 : Fin 11) t) (iblk ch m ρ c (1 : Fin 11) t)
/-- The incoming gradient's block. -/
abbrev ys (c : Dev nD) (t : Fin (cfgA ch).N) : S128x2048.Idx → EReal := inputBlock (iblk ch m ρ c (6 : Fin 11) t) (iblk ch m ρ c (7 : Fin 11) t)
/-- The first weight of the point's expert. -/
abbrev w1s (c : Dev nD) (t : Fin (cfgA ch).N) : S2048x1408.Idx → EReal := weight1Block (iblk ch m ρ c (2 : Fin 11) t) (iblk ch m ρ c (4 : Fin 11) t)
/-- The second weight of the point's expert. -/
abbrev w2s (c : Dev nD) (t : Fin (cfgA ch).N) : S1408x2048.Idx → EReal := weight2Block (iblk ch m ρ c (3 : Fin 11) t) (iblk ch m ρ c (5 : Fin 11) t)

/-! ## The two paths -/

/-- Components of a pair that is known. -/
theorem of_fst {α β : Type} {s : α × β} {x : α} {y : β} (h : s = (x, y)) : s.1 = x := by rw [h]
theorem of_snd {α β : Type} {s : α × β} {x : α} {y : β} (h : s = (x, y)) : s.2 = y := by rw [h]

theorem gradient_A (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) (p : Fin 128) (k : Fin 2048) :
    out0_A_8 c i arg2 harg2 arg3 harg3 arg4 harg4 arg5 harg5 arg6 harg6 arg7 harg7 arg8 harg8 arg9 harg9 arg10 harg10 arg11 harg11 arg12 harg12 T0 x0 x1 x2 x3 x4 x5 x6 x7 hc0 (ix2 p k) = Model.dx (fun p k => (inputBlock x0 x1) (ix2 p k)) (fun p k => (inputBlock x6 x7) (ix2 p k)) (fun k j => (weight1Block x2 x4) (ix2 k j)) (fun j k => (weight2Block x3 x5) (ix2 j k)) p k :=
  (congrFun (out_A_8 c i arg2 harg2 arg3 harg3 arg4 harg4 arg5 harg5 arg6 harg6 arg7 harg7 arg8 harg8 arg9 harg9 arg10 harg10 arg11 harg11 arg12 harg12 T0 x0 x1 x2 x3 x4 x5 x6 x7 hc0) (ix2 p k)).trans (PathA.gradient_eq arg2 arg3 arg4 arg5 arg6 arg7 arg8 arg9 x0 x1 x2 x3 x4 x5 x6 x7 p k)

theorem codes_A (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) :
    out0_A_9 c i arg2 harg2 arg3 harg3 arg4 harg4 arg5 harg5 arg6 harg6 arg7 harg7 arg8 harg8 arg9 harg9 arg10 harg10 arg11 harg11 arg12 harg12 T0 x0 x1 x2 x3 x4 x5 x6 x7 hc0 = fun i => codeOf (inputBlock x0 x1) (inputBlock x6 x7) (weight1Block x2 x4) (weight2Block x3 x5) (i 0) (i 1) :=
  (out_A_9 c i arg2 harg2 arg3 harg3 arg4 harg4 arg5 harg5 arg6 harg6 arg7 harg7 arg8 harg8 arg9 harg9 arg10 harg10 arg11 harg11 arg12 harg12 T0 x0 x1 x2 x3 x4 x5 x6 x7 hc0).trans (PathA.codes_eq arg2 arg3 arg4 arg5 arg6 arg7 arg8 arg9 x0 x1 x2 x3 x4 x5 x6 x7)

theorem scales_A (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) :
    out0_A_10 c i arg2 harg2 arg3 harg3 arg4 harg4 arg5 harg5 arg6 harg6 arg7 harg7 arg8 harg8 arg9 harg9 arg10 harg10 arg11 harg11 arg12 harg12 T0 x0 x1 x2 x3 x4 x5 x6 x7 hc0 = fun i => scOf (inputBlock x0 x1) (inputBlock x6 x7) (weight1Block x2 x4) (weight2Block x3 x5) (i 0) (i 1) :=
  (out_A_10 c i arg2 harg2 arg3 harg3 arg4 harg4 arg5 harg5 arg6 harg6 arg7 harg7 arg8 harg8 arg9 harg9 arg10 harg10 arg11 harg11 arg12 harg12 T0 x0 x1 x2 x3 x4 x5 x6 x7 hc0).trans (PathA.scales_eq arg2 arg3 arg4 arg5 arg6 arg7 arg8 arg9 x0 x1 x2 x3 x4 x5 x6 x7)

theorem weight1_A (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) :
    (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.2.2.1 = weight1Block x2 x4 :=
  (scratch_A_0 c i arg2 harg2 arg3 harg3 arg4 harg4 arg5 harg5 arg6 harg6 arg7 harg7 arg8 harg8 arg9 harg9 arg10 harg10 arg11 harg11 arg12 harg12 T0 x0 x1 x2 x3 x4 x5 x6 x7 hc0).trans ((PathA.weight1_agrees arg4 arg6 x2 x4).read_junk (PathA.weight1_cover arg4 arg6 x2 x4) (View.whole cc0_scratch0))

theorem weight2_A (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (hc0 : (Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1) :
    (kernelRun0_A c i arg2 harg2 arg3 harg3 arg4 harg4 arg5 harg5 arg6 harg6 arg7 harg7 arg8 harg8 arg9 harg9 arg10 harg10 arg11 harg11 arg12 harg12 T0 x0 x1 x2 x3 x4 x5 x6 x7 hc0).2.2.2.2.1 = weight2Block x3 x5 :=
  (scratch_A_1 c i arg2 harg2 arg3 harg3 arg4 harg4 arg5 harg5 arg6 harg6 arg7 harg7 arg8 harg8 arg9 harg9 arg10 harg10 arg11 harg11 arg12 harg12 T0 x0 x1 x2 x3 x4 x5 x6 x7 hc0).trans ((PathA.weight2_agrees arg5 arg7 x3 x5).read_junk (PathA.weight2_cover arg5 arg7 x3 x5) (View.whole cc0_scratch1))

theorem gradient_B (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) (p : Fin 128) (k : Fin 2048) :
    out0_B_8 c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0 (ix2 p k) = Model.dx (fun p k => (inputBlock x0 x1) (ix2 p k)) (fun p k => (inputBlock x6 x7) (ix2 p k)) (fun k j => xa0 (ix2 k j)) (fun j k => xa1 (ix2 j k)) p k :=
  (congrFun (out_B_8 c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0) (ix2 p k)).trans (PathB.gradient_eq c arg2 arg3 arg8 arg9 x0 x1 x6 x7 xa0 xa1 p k)

theorem codes_B (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) :
    out0_B_9 c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0 = fun i => codeOf (inputBlock x0 x1) (inputBlock x6 x7) xa0 xa1 (i 0) (i 1) :=
  (out_B_9 c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).trans (PathB.codes_eq c arg2 arg3 arg8 arg9 x0 x1 x6 x7 xa0 xa1)

theorem scales_B (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .vmem S1408x2048 .fp8e4m3) (harg5 : arg5.IsWhole) (arg6 : Memref sig .tc .vmem S1x16x11 .f32) (harg6 : arg6.IsWhole) (arg7 : Memref sig .tc .vmem S1x11x16 .f32) (harg7 : arg7.IsWhole) (arg8 : Memref sig .tc .vmem S128x2048 .fp8e5m2) (harg8 : arg8.IsWhole) (arg9 : Memref sig .tc .vmem S128x16 .f32) (harg9 : arg9.IsWhole) (arg10 : Memref sig .tc .vmem S128x2048 .bf16) (harg10 : arg10.IsWhole) (arg11 : Memref sig .tc .vmem S128x1408 .fp8e5m2) (harg11 : arg11.IsWhole) (arg12 : Memref sig .tc .vmem S128x11 .f32) (harg12 : arg12.IsWhole) (T0 : (S448.Idx → Elt Ideal .i32))
     (x0 : (S128x2048.Idx → Elt Ideal .fp8e4m3)) (x1 : (S128x16.Idx → Elt Ideal .f32)) (x2 : (S2048x1408.Idx → Elt Ideal .fp8e4m3)) (x3 : (S1408x2048.Idx → Elt Ideal .fp8e4m3)) (x4 : (S1x16x11.Idx → Elt Ideal .f32)) (x5 : (S1x11x16.Idx → Elt Ideal .f32)) (x6 : (S128x2048.Idx → Elt Ideal .fp8e5m2)) (x7 : (S128x16.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 0).val) 0#32) (Scalar.cmpi .ne (View.readAt (Elt Ideal) (tbM0_0).view (Rect.unit (s := S448) (k0_off1 i) S1.size (k0_off1_inb i)).toLoadRect T0 (Shape.Idx.first (numel1_S1.symm ▸ Nat.one_pos))) (View.readAt (Elt Ideal) (tbM0_0).view (Rect.unit (s := S448) (k0_off2 i) S1.size (k0_off2_inb i)).toLoadRect T0 (Shape.Idx.first (numel1_S1.symm ▸ Nat.one_pos)))))) 0#32) = 1#1)) :
    out0_B_10 c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0 = fun i => scOf (inputBlock x0 x1) (inputBlock x6 x7) xa0 xa1 (i 0) (i 1) :=
  (out_B_10 c i arg2 harg2 arg3 harg3 arg4 harg4 arg5 harg5 arg6 harg6 arg7 harg7 arg8 harg8 arg9 harg9 arg10 harg10 arg11 harg11 arg12 harg12 T0 x0 x1 x2 x3 x4 x5 x6 x7 xa0 xa1 hc0).trans (PathB.scales_eq c arg2 arg3 arg8 arg9 x0 x1 x6 x7 xa0 xa1)

/-! ## One step -/

theorem step_A_8 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : P0_0 ch t) :
    (step0 ch m ρ c t prev).1 = out0_A_8 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1 :=
  of_fst (step0_A ch m ρ c t prev q0)

theorem step_A_9 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : P0_0 ch t) :
    (step0 ch m ρ c t prev).2.1 = out0_A_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1 :=
  of_fst (of_snd (step0_A ch m ρ c t prev q0))

theorem step_A_10 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : P0_0 ch t) :
    (step0 ch m ρ c t prev).2.2.1 = out0_A_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1 :=
  of_fst (of_snd (of_snd (step0_A ch m ρ c t prev q0)))

theorem step_A_w1 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : P0_0 ch t) :
    (step0 ch m ρ c t prev).2.2.2.1 = (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.1 :=
  of_fst (of_snd (of_snd (of_snd (step0_A ch m ρ c t prev q0))))

theorem step_A_w2 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : P0_0 ch t) :
    (step0 ch m ρ c t prev).2.2.2.2.1 = (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1).2.2.2.2.1 :=
  of_fst (of_snd (of_snd (of_snd (of_snd (step0_A ch m ρ c t prev q0)))))

theorem step_B_8 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : ¬P0_0 ch t) :
    (step0 ch m ρ c t prev).1 = out0_B_8 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1 :=
  of_fst (step0_B ch m ρ c t prev q0)

theorem step_B_9 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : ¬P0_0 ch t) :
    (step0 ch m ρ c t prev).2.1 = out0_B_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1 :=
  of_fst (of_snd (step0_B ch m ρ c t prev q0))

theorem step_B_10 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : ¬P0_0 ch t) :
    (step0 ch m ρ c t prev).2.2.1 = out0_B_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1 :=
  of_fst (of_snd (of_snd (step0_B ch m ρ c t prev q0)))

theorem step_B_w1 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : ¬P0_0 ch t) :
    (step0 ch m ρ c t prev).2.2.2.1 = (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.1 :=
  of_fst (of_snd (of_snd (of_snd (step0_B ch m ρ c t prev q0))))

theorem step_B_w2 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : ¬P0_0 ch t) :
    (step0 ch m ρ c t prev).2.2.2.2.1 = (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1).2.2.2.2.1 :=
  of_fst (of_snd (of_snd (of_snd (of_snd (step0_B ch m ρ c t prev q0)))))

end Cert.KernelIdeal.Own

end
-- ==== Proof.Ideal.Trajectory.lean ====
/- After every point: the two weight buffers hold the dequantised weights of the point's expert, whether the point refreshed
   them or carried them, and the three output blocks are the model's functions of the point's operands. -/
module

public import proofs.«01_k».proof.Proof.Ideal.Value

@[expose] public section

set_option maxRecDepth 16384
set_option backward.proofsInPublic true

noncomputable section

namespace Cert.KernelIdeal.Own

open Cert.KernelIdeal Cert.KernelIdeal.Gen
open Idealize.ShloMosaic Idealize.ShloMosaic.TcCoe

variable (ch : Tab)
variable (m : (ℓ : Loc nD τ sig) → Buf (Elt Ideal) ℓ) (ρ : Dev nD → PrngReg)

/-! ## When the weights are carried, the expert is that of the point before -/

/-- The condition's shape: if it fails, the two words are equal. -/
theorem words_eq (z : BitVec 1) (a b : BitVec 32)
    (h : ¬(Scalar.cmpi .ne (Scalar.extui (Scalar.ori z (Scalar.cmpi .ne a b))) 0#32 = 1#1)) : a = b := by
  by_contra hab
  have e : Scalar.cmpi .ne a b = 1#1 := by
    show BitVec.ofBool (a != b) = 1#1
    rw [bne_iff_ne.mpr hab]
    rfl
  rw [e] at h
  revert h z
  decide

/-- A word the body reads of the table. -/
theorem read_word (o : Fin 1 → ℕ) (n : Fin 448) (ho : o 0 = n.val) (h) :
    View.readAt (Elt Ideal) (tbM0_0).view (Rect.unit (s := S448) o S1.size h).toLoadRect (pinT_0 ch) (Shape.Idx.first (numel1_S1.symm ▸ Nat.one_pos))
      = ch.1 (ix1 n) := by
  refine congrArg ch.1 (funext fun a => ?_)
  fin_cases a
  refine Fin.ext ?_
  show o 0 + 1 * 0 = n.val
  omega

/-- The offset of the word before. -/
theorem before_word : ∀ r : Fin 448, (Scalar.indexCast (Scalar.maxsi (Scalar.subi (BitVec.ofNat 32 r.val) 1#32) 0#32)).toNat = r.val - 1 := by
  decide

theorem P0_succ (n : ℕ) (h : n + 1 < 448) (q : ¬P0_0 ch (pt ch ⟨n + 1, h⟩)) : expert ch ⟨n + 1, h⟩ = expert ch ⟨n, by omega⟩ := by
  have e := words_eq _ _ _ q
  rw [read_word ch _ ⟨n + 1, h⟩ (by
      show (BitVec.ofNat 32 ((crd ch (pt ch ⟨n + 1, h⟩)) 0).val).toNat = n + 1
      rw [crd_pt, ofNat_toNat _ h]),
    read_word ch _ ⟨n, by omega⟩ (by
      show (Scalar.indexCast (Scalar.maxsi (Scalar.subi (BitVec.ofNat 32 ((crd ch (pt ch ⟨n + 1, h⟩)) 0).val) 1#32) 0#32)).toNat = n
      rw [crd_pt]
      exact before_word ⟨n + 1, h⟩)] at e
  exact Fin.ext (show (ch.1 _).toNat = (ch.1 _).toNat by rw [e])

/-! ## One point -/

/-- An index of a matrix is the pair of its coordinates. -/
theorem eta2 {n0 n1 : ℕ} (i : (⟨2, ![n0, n1]⟩ : Shape).Idx) : i = ix2 (i 0) (i 1) := by
  funext a
  fin_cases a <;> rfl

/-- The fourth, and the fifth, component of equal tuples. -/
theorem fourth {α β γ δ ε : Type} {s t : α × β × γ × δ × ε} (h : s = t) : s.2.2.2.1 = t.2.2.2.1 := by rw [h]
theorem fifth {α β γ δ ε ζ : Type} {s t : α × β × γ × δ × ε × ζ} (h : s = t) : s.2.2.2.2.1 = t.2.2.2.2.1 := by rw [h]

/-- A refreshing point leaves the dequantised weight 1 of its expert. -/
theorem fresh_w1 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : P0_0 ch t) : (step0 ch m ρ c t prev).2.2.2.1 = w1s ch m ρ c t :=
  (step_A_w1 ch m ρ c t prev q0).trans (weight1_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1)

/-- A carrying point leaves weight 1 as it was. -/
theorem carry_w1 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : ¬P0_0 ch t) : (step0 ch m ρ c t prev).2.2.2.1 = prev.2.2.2.1 :=
  (step_B_w1 ch m ρ c t prev q0).trans (scratch_B_0 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1)

/-- A refreshing point leaves the dequantised weight 2 of its expert. -/
theorem fresh_w2 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : P0_0 ch t) : (step0 ch m ρ c t prev).2.2.2.2.1 = w2s ch m ρ c t :=
  (step_A_w2 ch m ρ c t prev q0).trans (weight2_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1)

/-- A carrying point leaves weight 2 as it was. -/
theorem carry_w2 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : ¬P0_0 ch t) : (step0 ch m ρ c t prev).2.2.2.2.1 = prev.2.2.2.2.1 :=
  (step_B_w2 ch m ρ c t prev q0).trans (scratch_B_1 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1)

/-- The gradient a refreshing point leaves. -/
theorem renew_8 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : P0_0 ch t) (p : Fin 128) (k : Fin 2048) : (step0 ch m ρ c t prev).1 (ix2 p k) = Model.dx (fun p k => xs ch m ρ c t (ix2 p k)) (fun p k => ys ch m ρ c t (ix2 p k)) (fun k j => w1s ch m ρ c t (ix2 k j)) (fun j k => w2s ch m ρ c t (ix2 j k)) p k :=
  (congrFun (step_A_8 ch m ρ c t prev q0) (ix2 p k)).trans (gradient_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1 p k)

/-- The gradient a carrying point leaves, of the weights it was left. -/
theorem carry_8 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : ¬P0_0 ch t) (p : Fin 128) (k : Fin 2048) (W : S2048x1408.Idx → EReal) (V : S1408x2048.Idx → EReal) (hW : prev.2.2.2.1 = W) (hV : prev.2.2.2.2.1 = V) :
    (step0 ch m ρ c t prev).1 (ix2 p k) = Model.dx (fun p k => xs ch m ρ c t (ix2 p k)) (fun p k => ys ch m ρ c t (ix2 p k)) (fun k j => W (ix2 k j)) (fun j k => V (ix2 j k)) p k := by
  subst hW hV
  exact (congrFun (step_B_8 ch m ρ c t prev q0) (ix2 p k)).trans (gradient_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1 p k)

/-- The codes a refreshing point leaves. -/
theorem renew_9 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : P0_0 ch t) (i : S128x1408.Idx) : (step0 ch m ρ c t prev).2.1 i = Model.code (fun p k => xs ch m ρ c t (ix2 p k)) (fun p k => ys ch m ρ c t (ix2 p k)) (fun k j => w1s ch m ρ c t (ix2 k j)) (fun j k => w2s ch m ρ c t (ix2 j k)) (i 0) (i 1) :=
  (congrFun (step_A_9 ch m ρ c t prev q0) i).trans (congrFun (codes_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1) i)

/-- The codes a carrying point leaves, of the weights it was left. -/
theorem carry_9 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : ¬P0_0 ch t) (i : S128x1408.Idx) (W : S2048x1408.Idx → EReal) (V : S1408x2048.Idx → EReal) (hW : prev.2.2.2.1 = W) (hV : prev.2.2.2.2.1 = V) :
    (step0 ch m ρ c t prev).2.1 i = Model.code (fun p k => xs ch m ρ c t (ix2 p k)) (fun p k => ys ch m ρ c t (ix2 p k)) (fun k j => W (ix2 k j)) (fun j k => V (ix2 j k)) (i 0) (i 1) := by
  subst hW hV
  exact (congrFun (step_B_9 ch m ρ c t prev q0) i).trans (congrFun (codes_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1) i)

/-- The scales a refreshing point leaves. -/
theorem renew_10 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : P0_0 ch t) (i : S128x11.Idx) : (step0 ch m ρ c t prev).2.2.1 i = Model.sc (fun p k => xs ch m ρ c t (ix2 p k)) (fun p k => ys ch m ρ c t (ix2 p k)) (fun k j => w1s ch m ρ c t (ix2 k j)) (fun j k => w2s ch m ρ c t (ix2 j k)) (i 0) (i 1) :=
  (congrFun (step_A_10 ch m ρ c t prev q0) i).trans (congrFun (scales_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) ((⟨q0, trivial⟩ : P0_0 ch t ∧ True)).1) i)

/-- The scales a carrying point leaves, of the weights it was left. -/
theorem carry_10 (c : Dev nD) (t : Fin (cfgA ch).N) (prev : (S128x2048.Idx → Elt Ideal .bf16) × (S128x1408.Idx → Elt Ideal .fp8e5m2) × (S128x11.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)) (q0 : ¬P0_0 ch t) (i : S128x11.Idx) (W : S2048x1408.Idx → EReal) (V : S1408x2048.Idx → EReal) (hW : prev.2.2.2.1 = W) (hV : prev.2.2.2.2.1 = V) :
    (step0 ch m ρ c t prev).2.2.1 i = Model.sc (fun p k => xs ch m ρ c t (ix2 p k)) (fun p k => ys ch m ρ c t (ix2 p k)) (fun k j => W (ix2 k j)) (fun j k => V (ix2 j k)) (i 0) (i 1) := by
  subst hW hV
  exact (congrFun (step_B_10 ch m ρ c t prev q0) i).trans (congrFun (scales_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (pinT_0 ch) (iblk ch m ρ c (0 : Fin 11) t) (iblk ch m ρ c (1 : Fin 11) t) (iblk ch m ρ c (2 : Fin 11) t) (iblk ch m ρ c (3 : Fin 11) t) (iblk ch m ρ c (4 : Fin 11) t) (iblk ch m ρ c (5 : Fin 11) t) (iblk ch m ρ c (6 : Fin 11) t) (iblk ch m ρ c (7 : Fin 11) t) prev.2.2.2.1 prev.2.2.2.2.1 ((⟨q0, trivial⟩ : (¬P0_0 ch t) ∧ True)).1) i)

/-! ## The weights over the points -/

/-- The first weight's block depends on the point's expert alone. -/
theorem w1s_congr (c : Dev nD) (r r' : Fin 448) (e : expert ch r = expert ch r') : w1s ch m ρ c (pt ch r) = w1s ch m ρ c (pt ch r') := by
  have e2 : ∀ j, colOf ch r j = colOf ch r' j := fun j => Fin.ext (by show 1408 * (expert ch r).val + j.val = 1408 * (expert ch r').val + j.val; rw [e])
  funext i
  obtain ⟨k, j, rfl⟩ : ∃ (k : Fin 2048) (j : Fin 1408), i = ix2 k j := ⟨i 0, i 1, eta2 i⟩
  refine congrArg₂ (· * ·) ?_ ?_
  · exact (iblk_2 ch m ρ c r k j).trans ((congrArg (fun x => m ((c : Thread nD τ).loc main_arg2) (ix2 k x)) (e2 j)).trans (iblk_2 ch m ρ c r' k j).symm)
  · exact (iblk_4 ch m ρ c r _ _).trans ((congrArg (fun x => m ((c : Thread nD τ).loc main_v4) (ix3 x _ _)) e).trans (iblk_4 ch m ρ c r' _ _).symm)

/-- The second weight's block depends on the point's expert alone. -/
theorem w2s_congr (c : Dev nD) (r r' : Fin 448) (e : expert ch r = expert ch r') : w2s ch m ρ c (pt ch r) = w2s ch m ρ c (pt ch r') := by
  have e2 : ∀ j, colOf ch r j = colOf ch r' j := fun j => Fin.ext (by show 1408 * (expert ch r).val + j.val = 1408 * (expert ch r').val + j.val; rw [e])
  funext i
  obtain ⟨j, k, rfl⟩ : ∃ (j : Fin 1408) (k : Fin 2048), i = ix2 j k := ⟨i 0, i 1, eta2 i⟩
  refine congrArg₂ (· * ·) ?_ ?_
  · exact (iblk_3 ch m ρ c r j k).trans ((congrArg (fun x => m ((c : Thread nD τ).loc main_arg4) (ix2 x k)) (e2 j)).trans (iblk_3 ch m ρ c r' j k).symm)
  · exact (iblk_5 ch m ρ c r _ _).trans ((congrArg (fun x => m ((c : Thread nD τ).loc main_v5) (ix3 x _ _)) e).trans (iblk_5 ch m ρ c r' _ _).symm)

/-- After every point the weight buffers hold the weights of the point's expert. -/
theorem held (c : Dev nD) : ∀ (n : ℕ) (h : n < 448), (traj0 ch m ρ c n (pt ch ⟨n, h⟩).isLt).2.2.2.1 = w1s ch m ρ c (pt ch ⟨n, h⟩)
      ∧ (traj0 ch m ρ c n (pt ch ⟨n, h⟩).isLt).2.2.2.2.1 = w2s ch m ρ c (pt ch ⟨n, h⟩) := by
  intro n
  induction n with
  | zero =>
    intro h
    exact ⟨(fourth (traj0_eq ch m ρ c (pt ch ⟨0, h⟩))).trans (fresh_w1 ch m ρ c (pt ch ⟨0, h⟩) _ (P0_zero ch _ rfl)),
      (fifth (traj0_eq ch m ρ c (pt ch ⟨0, h⟩))).trans (fresh_w2 ch m ρ c (pt ch ⟨0, h⟩) _ (P0_zero ch _ rfl))⟩
  | succ n ih =>
    intro h
    by_cases q : P0_0 ch (pt ch ⟨n + 1, h⟩)
    · exact ⟨(fourth (traj0_eq ch m ρ c (pt ch ⟨n + 1, h⟩))).trans (fresh_w1 ch m ρ c (pt ch ⟨n + 1, h⟩) _ q),
        (fifth (traj0_eq ch m ρ c (pt ch ⟨n + 1, h⟩))).trans (fresh_w2 ch m ρ c (pt ch ⟨n + 1, h⟩) _ q)⟩
    · have hp : prev0 ch m ρ c (pt ch ⟨n + 1, h⟩) = traj0 ch m ρ c n (pt ch ⟨n, by omega⟩).isLt := by
        unfold prev0
        exact dif_neg (Nat.succ_ne_zero n)
      have e := (P0_succ ch n h q).symm
      exact ⟨(fourth (traj0_eq ch m ρ c (pt ch ⟨n + 1, h⟩))).trans ((carry_w1 ch m ρ c (pt ch ⟨n + 1, h⟩) _ q).trans
          ((fourth hp).trans ((ih (by omega)).1.trans (w1s_congr ch m ρ c _ _ e)))),
        (fifth (traj0_eq ch m ρ c (pt ch ⟨n + 1, h⟩))).trans ((carry_w2 ch m ρ c (pt ch ⟨n + 1, h⟩) _ q).trans
          ((fifth hp).trans ((ih (by omega)).2.trans (w2s_congr ch m ρ c _ _ e))))⟩

/-- What a carrying point was left: the weights of its own expert. -/
theorem left (c : Dev nD) (r : Fin 448) (q : ¬P0_0 ch (pt ch r)) :
    (prev0 ch m ρ c (pt ch r)).2.2.2.1 = w1s ch m ρ c (pt ch r) ∧ (prev0 ch m ρ c (pt ch r)).2.2.2.2.1 = w2s ch m ρ c (pt ch r) := by
  obtain ⟨n, h⟩ := r
  cases n with
  | zero => exact absurd (P0_zero ch _ rfl) q
  | succ n =>
    have hp : prev0 ch m ρ c (pt ch ⟨n + 1, h⟩) = traj0 ch m ρ c n (pt ch ⟨n, by omega⟩).isLt := by
      unfold prev0
      exact dif_neg (Nat.succ_ne_zero n)
    have e := (P0_succ ch n h q).symm
    exact ⟨(fourth hp).trans ((held ch m ρ c n (by omega)).1.trans (w1s_congr ch m ρ c _ _ e)),
      (fifth hp).trans ((held ch m ρ c n (by omega)).2.trans (w2s_congr ch m ρ c _ _ e))⟩

/-! ## The three blocks after a point -/

/-- The first, second and third components of equal tuples. -/
theorem first {α β : Type} {s t : α × β} (h : s = t) : s.1 = t.1 := by rw [h]
theorem second {α β γ : Type} {s t : α × β × γ} (h : s = t) : s.2.1 = t.2.1 := by rw [h]
theorem third {α β γ δ : Type} {s t : α × β × γ × δ} (h : s = t) : s.2.2.1 = t.2.2.1 := by rw [h]

/-- The gradient after the point of row block `r`. -/
theorem after_8 (c : Dev nD) (r : Fin 448) (p : Fin 128) (k : Fin 2048) :
    (traj0 ch m ρ c (pt ch r).val (pt ch r).isLt).1 (ix2 p k) = Model.dx (fun p k => xs ch m ρ c (pt ch r) (ix2 p k)) (fun p k => ys ch m ρ c (pt ch r) (ix2 p k)) (fun k j => w1s ch m ρ c (pt ch r) (ix2 k j)) (fun j k => w2s ch m ρ c (pt ch r) (ix2 j k)) p k := by
  refine (congrFun (first (traj0_eq ch m ρ c (pt ch r))) (ix2 p k)).trans ?_
  by_cases q : P0_0 ch (pt ch r)
  · exact renew_8 ch m ρ c (pt ch r) _ q p k
  · exact carry_8 ch m ρ c (pt ch r) _ q p k _ _ (left ch m ρ c r q).1 (left ch m ρ c r q).2

/-- The codes after the point of row block `r`. -/
theorem after_9 (c : Dev nD) (r : Fin 448) (i : S128x1408.Idx) :
    (traj0 ch m ρ c (pt ch r).val (pt ch r).isLt).2.1 i = Model.code (fun p k => xs ch m ρ c (pt ch r) (ix2 p k)) (fun p k => ys ch m ρ c (pt ch r) (ix2 p k)) (fun k j => w1s ch m ρ c (pt ch r) (ix2 k j)) (fun j k => w2s ch m ρ c (pt ch r) (ix2 j k)) (i 0) (i 1) := by
  refine (congrFun (second (traj0_eq ch m ρ c (pt ch r))) i).trans ?_
  by_cases q : P0_0 ch (pt ch r)
  · exact renew_9 ch m ρ c (pt ch r) _ q i
  · exact carry_9 ch m ρ c (pt ch r) _ q i _ _ (left ch m ρ c r q).1 (left ch m ρ c r q).2

/-- The scales after the point of row block `r`. -/
theorem after_10 (c : Dev nD) (r : Fin 448) (i : S128x11.Idx) :
    (traj0 ch m ρ c (pt ch r).val (pt ch r).isLt).2.2.1 i = Model.sc (fun p k => xs ch m ρ c (pt ch r) (ix2 p k)) (fun p k => ys ch m ρ c (pt ch r) (ix2 p k)) (fun k j => w1s ch m ρ c (pt ch r) (ix2 k j)) (fun j k => w2s ch m ρ c (pt ch r) (ix2 j k)) (i 0) (i 1) := by
  refine (congrFun (third (traj0_eq ch m ρ c (pt ch r))) i).trans ?_
  by_cases q : P0_0 ch (pt ch r)
  · exact renew_10 ch m ρ c (pt ch r) _ q i
  · exact carry_10 ch m ρ c (pt ch r) _ q i _ _ (left ch m ρ c r q).1 (left ch m ρ c r q).2

end Cert.KernelIdeal.Own

end
-- ==== Proof.Ideal.Arrays.lean ====
/- The three result arrays: the row blocks the points write tile them, so each entry is the entry of its row block's point. -/
module

public import proofs.«01_k».proof.Proof.Ideal.Blocks
public import proofs.«01_k».proof.Proof.Ideal.Run

@[expose] public section

set_option maxRecDepth 16384
set_option backward.proofsInPublic true

noncomputable section

namespace Cert.KernelIdeal.Own

open Cert.KernelIdeal Cert.KernelIdeal.Gen
open Idealize.ShloMosaic Idealize.ShloMosaic.TcCoe

variable (ch : Tab)
variable (m : (ℓ : Loc nD τ sig) → Buf (Elt Ideal) ℓ) (ρ : Dev nD → PrngReg)

/-- Points that write the same row block are the same point. -/
theorem same_point (t t' : Fin (cfgA ch).N) (e : cc0_transform_8 (crd ch t) = cc0_transform_8 (crd ch t')) : t = t' := by
  have h := sep_8 (crd ch t) (crd ch t') e
  refine Fin.ext ?_
  rw [← crd_val ch t, ← crd_val ch t', h]

theorem apart_8 : ∀ t t' : Fin (cfgA ch).N, ((cfgA ch).win (8 : Fin 11)).flush t = true → ((cfgA ch).win (8 : Fin 11)).flush t' = true → t ≠ t' →
    Disjoint (((cfgA ch).win (8 : Fin 11)).blk t).view.set (((cfgA ch).win (8 : Fin 11)).blk t').view.set :=
  fun t t' _ _ hne => ((cfgA ch).win (8 : Fin 11)).disjoint_blk (fun e => hne (same_point ch t t' e)) rfl

/-- Where an entry of a row block's input gradient sits. -/
theorem place_8 (r : Fin 448) (p : Fin 128) (k : Fin 2048) : (((cfgA ch).win (8 : Fin 11)).blk (pt ch r)).view.emb (ix2 p k) = ix2 (rowOf r p) k := by
  funext a
  fin_cases a
  · refine Fin.ext ((Pipeline.Window.rect_emb_val ((cfgA ch).win (8 : Fin 11)) (pt ch r) (ix2 p k) 0 rfl).trans ?_)
    show (BitVec.ofNat 32 ((crd ch (pt ch r)) 0).val).toNat * 128 + p.val = 128 * r.val + p.val
    rw [crd_pt, ofNat_toNat _ r.isLt, Nat.mul_comm]
  · refine Fin.ext ((Pipeline.Window.rect_emb_val ((cfgA ch).win (8 : Fin 11)) (pt ch r) (ix2 p k) 1 rfl).trans ?_)
    show 0 * 2048 + k.val = k.val
    omega

/-- The input gradient' array, entry by entry. -/
theorem array_8 (c : Dev nD) (r : Fin 448) (p : Fin 128) (k : Fin 2048) :
    (dats ch m ρ 0 c).arrAt (8 : Fin 11) (cfgA ch).N (ix2 (rowOf r p) k) = (traj0 ch m ρ c (pt ch r).val (pt ch r).isLt).1 (ix2 p k) :=
  (congrArg ((dats ch m ρ 0 c).arrAt (8 : Fin 11) (cfgA ch).N) (place_8 ch r p k).symm).trans
    (((dats ch m ρ 0 c).arrAt_emb_eq_flushed (8 : Fin 11) (apart_8 ch) (pt ch r) (flush_8 ch (pt ch r)) (ix2 p k)).trans
      (congrFun (after0_8 ch m ρ c (pt ch r)) (ix2 p k)))

theorem apart_9 : ∀ t t' : Fin (cfgA ch).N, ((cfgA ch).win (9 : Fin 11)).flush t = true → ((cfgA ch).win (9 : Fin 11)).flush t' = true → t ≠ t' →
    Disjoint (((cfgA ch).win (9 : Fin 11)).blk t).view.set (((cfgA ch).win (9 : Fin 11)).blk t').view.set :=
  fun t t' _ _ hne => ((cfgA ch).win (9 : Fin 11)).disjoint_blk (fun e => hne (same_point ch t t' e)) rfl

/-- Where an entry of a row block's codes sits. -/
theorem place_9 (r : Fin 448) (p : Fin 128) (k : Fin 1408) : (((cfgA ch).win (9 : Fin 11)).blk (pt ch r)).view.emb (ix2 p k) = ix2 (rowOf r p) k := by
  funext a
  fin_cases a
  · refine Fin.ext ((Pipeline.Window.rect_emb_val ((cfgA ch).win (9 : Fin 11)) (pt ch r) (ix2 p k) 0 rfl).trans ?_)
    show (BitVec.ofNat 32 ((crd ch (pt ch r)) 0).val).toNat * 128 + p.val = 128 * r.val + p.val
    rw [crd_pt, ofNat_toNat _ r.isLt, Nat.mul_comm]
  · refine Fin.ext ((Pipeline.Window.rect_emb_val ((cfgA ch).win (9 : Fin 11)) (pt ch r) (ix2 p k) 1 rfl).trans ?_)
    show 0 * 1408 + k.val = k.val
    omega

/-- The codes' array, entry by entry. -/
theorem array_9 (c : Dev nD) (r : Fin 448) (p : Fin 128) (k : Fin 1408) :
    (dats ch m ρ 0 c).arrAt (9 : Fin 11) (cfgA ch).N (ix2 (rowOf r p) k) = (traj0 ch m ρ c (pt ch r).val (pt ch r).isLt).2.1 (ix2 p k) :=
  (congrArg ((dats ch m ρ 0 c).arrAt (9 : Fin 11) (cfgA ch).N) (place_9 ch r p k).symm).trans
    (((dats ch m ρ 0 c).arrAt_emb_eq_flushed (9 : Fin 11) (apart_9 ch) (pt ch r) (flush_9 ch (pt ch r)) (ix2 p k)).trans
      (congrFun (after0_9 ch m ρ c (pt ch r)) (ix2 p k)))

theorem apart_10 : ∀ t t' : Fin (cfgA ch).N, ((cfgA ch).win (10 : Fin 11)).flush t = true → ((cfgA ch).win (10 : Fin 11)).flush t' = true → t ≠ t' →
    Disjoint (((cfgA ch).win (10 : Fin 11)).blk t).view.set (((cfgA ch).win (10 : Fin 11)).blk t').view.set :=
  fun t t' _ _ hne => ((cfgA ch).win (10 : Fin 11)).disjoint_blk (fun e => hne (same_point ch t t' e)) rfl

/-- Where an entry of a row block's scales sits. -/
theorem place_10 (r : Fin 448) (p : Fin 128) (k : Fin 11) : (((cfgA ch).win (10 : Fin 11)).blk (pt ch r)).view.emb (ix2 p k) = ix2 (rowOf r p) k := by
  funext a
  fin_cases a
  · refine Fin.ext ((Pipeline.Window.rect_emb_val ((cfgA ch).win (10 : Fin 11)) (pt ch r) (ix2 p k) 0 rfl).trans ?_)
    show (BitVec.ofNat 32 ((crd ch (pt ch r)) 0).val).toNat * 128 + p.val = 128 * r.val + p.val
    rw [crd_pt, ofNat_toNat _ r.isLt, Nat.mul_comm]
  · refine Fin.ext ((Pipeline.Window.rect_emb_val ((cfgA ch).win (10 : Fin 11)) (pt ch r) (ix2 p k) 1 rfl).trans ?_)
    show 0 * 11 + k.val = k.val
    omega

/-- The scales' array, entry by entry. -/
theorem array_10 (c : Dev nD) (r : Fin 448) (p : Fin 128) (k : Fin 11) :
    (dats ch m ρ 0 c).arrAt (10 : Fin 11) (cfgA ch).N (ix2 (rowOf r p) k) = (traj0 ch m ρ c (pt ch r).val (pt ch r).isLt).2.2.1 (ix2 p k) :=
  (congrArg ((dats ch m ρ 0 c).arrAt (10 : Fin 11) (cfgA ch).N) (place_10 ch r p k).symm).trans
    (((dats ch m ρ 0 c).arrAt_emb_eq_flushed (10 : Fin 11) (apart_10 ch) (pt ch r) (flush_10 ch (pt ch r)) (ix2 p k)).trans
      (congrFun (after0_10 ch m ρ c (pt ch r)) (ix2 p k)))

end Cert.KernelIdeal.Own

end
-- ==== Proof.Math.Operands.lean ====
/- The four operands of a row block, dequantised, as functions of the arrays both programs are given: rows are numbered
   128 to a block, an expert owns 1408 consecutive columns, and one scale serves 128 consecutive entries. -/
module

public import proofs.«01_k».proof.Proof.Math.Model
public import Idealize.ShloMosaic.Lib.Pointwise

@[expose] public section

noncomputable section

namespace Cert.Operands

open Idealize.ShloMosaic

/-- Row `p` of row block `r`. -/
def row (r : Fin 448) (p : Fin 128) : Fin 57344 := ⟨128 * r.val + p.val, by omega⟩

/-- Column `j` of expert `e`. -/
def col (e : Fin 64) (j : Fin 1408) : Fin 90112 := ⟨1408 * e.val + j.val, by omega⟩

/-- Column group `J` of expert `e`. -/
def grp (e : Fin 64) (J : Fin 11) : Fin 704 := ⟨11 * e.val + J.val, by omega⟩

/-- The rows of a row block, dequantised. -/
def rows (a : (⟨2, ![57344, 2048]⟩ : Shape).Idx → EReal) (s : (⟨2, ![57344, 16]⟩ : Shape).Idx → EReal) (r : Fin 448) (p : Fin 128) (k : Fin 2048) : EReal :=
  a (ix2 (row r p) k) * s (ix2 (row r p) (Model.group16 k))

/-- The first weight of an expert, dequantised. -/
def first (a : (⟨2, ![2048, 90112]⟩ : Shape).Idx → EReal) (s : (⟨2, ![16, 704]⟩ : Shape).Idx → EReal) (e : Fin 64) (k : Fin 2048) (j : Fin 1408) : EReal :=
  a (ix2 k (col e j)) * s (ix2 (Model.group16 k) (grp e (Model.group j)))

/-- The second weight of an expert, dequantised. -/
def second (a : (⟨2, ![90112, 2048]⟩ : Shape).Idx → EReal) (s : (⟨2, ![704, 16]⟩ : Shape).Idx → EReal) (e : Fin 64) (j : Fin 1408) (k : Fin 2048) : EReal :=
  a (ix2 (col e j) k) * s (ix2 (grp e (Model.group j)) (Model.group16 k))

end Cert.Operands

end
-- ==== Proof.Ideal.Result.lean ====
/- The kernel's three results as functions of its arguments. -/
module

public import proofs.«01_k».proof.Proof.Ideal.Trajectory
public import proofs.«01_k».proof.Proof.Ideal.Arrays
public import proofs.«01_k».proof.Proof.Ideal.Host
public import proofs.«01_k».proof.Proof.Math.Operands

@[expose] public section

set_option maxRecDepth 16384
set_option backward.proofsInPublic true

noncomputable section

namespace Cert.KernelIdeal.Own

open Cert.KernelIdeal Cert.KernelIdeal.Gen
open Idealize.ShloMosaic Idealize.ShloMosaic.TcCoe Idealize.ShloMosaic.Tactic

variable (ch : Tab)
variable (m : (ℓ : Loc nD τ sig) → Buf (Elt Ideal) ℓ) (ρ : Dev nD → PrngReg)

/-! ## The scales, laid out by expert -/

/-- The first weight's scales, by expert. -/
theorem scales1_at (x : S16x704.Idx → EReal) (e : Fin 64) (g : Fin 16) (J : Fin 11) :
    transpose S64x16x11 [1, 0, 2] (shapeCast S16x64x11 x shapeCasts_S16x704_S16x64x11) transposes_S16x64x11_S64x16x11_1_0_2 (ix3 e g J)
      = x (ix2 g (Operands.grp e J)) := by
  refine (transpose_apply _ _ _ (ix3 e g J) (ix3 g e J) (by intro b; fin_cases b <;> rfl)).trans ?_
  refine shapeCast_apply _ _ (ix3 g e J) (ix2 g (Operands.grp e J)) ?_
  rw [Shape.rowMajor_val_two, Shape.rowMajor_val_three]
  show g.val * 704 + (11 * e.val + J.val) = (g.val * 64 + e.val) * 11 + J.val
  omega

/-- The second weight's scales, by expert. -/
theorem scales2_at (x : S704x16.Idx → EReal) (e : Fin 64) (J : Fin 11) (g : Fin 16) :
    shapeCast S64x11x16 x shapeCasts_S704x16_S64x11x16 (ix3 e J g) = x (ix2 (Operands.grp e J) g) := by
  refine shapeCast_apply _ _ (ix3 e J g) (ix2 (Operands.grp e J) g) ?_
  rw [Shape.rowMajor_val_two, Shape.rowMajor_val_three]
  show (11 * e.val + J.val) * 16 + g.val = (e.val * 11 + J.val) * 16 + g.val
  omega

theorem mV_v4 (c : Dev nD) (e : Fin 64) (g : Fin 16) (J : Fin 11) :
    mV m ((c : Thread nD τ).loc main_v4) (ix3 e g J) = m ((c : Thread nD τ).loc main_arg3) (ix2 g (Operands.grp e J)) := by
  refine Eq.trans ?_ (scales1_at (m ((c : Thread nD τ).loc main_arg3)) e g J)
  simp only [mV, hostAll, hostOps0, hostOps0_1, hostOps0_2, List.flatten_cons, List.flatten_nil, List.cons_append, List.nil_append]; after_results
  rfl

theorem mV_v5 (c : Dev nD) (e : Fin 64) (J : Fin 11) (g : Fin 16) :
    mV m ((c : Thread nD τ).loc main_v5) (ix3 e J g) = m ((c : Thread nD τ).loc main_arg5) (ix2 (Operands.grp e J) g) := by
  refine Eq.trans ?_ (scales2_at (m ((c : Thread nD τ).loc main_arg5)) e J g)
  simp only [mV, hostAll, hostOps0, hostOps0_1, hostOps0_2, List.flatten_cons, List.flatten_nil, List.cons_append, List.nil_append]; after_results
  rfl

/-! ## The operands -/

theorem xs_eq (c : Dev nD) (r : Fin 448) (p : Fin 128) (k : Fin 2048) :
    xs ch (mV m) ρ c (pt ch r) (ix2 p k) = Operands.rows (m ((c : Thread nD τ).loc main_arg0)) (m ((c : Thread nD τ).loc main_arg1)) r p k := by
  refine congrArg₂ (· * ·) ?_ ?_
  · exact (iblk_0 ch (mV m) ρ c r p k).trans (congrFun (mV_arg0 m c) (ix2 (rowOf r p) k))
  · exact (iblk_1 ch (mV m) ρ c r p (Model.group16 k)).trans (congrFun (mV_arg1 m c) (ix2 (rowOf r p) (Model.group16 k)))

theorem ys_eq (c : Dev nD) (r : Fin 448) (p : Fin 128) (k : Fin 2048) :
    ys ch (mV m) ρ c (pt ch r) (ix2 p k) = Operands.rows (m ((c : Thread nD τ).loc main_arg7)) (m ((c : Thread nD τ).loc main_arg8)) r p k := by
  refine congrArg₂ (· * ·) ?_ ?_
  · exact (iblk_6 ch (mV m) ρ c r p k).trans (congrFun (mV_arg7 m c) (ix2 (rowOf r p) k))
  · exact (iblk_7 ch (mV m) ρ c r p (Model.group16 k)).trans (congrFun (mV_arg8 m c) (ix2 (rowOf r p) (Model.group16 k)))

theorem w1s_eq (c : Dev nD) (r : Fin 448) (k : Fin 2048) (j : Fin 1408) :
    w1s ch (mV m) ρ c (pt ch r) (ix2 k j) = Operands.first (m ((c : Thread nD τ).loc main_arg2)) (m ((c : Thread nD τ).loc main_arg3)) (expert ch r) k j := by
  refine congrArg₂ (· * ·) ?_ ?_
  · exact (iblk_2 ch (mV m) ρ c r k j).trans (congrFun (mV_arg2 m c) (ix2 k (colOf ch r j)))
  · exact (iblk_4 ch (mV m) ρ c r (Model.group16 k) (Model.group j)).trans (mV_v4 m c (expert ch r) (Model.group16 k) (Model.group j))

theorem w2s_eq (c : Dev nD) (r : Fin 448) (j : Fin 1408) (k : Fin 2048) :
    w2s ch (mV m) ρ c (pt ch r) (ix2 j k) = Operands.second (m ((c : Thread nD τ).loc main_arg4)) (m ((c : Thread nD τ).loc main_arg5)) (expert ch r) j k := by
  refine congrArg₂ (· * ·) ?_ ?_
  · exact (iblk_3 ch (mV m) ρ c r j k).trans (congrFun (mV_arg4 m c) (ix2 (colOf ch r j) k))
  · exact (iblk_5 ch (mV m) ρ c r (Model.group j) (Model.group16 k)).trans (mV_v5 m c (expert ch r) (Model.group j) (Model.group16 k))

/-! ## The results -/

/-- The input gradient, entry by entry. -/
theorem final_8 (c : Dev nD) (r : Fin 448) (p : Fin 128) (k : Fin 2048) :
    (dats ch (mV m) ρ 0 c).arrAt (8 : Fin 11) (cfgA ch).N (ix2 (rowOf r p) k)
      = Model.dx (Operands.rows (m ((c : Thread nD τ).loc main_arg0)) (m ((c : Thread nD τ).loc main_arg1)) r) (Operands.rows (m ((c : Thread nD τ).loc main_arg7)) (m ((c : Thread nD τ).loc main_arg8)) r) (Operands.first (m ((c : Thread nD τ).loc main_arg2)) (m ((c : Thread nD τ).loc main_arg3)) (expert ch r)) (Operands.second (m ((c : Thread nD τ).loc main_arg4)) (m ((c : Thread nD τ).loc main_arg5)) (expert ch r)) p k := by
  refine (array_8 ch (mV m) ρ c r p k).trans ((after_8 ch (mV m) ρ c r p k).trans ?_)
  have e1 := funext fun p => funext fun k => xs_eq ch m ρ c r p k
  have e2 := funext fun p => funext fun k => ys_eq ch m ρ c r p k
  have e3 := funext fun k => funext fun j => w1s_eq ch m ρ c r k j
  have e4 := funext fun j => funext fun k => w2s_eq ch m ρ c r j k
  exact congr (congr (congr (congr (congr (congrArg Model.dx e1) e2) e3) e4) rfl) rfl

/-- The codes, entry by entry. -/
theorem final_9 (c : Dev nD) (r : Fin 448) (p : Fin 128) (k : Fin 1408) :
    (dats ch (mV m) ρ 0 c).arrAt (9 : Fin 11) (cfgA ch).N (ix2 (rowOf r p) k)
      = Model.code (Operands.rows (m ((c : Thread nD τ).loc main_arg0)) (m ((c : Thread nD τ).loc main_arg1)) r) (Operands.rows (m ((c : Thread nD τ).loc main_arg7)) (m ((c : Thread nD τ).loc main_arg8)) r) (Operands.first (m ((c : Thread nD τ).loc main_arg2)) (m ((c : Thread nD τ).loc main_arg3)) (expert ch r)) (Operands.second (m ((c : Thread nD τ).loc main_arg4)) (m ((c : Thread nD τ).loc main_arg5)) (expert ch r)) p k := by
  refine (array_9 ch (mV m) ρ c r p k).trans ((after_9 ch (mV m) ρ c r (ix2 p k)).trans ?_)
  have e1 := funext fun p => funext fun k => xs_eq ch m ρ c r p k
  have e2 := funext fun p => funext fun k => ys_eq ch m ρ c r p k
  have e3 := funext fun k => funext fun j => w1s_eq ch m ρ c r k j
  have e4 := funext fun j => funext fun k => w2s_eq ch m ρ c r j k
  exact congr (congr (congr (congr (congr (congrArg Model.code e1) e2) e3) e4) rfl) rfl

/-- The scales, entry by entry. -/
theorem final_10 (c : Dev nD) (r : Fin 448) (p : Fin 128) (k : Fin 11) :
    (dats ch (mV m) ρ 0 c).arrAt (10 : Fin 11) (cfgA ch).N (ix2 (rowOf r p) k)
      = Model.sc (Operands.rows (m ((c : Thread nD τ).loc main_arg0)) (m ((c : Thread nD τ).loc main_arg1)) r) (Operands.rows (m ((c : Thread nD τ).loc main_arg7)) (m ((c : Thread nD τ).loc main_arg8)) r) (Operands.first (m ((c : Thread nD τ).loc main_arg2)) (m ((c : Thread nD τ).loc main_arg3)) (expert ch r)) (Operands.second (m ((c : Thread nD τ).loc main_arg4)) (m ((c : Thread nD τ).loc main_arg5)) (expert ch r)) p k := by
  refine (array_10 ch (mV m) ρ c r p k).trans ((after_10 ch (mV m) ρ c r (ix2 p k)).trans ?_)
  have e1 := funext fun p => funext fun k => xs_eq ch m ρ c r p k
  have e2 := funext fun p => funext fun k => ys_eq ch m ρ c r p k
  have e3 := funext fun k => funext fun j => w1s_eq ch m ρ c r k j
  have e4 := funext fun j => funext fun k => w2s_eq ch m ρ c r j k
  exact congr (congr (congr (congr (congr (congrArg Model.sc e1) e2) e3) e4) rfl) rfl

end Cert.KernelIdeal.Own

end
-- ==== Proof.Ref.Payload.lean ====
/- What the reference body's vector expressions are, entry by entry, over variable operands. The rows are 448 blocks of 128;
   after the gelu they are re-laid as 630784 groups of 128 columns. -/
module

public import proofs.«01_k».proof.Proof.Gen.ReferenceIdeal.Skeleton
public import proofs.«01_k».proof.Proof.Math.Model
public import Idealize.ShloMosaic.Lib.Pointwise

@[expose] public section

set_option maxRecDepth 16384

noncomputable section

namespace Cert.ReferenceIdeal.Own

open Cert.ReferenceIdeal Cert.ReferenceIdeal.Gen Idealize.ShloMosaic

/-- Row `p` of block `r` among all rows. -/
def row (r : Fin 448) (p : Fin 128) : Fin 57344 := ⟨128 * r.val + p.val, by omega⟩

/-- Group `J` of row `n` among all groups. -/
def grp (n : Fin 57344) (J : Fin 11) : Fin 630784 := ⟨11 * n.val + J.val, by omega⟩

section

variable (w2c : FVec Ideal S448x1408x2048 .fp8e4m3) (w2s : FVec Ideal S448x1408x2048 .f32)
  (dc : FVec Ideal S448x128x2048 .fp8e5m2) (ds : FVec Ideal S448x128x2048 .f32)
  (xc : FVec Ideal S448x128x2048 .fp8e4m3) (xs : FVec Ideal S448x128x2048 .f32)
  (w1c : FVec Ideal S448x2048x1408 .fp8e4m3) (w1s : FVec Ideal S448x2048x1408 .f32)

/-- The first weight dequantised. -/
theorem weight_apply (r : Fin 448) (k : Fin 2048) (j : Fin 1408) :
    k0_pay6 (F := Ideal) w1c w1s (ix3 r k j) = w1c (ix3 r k j) * w1s (ix3 r k j) := by
  pointwise [k0_pay6]

/-- The first product. -/
theorem first_apply (r : Fin 448) (p : Fin 128) (j : Fin 1408) :
    k0_pay7 (F := Ideal) xc xs w1c w1s (ix3 r p j)
      = ∑ k : Fin 2048, xc (ix3 r p k) * xs (ix3 r p k) * k0_pay6 (F := Ideal) w1c w1s (ix3 r k j) := by
  pointwise [k0_pay7]

/-- The second product. -/
theorem second_apply (r : Fin 448) (p : Fin 128) (j : Fin 1408) :
    k0_pay8 (F := Ideal) w2c w2s dc ds (ix3 r p j)
      = ∑ k : Fin 2048, dc (ix3 r p k) * ds (ix3 r p k) * (w2c (ix3 r j k) * w2s (ix3 r j k)) := by
  pointwise [k0_pay8]

theorem cube_apply (r : Fin 448) (p : Fin 128) (j : Fin 1408) :
    k0_pay9 (F := Ideal) xc xs w1c w1s (ix3 r p j)
      = Ideal.ofBits .f32 0x3D372713#32 * k0_pay7 (F := Ideal) xc xs w1c w1s (ix3 r p j) * k0_pay7 (F := Ideal) xc xs w1c w1s (ix3 r p j) := by
  pointwise [k0_pay9]

end

/-- The gradient through the gelu, entry by entry of the blocks. -/
def through (a h b : FVec Ideal S448x128x1408 .f32) : FVec Ideal S448x128x1408 .f32 := fun i =>
  h i * (Ideal.ofBits .f32 0x3F000000#32
        * (1 + Ideal.tanh (Ideal.ofBits .f32 0x3F4C422A#32 * (a i + b i * a i)))
      + Ideal.ofBits .f32 0x3F000000#32 * a i
          * (1 - Ideal.tanh (Ideal.ofBits .f32 0x3F4C422A#32 * (a i + b i * a i))
                * Ideal.tanh (Ideal.ofBits .f32 0x3F4C422A#32 * (a i + b i * a i)))
          * Ideal.ofBits .f32 0x3F4C422A#32
          * (1 + Ideal.ofBits .f32 0x3E095D4F#32 * a i * a i))

theorem relay (d : FVec Ideal S448x128x1408 .f32) (r : Fin 448) (p : Fin 128) (J : Fin 11) (l : Fin 128) :
    shapeCast S630784x128 d shapeCasts_S448x128x1408_S630784x128 (ix2 (grp (row r p) J) l) = d (ix3 r p (Model.lane J l)) := by
  refine shapeCast_apply _ _ _ _ ?_
  rw [Shape.rowMajor_val_three, Shape.rowMajor_val_two]
  show (r.val * 128 + p.val) * 1408 + (128 * J.val + l.val) = (11 * (128 * r.val + p.val) + J.val) * 128 + l.val
  omega

theorem pay10_eq (a h b : FVec Ideal S448x128x1408 .f32) :
    k0_pay10 (F := Ideal) a h b = shapeCast S630784x128 (through a h b) shapeCasts_S448x128x1408_S630784x128 := by
  unfold k0_pay10
  refine congrArg (fun d => shapeCast S630784x128 d shapeCasts_S448x128x1408_S630784x128) (funext fun i => ?_)
  obtain ⟨r, p, j, rfl⟩ : ∃ (r : Fin 448) (p : Fin 128) (j : Fin 1408), i = ix3 r p j := ⟨i 0, i 1, i 2, eq_ix3 i⟩
  unfold through
  pointwise []

/-- The maximum of every row, any number of rows. -/
theorem max_rows {n : ℕ} (v : FVec Ideal ⟨2, ![n, 128]⟩ .f32) (h : (⟨2, ![n, 128]⟩ : Shape).Reduces [1] ⟨1, ![n]⟩) (g : Fin n) :
    multiReduction .maximumf [1] ⟨1, ![n]⟩ v 0xFF800000#32 h (.inl rfl) rfl (ix1 g)
      = Finset.univ.fold max (Ideal.ofBits .f32 0xFF800000#32) fun l : Fin 128 => v (ix2 g l) := by
  pointwise

/-- The minimum of every row. -/
theorem min_rows {n : ℕ} (v : FVec Ideal ⟨2, ![n, 240]⟩ .f32) (h : (⟨2, ![n, 240]⟩ : Shape).Reduces [1] ⟨1, ![n]⟩) (g : Fin n) :
    multiReduction .minimumf [1] ⟨1, ![n]⟩ v 0x7F800000#32 h (.inl rfl) rfl (ix1 g)
      = Finset.univ.fold min (Ideal.ofBits .f32 0x7F800000#32) fun l : Fin 240 => v (ix2 g l) := by
  pointwise

/-- A vector as a column. -/
theorem cast_rows {n : ℕ} {e : FTy} (v : FVec Ideal ⟨1, ![n]⟩ e) (h : (⟨1, ![n]⟩ : Shape).ShapeCasts ⟨2, ![n, 1]⟩) (g : Fin n) :
    shapeCast ⟨2, ![n, 1]⟩ v h (ix2 g 0) = v (ix1 g) := by
  refine shapeCast_apply _ _ _ _ ?_
  rw [Shape.rowMajor_val_two, Shape.rowMajor_val_one]
  show g.val = g.val * 1 + 0
  omega

/-- The quotient of every row, any number of rows. -/
def quotients {n : ℕ} (d : FVec Ideal ⟨2, ![n, 128]⟩ .f32) (h : (⟨2, ![n, 128]⟩ : Shape).Reduces [1] ⟨1, ![n]⟩)
    (h' : (⟨1, ![n]⟩ : Shape).ShapeCasts ⟨2, ![n, 1]⟩) : FVec Ideal ⟨2, ![n, 1]⟩ .f32 :=
  mulf (shapeCast ⟨2, ![n, 1]⟩ (multiReduction .maximumf [1] ⟨1, ![n]⟩ (absf d) 0xFF800000#32 h (.inl rfl) rfl) h')
    (broadcast ⟨2, ![n, 1]⟩ (Scalar.ofBits .f32 0x37924925#32))

theorem quotients_apply {n : ℕ} (d : FVec Ideal ⟨2, ![n, 128]⟩ .f32) (h : (⟨2, ![n, 128]⟩ : Shape).Reduces [1] ⟨1, ![n]⟩)
    (h' : (⟨1, ![n]⟩ : Shape).ShapeCasts ⟨2, ![n, 1]⟩) (g : Fin n) :
    quotients d h h' (ix2 g 0) = Model.quotient fun l => d (ix2 g l) :=
  congrArg (· * Ideal.ofBits .f32 0x37924925#32) ((cast_rows _ h' g).trans (max_rows (absf d) h g))

theorem pay11_eq (a h b : FVec Ideal S448x128x1408 .f32) :
    k0_pay11 (F := Ideal) a h b = quotients (k0_pay10 a h b) reduces_S630784x128_S630784 shapeCasts_S630784_S630784x1 := rfl

/-- The quotient of a group. -/
theorem quotient_apply (a h b : FVec Ideal S448x128x1408 .f32) (g : Fin 630784) :
    k0_pay11 (F := Ideal) a h b (ix2 g 0) = Model.quotient fun l => k0_pay10 (F := Ideal) a h b (ix2 g l) := by
  rw [pay11_eq, quotients_apply]

/-- The listed powers of two. -/
def powers : FVec Ideal S1x240 .f32 :=
  exp2 (subf (sitofp .f32 (iota .tc S1x240 32 [1] iota_S1x240_d1_w32)) (broadcast S1x240 (Scalar.ofBits .f32 0x42FC0000#32)))

theorem powers_apply (l : Fin 240) : powers (ix2 0 l) = Quantise.power l := by
  unfold Quantise.power
  pointwise [powers]
  rfl

/-- A column spread over 240 lanes. -/
theorem spread {n : ℕ} (q : FVec Ideal ⟨2, ![n, 1]⟩ .f32) (h : (⟨2, ![n, 1]⟩ : Shape).Broadcasts ⟨2, ![n, 240]⟩) (g : Fin n) (l : Fin 240) :
    broadcastTo ⟨2, ![n, 240]⟩ q h (ix2 g l) = q (ix2 g 0) := by
  unfold broadcastTo
  refine congrArg q (funext fun a => Fin.ext ?_)
  match a with
  | ⟨0, _⟩ =>
    show (if h : n = 1 then (⟨0, _⟩ : Fin n) else ⟨g.val, _⟩).val = g.val
    split
    · show 0 = g.val; omega
    · rfl
  | ⟨1, _⟩ => rfl

/-- The listed powers above the quotient, any number of rows. -/
def above {n : ℕ} (q : FVec Ideal ⟨2, ![n, 1]⟩ .f32) (h : (⟨2, ![n, 1]⟩ : Shape).Broadcasts ⟨2, ![n, 240]⟩)
    (h' : S1x240.Broadcasts ⟨2, ![n, 240]⟩) : FVec Ideal ⟨2, ![n, 240]⟩ .f32 :=
  select (cmpf .olt (broadcastTo ⟨2, ![n, 240]⟩ q h) (broadcastTo ⟨2, ![n, 240]⟩ powers h'))
    (broadcastTo ⟨2, ![n, 240]⟩ (shapeCast S1x240 powers shapeCasts_S1x240_S1x240) h') (broadcast ⟨2, ![n, 240]⟩ (Scalar.ofBits .f32 0x78000000#32))

theorem above_apply {n : ℕ} (q : FVec Ideal ⟨2, ![n, 1]⟩ .f32) (h : (⟨2, ![n, 1]⟩ : Shape).Broadcasts ⟨2, ![n, 240]⟩)
    (h' : S1x240.Broadcasts ⟨2, ![n, 240]⟩) (g : Fin n) (l : Fin 240) :
    above q h h' (ix2 g l) = if q (ix2 g 0) < Quantise.power l then Quantise.power l else Ideal.ofBits .f32 0x78000000#32 := by
  rw [← powers_apply, ← spread q h g l]
  unfold above
  generalize powers = P
  generalize broadcastTo ⟨2, ![n, 240]⟩ q h = Q
  pointwise []

/-- The least listed power above the quotient of every row, any number of rows. -/
def leasts {n : ℕ} (q : FVec Ideal ⟨2, ![n, 1]⟩ .f32) (h : (⟨2, ![n, 1]⟩ : Shape).Broadcasts ⟨2, ![n, 240]⟩)
    (h' : S1x240.Broadcasts ⟨2, ![n, 240]⟩) (hr : (⟨2, ![n, 240]⟩ : Shape).Reduces [1] ⟨1, ![n]⟩)
    (hc : (⟨1, ![n]⟩ : Shape).ShapeCasts ⟨2, ![n, 1]⟩) : FVec Ideal ⟨2, ![n, 1]⟩ .f32 :=
  shapeCast ⟨2, ![n, 1]⟩ (multiReduction .minimumf [1] ⟨1, ![n]⟩ (above q h h') 0x7F800000#32 hr (.inl rfl) rfl) hc

theorem leasts_apply {n : ℕ} (q : FVec Ideal ⟨2, ![n, 1]⟩ .f32) (h : (⟨2, ![n, 1]⟩ : Shape).Broadcasts ⟨2, ![n, 240]⟩)
    (h' : S1x240.Broadcasts ⟨2, ![n, 240]⟩) (hr : (⟨2, ![n, 240]⟩ : Shape).Reduces [1] ⟨1, ![n]⟩)
    (hc : (⟨1, ![n]⟩ : Shape).ShapeCasts ⟨2, ![n, 1]⟩) (g : Fin n) :
    leasts q h h' hr hc (ix2 g 0) = Finset.univ.fold min (Ideal.ofBits .f32 0x7F800000#32) (fun l : Fin 240 =>
      if q (ix2 g 0) < Quantise.power l then Quantise.power l else Ideal.ofBits .f32 0x78000000#32) :=
  (cast_rows _ hc g).trans ((min_rows (above q h h') hr g).trans
    (congrArg (fun f => Finset.univ.fold min (Ideal.ofBits .f32 0x7F800000#32) f) (funext fun l => above_apply q h h' g l)))

theorem pay12_eq (a h b : FVec Ideal S448x128x1408 .f32) :
    k0_pay12 (F := Ideal) a h b = leasts (k0_pay11 a h b) broadcasts_S630784x1_S630784x240 broadcasts_S1x240_S630784x240
      reduces_S630784x240_S630784 shapeCasts_S630784_S630784x1 := rfl

/-- The least listed power of two above the quotient. -/
theorem least_apply (a h b : FVec Ideal S448x128x1408 .f32) (g : Fin 630784) :
    k0_pay12 (F := Ideal) a h b (ix2 g 0)
      = Finset.univ.fold min (Ideal.ofBits .f32 0x7F800000#32) (fun l : Fin 240 =>
          if k0_pay11 (F := Ideal) a h b (ix2 g 0) < Quantise.power l then Quantise.power l else Ideal.ofBits .f32 0x78000000#32) := by
  rw [pay12_eq, leasts_apply]

/-- The scale of a group, from its quotient `q` and the least power `u` above it. -/
theorem pick_apply (q u : FVec Ideal S630784x1 .f32) (g : Fin 630784) :
    k0_pay1 (F := Ideal) q u k0_pay13 (ix2 g 0) = if q (ix2 g 0) < Ideal.ofBits .f32 0x00800000#32 then 1 else u (ix2 g 0) := by
  pointwise [k0_pay1, k0_pay13]

/-- The scale of a group is the model's, of its quotient. -/
theorem scale_apply (a h b : FVec Ideal S448x128x1408 .f32) (g : Fin 630784) :
    k0_pay1 (F := Ideal) (k0_pay11 a h b) (k0_pay12 a h b) k0_pay13 (ix2 g 0)
      = Quantise.scale (Model.quotient fun l => k0_pay10 (F := Ideal) a h b (ix2 g l)) := by
  rw [pick_apply, least_apply, quotient_apply]
  rfl

/-- A code of a group. -/
theorem code_apply (d : FVec Ideal S630784x128 .f32) (q u v : FVec Ideal S630784x1 .f32) (g : Fin 630784) (l : Fin 128) :
    k0_pay2 (F := Ideal) d q u v (ix2 g l) = Model.clipped (d (ix2 g l)) (k0_pay1 (F := Ideal) q u v (ix2 g 0)) := by
  unfold Model.clipped
  pointwise [k0_pay2]

theorem codes_flat (d : FVec Ideal S630784x128 .f32) (q u v : FVec Ideal S630784x1 .f32) (n : Fin 57344) (j : Fin 1408) :
    k0_pay3 (F := Ideal) d q u v (ix2 n j) = k0_pay2 (F := Ideal) d q u v (ix2 (grp n (Model.group j)) (Model.place j)) := by
  unfold k0_pay3
  refine shapeCast_apply _ _ _ _ ?_
  rw [Shape.rowMajor_val_two, Shape.rowMajor_val_two]
  show (11 * n.val + j.val / 128) * 128 + j.val % 128 = n.val * 1408 + j.val
  omega

theorem scales_flat (q u v : FVec Ideal S630784x1 .f32) (n : Fin 57344) (J : Fin 11) :
    k0_pay4 (F := Ideal) q u v (ix2 n J) = k0_pay1 (F := Ideal) q u v (ix2 (grp n J) 0) := by
  unfold k0_pay4
  refine shapeCast_apply _ _ _ _ ?_
  rw [Shape.rowMajor_val_two, Shape.rowMajor_val_two]
  show (11 * n.val + J.val) * 1 + 0 = n.val * 11 + J.val
  omega

/-- A group's codes dequantised again. -/
def again (d : FVec Ideal S630784x128 .f32) (q u v : FVec Ideal S630784x1 .f32) : FVec Ideal S630784x128 .bf16 :=
  mulf (extf .bf16 (k0_pay2 d q u v) bitsLt_fp8e5m2_bf16)
    (broadcastTo S630784x128 (truncf .bf16 (k0_pay1 q u v) bitsLt_bf16_f32) broadcasts_S630784x1_S630784x128)

theorem again_apply (d : FVec Ideal S630784x128 .f32) (q u v : FVec Ideal S630784x1 .f32) (g : Fin 630784) (l : Fin 128) :
    again d q u v (ix2 g l) = k0_pay2 (F := Ideal) d q u v (ix2 g l) * k0_pay1 (F := Ideal) q u v (ix2 g 0) := by
  unfold again
  generalize k0_pay2 (F := Ideal) d q u v = C
  generalize k0_pay1 (F := Ideal) q u v = S
  pointwise []

/-- The last product of one block. -/
theorem product_apply (Z : FVec Ideal S448x128x1408 .bf16) (w : FVec Ideal S448x2048x1408 .bf16) (r : Fin 448) (p : Fin 128) (k : Fin 2048) :
    truncf (F := Ideal) .bf16 (matmul dot_S448x128x1408_S448x2048x1408_S448x128x2048_2_2_1_1_0_0 none Z w (constant S448x128x2048 .f32 0x00000000#32)) bitsLt_bf16_f32 (ix3 r p k)
      = ∑ j : Fin 1408, Z (ix3 r p j) * w (ix3 r k j) := by
  pointwise []

theorem last_apply (w : FVec Ideal S448x2048x1408 .bf16) (d : FVec Ideal S630784x128 .f32) (q u v : FVec Ideal S630784x1 .f32)
    (r : Fin 448) (p : Fin 128) (k : Fin 2048) :
    k0_pay5 (F := Ideal) w d q u v (ix2 (row r p) k)
      = ∑ j : Fin 1408, k0_pay2 (F := Ideal) d q u v (ix2 (grp (row r p) (Model.group j)) (Model.place j))
          * k0_pay1 (F := Ideal) q u v (ix2 (grp (row r p) (Model.group j)) 0) * w (ix3 r k j) := by
  have e : k0_pay5 (F := Ideal) w d q u v
      = shapeCast S57344x2048 (truncf (F := Ideal) .bf16 (matmul dot_S448x128x1408_S448x2048x1408_S448x128x2048_2_2_1_1_0_0 none
          (shapeCast S448x128x1408 (again d q u v) shapeCasts_S630784x128_S448x128x1408) w (constant S448x128x2048 .f32 0x00000000#32)) bitsLt_bf16_f32)
          shapeCasts_S448x128x2048_S57344x2048 := rfl
  rw [e]
  refine (shapeCast_apply _ _ _ (ix3 r p k) ?_).trans ?_
  · rw [Shape.rowMajor_val_two, Shape.rowMajor_val_three]
    show (r.val * 128 + p.val) * 2048 + k.val = (128 * r.val + p.val) * 2048 + k.val
    omega
  refine (product_apply _ w r p k).trans (Finset.sum_congr rfl fun j _ => congrArg (· * w (ix3 r k j)) ?_)
  refine Eq.trans (shapeCast_apply _ _ _ (ix2 (grp (row r p) (Model.group j)) (Model.place j)) ?_) (again_apply d q u v _ _)
  rw [Shape.rowMajor_val_two, Shape.rowMajor_val_three]
  show (11 * (128 * r.val + p.val) + j.val / 128) * 128 + j.val % 128 = (r.val * 128 + p.val) * 1408 + j.val
  omega

/-! ## The three results are the model's -/

section

variable (w2c : FVec Ideal S448x1408x2048 .fp8e4m3) (w2s : FVec Ideal S448x1408x2048 .f32)
  (dc : FVec Ideal S448x128x2048 .fp8e5m2) (ds : FVec Ideal S448x128x2048 .f32)
  (xc : FVec Ideal S448x128x2048 .fp8e4m3) (xs : FVec Ideal S448x128x2048 .f32)
  (w1c : FVec Ideal S448x2048x1408 .fp8e4m3) (w1s : FVec Ideal S448x2048x1408 .f32)

/-- The input of block `r`, dequantised. -/
def inp (r : Fin 448) (p : Fin 128) (k : Fin 2048) : EReal := xc (ix3 r p k) * xs (ix3 r p k)
/-- The incoming gradient of block `r`, dequantised. -/
def inc (r : Fin 448) (p : Fin 128) (k : Fin 2048) : EReal := dc (ix3 r p k) * ds (ix3 r p k)
/-- The first weight of block `r`, dequantised. -/
def wei1 (r : Fin 448) (k : Fin 2048) (j : Fin 1408) : EReal := w1c (ix3 r k j) * w1s (ix3 r k j)
/-- The second weight of block `r`, dequantised. -/
def wei2 (r : Fin 448) (j : Fin 1408) (k : Fin 2048) : EReal := w2c (ix3 r j k) * w2s (ix3 r j k)

/-- The gradient before quantisation, re-laid in groups. -/
theorem da_apply (r : Fin 448) (p : Fin 128) (J : Fin 11) (l : Fin 128) :
    k0_pay10 (F := Ideal) (k0_pay7 xc xs w1c w1s) (k0_pay8 w2c w2s dc ds) (k0_pay9 xc xs w1c w1s) (ix2 (grp (row r p) J) l)
      = Model.da (inp xc xs r) (inc dc ds r) (wei1 w1c w1s r) (wei2 w2c w2s r) p (Model.lane J l) := by
  have h1 : k0_pay7 (F := Ideal) xc xs w1c w1s (ix3 r p (Model.lane J l)) = ∑ k, inp xc xs r p k * wei1 w1c w1s r k (Model.lane J l) :=
    (first_apply xc xs w1c w1s r p _).trans (Finset.sum_congr rfl fun k _ => congrArg (inp xc xs r p k * ·) (weight_apply w1c w1s r k _))
  have h2 : k0_pay8 (F := Ideal) w2c w2s dc ds (ix3 r p (Model.lane J l)) = ∑ k, inc dc ds r p k * wei2 w2c w2s r (Model.lane J l) k :=
    second_apply w2c w2s dc ds r p _
  rw [pay10_eq, relay]
  unfold through Model.da Model.gelu
  rw [cube_apply, h1, h2]

/-- The scale. -/
theorem sc_apply (r : Fin 448) (p : Fin 128) (J : Fin 11) :
    k0_pay1 (F := Ideal) (k0_pay11 (k0_pay7 xc xs w1c w1s) (k0_pay8 w2c w2s dc ds) (k0_pay9 xc xs w1c w1s))
        (k0_pay12 (k0_pay7 xc xs w1c w1s) (k0_pay8 w2c w2s dc ds) (k0_pay9 xc xs w1c w1s)) k0_pay13 (ix2 (grp (row r p) J) 0)
      = Model.sc (inp xc xs r) (inc dc ds r) (wei1 w1c w1s r) (wei2 w2c w2s r) p J := by
  rw [scale_apply]
  unfold Model.sc
  exact congrArg (fun f => Quantise.scale (Model.quotient f)) (funext fun l => da_apply w2c w2s dc ds xc xs w1c w1s r p J l)

/-- The code. -/
theorem cd_apply (r : Fin 448) (p : Fin 128) (j : Fin 1408) :
    k0_pay2 (F := Ideal) (k0_pay10 (k0_pay7 xc xs w1c w1s) (k0_pay8 w2c w2s dc ds) (k0_pay9 xc xs w1c w1s))
        (k0_pay11 (k0_pay7 xc xs w1c w1s) (k0_pay8 w2c w2s dc ds) (k0_pay9 xc xs w1c w1s))
        (k0_pay12 (k0_pay7 xc xs w1c w1s) (k0_pay8 w2c w2s dc ds) (k0_pay9 xc xs w1c w1s)) k0_pay13
        (ix2 (grp (row r p) (Model.group j)) (Model.place j))
      = Model.code (inp xc xs r) (inc dc ds r) (wei1 w1c w1s r) (wei2 w2c w2s r) p j := by
  rw [code_apply, sc_apply, da_apply, Model.lane_group_place]
  rfl

theorem result_scales (r : Fin 448) (p : Fin 128) (J : Fin 11) :
    k0_pay4 (F := Ideal) (k0_pay11 (k0_pay7 xc xs w1c w1s) (k0_pay8 w2c w2s dc ds) (k0_pay9 xc xs w1c w1s))
        (k0_pay12 (k0_pay7 xc xs w1c w1s) (k0_pay8 w2c w2s dc ds) (k0_pay9 xc xs w1c w1s)) k0_pay13 (ix2 (row r p) J)
      = Model.sc (inp xc xs r) (inc dc ds r) (wei1 w1c w1s r) (wei2 w2c w2s r) p J :=
  (scales_flat _ _ _ _ _).trans (sc_apply w2c w2s dc ds xc xs w1c w1s r p J)

theorem result_codes (r : Fin 448) (p : Fin 128) (j : Fin 1408) :
    k0_pay3 (F := Ideal) (k0_pay10 (k0_pay7 xc xs w1c w1s) (k0_pay8 w2c w2s dc ds) (k0_pay9 xc xs w1c w1s))
        (k0_pay11 (k0_pay7 xc xs w1c w1s) (k0_pay8 w2c w2s dc ds) (k0_pay9 xc xs w1c w1s))
        (k0_pay12 (k0_pay7 xc xs w1c w1s) (k0_pay8 w2c w2s dc ds) (k0_pay9 xc xs w1c w1s)) k0_pay13 (ix2 (row r p) j)
      = Model.code (inp xc xs r) (inc dc ds r) (wei1 w1c w1s r) (wei2 w2c w2s r) p j :=
  (codes_flat _ _ _ _ _ _).trans (cd_apply w2c w2s dc ds xc xs w1c w1s r p j)

theorem result_gradient (r : Fin 448) (p : Fin 128) (k : Fin 2048) :
    k0_pay5 (F := Ideal) (k0_pay6 w1c w1s) (k0_pay10 (k0_pay7 xc xs w1c w1s) (k0_pay8 w2c w2s dc ds) (k0_pay9 xc xs w1c w1s))
        (k0_pay11 (k0_pay7 xc xs w1c w1s) (k0_pay8 w2c w2s dc ds) (k0_pay9 xc xs w1c w1s))
        (k0_pay12 (k0_pay7 xc xs w1c w1s) (k0_pay8 w2c w2s dc ds) (k0_pay9 xc xs w1c w1s)) k0_pay13 (ix2 (row r p) k)
      = Model.dx (inp xc xs r) (inc dc ds r) (wei1 w1c w1s r) (wei2 w2c w2s r) p k := by
  refine (last_apply _ _ _ _ _ r p k).trans ?_
  unfold Model.dx
  refine Finset.sum_congr rfl fun j _ => ?_
  rw [cd_apply, sc_apply, weight_apply]
  rfl

end

end Cert.ReferenceIdeal.Own
end
end
-- ==== Proof.Ref.Run.lean ====
/- The reference's run: its three result arrays end at what its body computes of the eight operand arrays. -/
module

public import proofs.«01_k».proof.Proof.Gen.ReferenceIdeal.Frame
public import proofs.«01_k».proof.Proof.Ref.Payload
public import Idealize.ShloMosaic.Lib.Pipeline.Value

@[expose] public section

set_option maxRecDepth 16384
set_option backward.proofsInPublic true

noncomputable section

namespace Cert.ReferenceIdeal.Own

open Cert.ReferenceIdeal Cert.ReferenceIdeal.Gen
open Idealize.ShloMosaic Idealize.ShloMosaic.TcCoe
open Idealize.SL.Sem

variable (m : (ℓ : Loc nD τ sig) → Buf (Elt Ideal) ℓ) (ρ : Dev nD → PrngReg)

/-- The one point. -/
abbrev t₀ : Fin cfg0.N := ⟨0, by decide⟩

theorem hz2 : (![0, 0] : Fin 2 → ℕ) = fun _ => 0 := funext fun a => by fin_cases a <;> rfl

/-! ## The operand arrays, read whole -/

theorem iblk_0 (c : Dev nD) : iblk (F := Ideal) m c 0 t₀ = V m c main_v16 := by
  unfold iblk
  exact Memref.read_access_unit_zero (Elt Ideal) main_v16 (funext fun a => by fin_cases a <;> rfl) (fun a => by fin_cases a <;> decide) _

theorem iblk_1 (c : Dev nD) : iblk (F := Ideal) m c 1 t₀ = V m c main_v19 := by
  unfold iblk
  exact Memref.read_access_unit_zero (Elt Ideal) main_v19 (funext fun a => by fin_cases a <;> rfl) (fun a => by fin_cases a <;> decide) _

theorem iblk_2 (c : Dev nD) : iblk (F := Ideal) m c 2 t₀ = V m c main_v3 := by
  unfold iblk
  exact Memref.read_access_unit_zero (Elt Ideal) main_v3 (funext fun a => by fin_cases a <;> rfl) (fun a => by fin_cases a <;> decide) _

theorem iblk_3 (c : Dev nD) : iblk (F := Ideal) m c 3 t₀ = V m c main_v8 := by
  unfold iblk
  exact Memref.read_access_unit_zero (Elt Ideal) main_v8 (funext fun a => by fin_cases a <;> rfl) (fun a => by fin_cases a <;> decide) _

theorem iblk_4 (c : Dev nD) : iblk (F := Ideal) m c 4 t₀ = V m c main_v11 := by
  unfold iblk
  exact Memref.read_access_unit_zero (Elt Ideal) main_v11 (funext fun a => by fin_cases a <;> rfl) (fun a => by fin_cases a <;> decide) _

theorem iblk_5 (c : Dev nD) : iblk (F := Ideal) m c 5 t₀ = V m c main_v15 := by
  unfold iblk
  exact Memref.read_access_unit_zero (Elt Ideal) main_v15 (funext fun a => by fin_cases a <;> rfl) (fun a => by fin_cases a <;> decide) _

theorem iblk_6 (c : Dev nD) : iblk (F := Ideal) m c 6 t₀ = V m c main_v20 := by
  unfold iblk
  exact Memref.read_access_unit_zero (Elt Ideal) main_v20 (funext fun a => by fin_cases a <;> rfl) (fun a => by fin_cases a <;> decide) _

theorem iblk_7 (c : Dev nD) : iblk (F := Ideal) m c 7 t₀ = V m c main_v23 := by
  unfold iblk
  exact Memref.read_access_unit_zero (Elt Ideal) main_v23 (funext fun a => by fin_cases a <;> rfl) (fun a => by fin_cases a <;> decide) _

/-! ## What the body leaves -/

/-- Reading a block through a rectangle that is the whole block. -/
theorem ld_0 {e : EltTy} (x : Vec Ideal S448x128x2048 e) : View.ld x r0_0 = x :=
  View.ld_unit_zero (S := S448x128x2048) (off := ![0, 0, 0]) (funext fun a => by fin_cases a <;> rfl) _ x
theorem ld_1 {e : EltTy} (x : Vec Ideal S448x2048x1408 e) : View.ld x r0_1 = x :=
  View.ld_unit_zero (S := S448x2048x1408) (off := ![0, 0, 0]) (funext fun a => by fin_cases a <;> rfl) _ x
theorem ld_2 {e : EltTy} (x : Vec Ideal S448x1408x2048 e) : View.ld x r0_2 = x :=
  View.ld_unit_zero (S := S448x1408x2048) (off := ![0, 0, 0]) (funext fun a => by fin_cases a <;> rfl) _ x

theorem out_8 (x0 : Vec Ideal S448x128x2048 .fp8e4m3) (x1 : Vec Ideal S448x128x2048 .f32) (x2 : Vec Ideal S448x2048x1408 .fp8e4m3) (x3 : Vec Ideal S448x2048x1408 .f32) (x4 : Vec Ideal S448x1408x2048 .fp8e4m3) (x5 : Vec Ideal S448x1408x2048 .f32) (x6 : Vec Ideal S448x128x2048 .fp8e5m2) (x7 : Vec Ideal S448x128x2048 .f32) : out0_8 (F := Ideal) x0 x1 x2 x3 x4 x5 x6 x7 = k0_pay5 (F := Ideal) (k0_pay6 x2 x3) (k0_pay10 (k0_pay7 x0 x1 x2 x3) (k0_pay8 x4 x5 x6 x7) (k0_pay9 x0 x1 x2 x3)) (k0_pay11 (k0_pay7 x0 x1 x2 x3) (k0_pay8 x4 x5 x6 x7) (k0_pay9 x0 x1 x2 x3)) (k0_pay12 (k0_pay7 x0 x1 x2 x3) (k0_pay8 x4 x5 x6 x7) (k0_pay9 x0 x1 x2 x3)) k0_pay13 := by
  unfold out0_8
  rw [View.canon_unit_zero hz2]
  simp only [k0_pay20, k0_pay19, k0_pay18, k0_pay17, k0_pay16, k0_pay15, k0_pay14, ld_0, ld_1, ld_2]

theorem out_9 (x0 : Vec Ideal S448x128x2048 .fp8e4m3) (x1 : Vec Ideal S448x128x2048 .f32) (x2 : Vec Ideal S448x2048x1408 .fp8e4m3) (x3 : Vec Ideal S448x2048x1408 .f32) (x4 : Vec Ideal S448x1408x2048 .fp8e4m3) (x5 : Vec Ideal S448x1408x2048 .f32) (x6 : Vec Ideal S448x128x2048 .fp8e5m2) (x7 : Vec Ideal S448x128x2048 .f32) : out0_9 (F := Ideal) x0 x1 x2 x3 x4 x5 x6 x7 = k0_pay3 (F := Ideal) (k0_pay10 (k0_pay7 x0 x1 x2 x3) (k0_pay8 x4 x5 x6 x7) (k0_pay9 x0 x1 x2 x3)) (k0_pay11 (k0_pay7 x0 x1 x2 x3) (k0_pay8 x4 x5 x6 x7) (k0_pay9 x0 x1 x2 x3)) (k0_pay12 (k0_pay7 x0 x1 x2 x3) (k0_pay8 x4 x5 x6 x7) (k0_pay9 x0 x1 x2 x3)) k0_pay13 := by
  unfold out0_9
  rw [View.canon_unit_zero hz2]
  simp only [k0_pay20, k0_pay19, k0_pay18, k0_pay17, k0_pay16, k0_pay15, k0_pay14, ld_0, ld_1, ld_2]

theorem out_10 (x0 : Vec Ideal S448x128x2048 .fp8e4m3) (x1 : Vec Ideal S448x128x2048 .f32) (x2 : Vec Ideal S448x2048x1408 .fp8e4m3) (x3 : Vec Ideal S448x2048x1408 .f32) (x4 : Vec Ideal S448x1408x2048 .fp8e4m3) (x5 : Vec Ideal S448x1408x2048 .f32) (x6 : Vec Ideal S448x128x2048 .fp8e5m2) (x7 : Vec Ideal S448x128x2048 .f32) : out0_10 (F := Ideal) x0 x1 x2 x3 x4 x5 x6 x7 = k0_pay4 (F := Ideal) (k0_pay11 (k0_pay7 x0 x1 x2 x3) (k0_pay8 x4 x5 x6 x7) (k0_pay9 x0 x1 x2 x3)) (k0_pay12 (k0_pay7 x0 x1 x2 x3) (k0_pay8 x4 x5 x6 x7) (k0_pay9 x0 x1 x2 x3)) k0_pay13 := by
  unfold out0_10
  rw [View.canon_unit_zero hz2]
  simp only [k0_pay20, k0_pay19, k0_pay18, k0_pay17, k0_pay16, k0_pay15, k0_pay14, ld_0, ld_1, ld_2]

/-! ## The result arrays -/

theorem final_8 (c : Dev nD) : (dats (F := Ideal) m 0 c).arrAt 8 cfg0.N = k0_pay5 (F := Ideal) (k0_pay6 (V m c main_v3) (V m c main_v8)) (k0_pay10 (k0_pay7 (V m c main_v16) (V m c main_v19) (V m c main_v3) (V m c main_v8)) (k0_pay8 (V m c main_v11) (V m c main_v15) (V m c main_v20) (V m c main_v23)) (k0_pay9 (V m c main_v16) (V m c main_v19) (V m c main_v3) (V m c main_v8))) (k0_pay11 (k0_pay7 (V m c main_v16) (V m c main_v19) (V m c main_v3) (V m c main_v8)) (k0_pay8 (V m c main_v11) (V m c main_v15) (V m c main_v20) (V m c main_v23)) (k0_pay9 (V m c main_v16) (V m c main_v19) (V m c main_v3) (V m c main_v8))) (k0_pay12 (k0_pay7 (V m c main_v16) (V m c main_v19) (V m c main_v3) (V m c main_v8)) (k0_pay8 (V m c main_v11) (V m c main_v15) (V m c main_v20) (V m c main_v23)) (k0_pay9 (V m c main_v16) (V m c main_v19) (V m c main_v3) (V m c main_v8))) k0_pay13 := by
  have ho : ((cfg0.win 8).blk t₀).view.read (Elt Ideal) ((dats (F := Ideal) m 0 c).arrAt 8 cfg0.N) = (dats (F := Ideal) m 0 c).flushed 8 t₀ := by
    rw [show cfg0.N = t₀.val + 1 from rfl, (dats (F := Ideal) m 0 c).arrAt_succ 8 t₀]
    rw [show (cfg0.win 8).flush t₀ = true from by decide, if_pos rfl]
    exact View.read_write_univ _ _
  have hr := Memref.read_access_unit_zero (Elt Ideal) main_v24_0 (off := fun a => (win0_8.index t₀) a * main_v24_0.ty.shape.size a)
    (funext fun a => by fin_cases a <;> decide) (fun a => by fin_cases a <;> decide) ((dats (F := Ideal) m 0 c).arrAt 8 cfg0.N)
  refine hr.symm.trans (ho.trans ?_)
  show (cfg0.win 8).cut (grid0.coords t₀) ((dats (F := Ideal) m 0 c).after 8 t₀) = _
  rw [after0_8, iblk_0, iblk_1, iblk_2, iblk_3, iblk_4, iblk_5, iblk_6, iblk_7, out_8]
  rfl

theorem final_9 (c : Dev nD) : (dats (F := Ideal) m 0 c).arrAt 9 cfg0.N = k0_pay3 (F := Ideal) (k0_pay10 (k0_pay7 (V m c main_v16) (V m c main_v19) (V m c main_v3) (V m c main_v8)) (k0_pay8 (V m c main_v11) (V m c main_v15) (V m c main_v20) (V m c main_v23)) (k0_pay9 (V m c main_v16) (V m c main_v19) (V m c main_v3) (V m c main_v8))) (k0_pay11 (k0_pay7 (V m c main_v16) (V m c main_v19) (V m c main_v3) (V m c main_v8)) (k0_pay8 (V m c main_v11) (V m c main_v15) (V m c main_v20) (V m c main_v23)) (k0_pay9 (V m c main_v16) (V m c main_v19) (V m c main_v3) (V m c main_v8))) (k0_pay12 (k0_pay7 (V m c main_v16) (V m c main_v19) (V m c main_v3) (V m c main_v8)) (k0_pay8 (V m c main_v11) (V m c main_v15) (V m c main_v20) (V m c main_v23)) (k0_pay9 (V m c main_v16) (V m c main_v19) (V m c main_v3) (V m c main_v8))) k0_pay13 := by
  have ho : ((cfg0.win 9).blk t₀).view.read (Elt Ideal) ((dats (F := Ideal) m 0 c).arrAt 9 cfg0.N) = (dats (F := Ideal) m 0 c).flushed 9 t₀ := by
    rw [show cfg0.N = t₀.val + 1 from rfl, (dats (F := Ideal) m 0 c).arrAt_succ 9 t₀]
    rw [show (cfg0.win 9).flush t₀ = true from by decide, if_pos rfl]
    exact View.read_write_univ _ _
  have hr := Memref.read_access_unit_zero (Elt Ideal) main_v24_1 (off := fun a => (win0_9.index t₀) a * main_v24_1.ty.shape.size a)
    (funext fun a => by fin_cases a <;> decide) (fun a => by fin_cases a <;> decide) ((dats (F := Ideal) m 0 c).arrAt 9 cfg0.N)
  refine hr.symm.trans (ho.trans ?_)
  show (cfg0.win 9).cut (grid0.coords t₀) ((dats (F := Ideal) m 0 c).after 9 t₀) = _
  rw [after0_9, iblk_0, iblk_1, iblk_2, iblk_3, iblk_4, iblk_5, iblk_6, iblk_7, out_9]
  rfl

theorem final_10 (c : Dev nD) : (dats (F := Ideal) m 0 c).arrAt 10 cfg0.N = k0_pay4 (F := Ideal) (k0_pay11 (k0_pay7 (V m c main_v16) (V m c main_v19) (V m c main_v3) (V m c main_v8)) (k0_pay8 (V m c main_v11) (V m c main_v15) (V m c main_v20) (V m c main_v23)) (k0_pay9 (V m c main_v16) (V m c main_v19) (V m c main_v3) (V m c main_v8))) (k0_pay12 (k0_pay7 (V m c main_v16) (V m c main_v19) (V m c main_v3) (V m c main_v8)) (k0_pay8 (V m c main_v11) (V m c main_v15) (V m c main_v20) (V m c main_v23)) (k0_pay9 (V m c main_v16) (V m c main_v19) (V m c main_v3) (V m c main_v8))) k0_pay13 := by
  have ho : ((cfg0.win 10).blk t₀).view.read (Elt Ideal) ((dats (F := Ideal) m 0 c).arrAt 10 cfg0.N) = (dats (F := Ideal) m 0 c).flushed 10 t₀ := by
    rw [show cfg0.N = t₀.val + 1 from rfl, (dats (F := Ideal) m 0 c).arrAt_succ 10 t₀]
    rw [show (cfg0.win 10).flush t₀ = true from by decide, if_pos rfl]
    exact View.read_write_univ _ _
  have hr := Memref.read_access_unit_zero (Elt Ideal) main_v24_2 (off := fun a => (win0_10.index t₀) a * main_v24_2.ty.shape.size a)
    (funext fun a => by fin_cases a <;> decide) (fun a => by fin_cases a <;> decide) ((dats (F := Ideal) m 0 c).arrAt 10 cfg0.N)
  refine hr.symm.trans (ho.trans ?_)
  show (cfg0.win 10).cut (grid0.coords t₀) ((dats (F := Ideal) m 0 c).after 10 t₀) = _
  rw [after0_10, iblk_0, iblk_1, iblk_2, iblk_3, iblk_4, iblk_5, iblk_6, iblk_7, out_10]
  rfl

/-! ## The run -/

/-- Every execution ends with the result arrays at what the pipeline computes and every argument unchanged. -/
theorem run_values : θ_run (defs (F := Ideal)) (onTc (τ := τ) (main (F := Ideal))) ⟨m, fun _ => 0, ρ⟩ (fun r => ∀ c : Dev nD,
      r.2.mem ((c.tc : Thread nD τ).loc main_v24_0) = (dats (F := Ideal) m 0 c).arrAt 8 cfg0.N
      ∧ r.2.mem ((c.tc : Thread nD τ).loc main_v24_1) = (dats (F := Ideal) m 0 c).arrAt 9 cfg0.N
      ∧ r.2.mem ((c.tc : Thread nD τ).loc main_v24_2) = (dats (F := Ideal) m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1 8,
    (h c).1 9,
    (h c).1 10,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩) (run_main (F := Ideal) m ρ)

end Cert.ReferenceIdeal.Own

end
-- ==== Proof.Ref.Gathers.lean ====
/- The reference's gathers: each reads, along one axis, at the block numbers of the block map. -/
module

public import proofs.«01_k».proof.Proof.Gen.ReferenceIdeal.Skeleton
public import Idealize.ShloMosaic.Lib.Pointwise

@[expose] public section

set_option maxRecDepth 16384
set_option backward.proofsInPublic true

noncomputable section

namespace Cert.ReferenceIdeal.Own

open Cert.ReferenceIdeal Cert.ReferenceIdeal.Gen Idealize.ShloMosaic

/-- Gather 1: axis 1 is read at the block number. -/
theorem gather_1 {α : Type} (x : S2048x704x128.Idx → α) (idx : IVec S448x11x1 32) (k : Fin 2048) (r : Fin 448) (J : Fin 11) (l : Fin 128) (n : Fin 704) (hn : (idx (ix3 r J 0)).toInt.toNat = n.val) :
    Host.gather gather_S2048x704x128_S448x11x1_S2048x448x11x128_03_1_n_n_1_2_20481128 x idx (ix4 k r J l) = x (ix3 k n l) := by
  unfold Host.gather
  refine congrArg x (funext fun a => Fin.ext ?_)
  show (gather_S2048x704x128_S448x11x1_S2048x448x11x128_03_1_n_n_1_2_20481128).start (ix4 k r J l) idx a + (gather_S2048x704x128_S448x11x1_S2048x448x11x128_03_1_n_n_1_2_20481128).batchCoord (ix4 k r J l) a + (gather_S2048x704x128_S448x11x1_S2048x448x11x128_03_1_n_n_1_2_20481128).offCoord (ix4 k r J l) a = _
  rw [GatherDims.batchCoord_eq_zero _ _ _ List.not_mem_nil, Nat.add_zero]
  fin_cases a
  · have h1 : (gather_S2048x704x128_S448x11x1_S2048x448x11x128_03_1_n_n_1_2_20481128).start (ix4 k r J l) idx 0 = 0 := by
      unfold GatherDims.start
      exact dif_neg (fun h => absurd (List.mem_singleton.mp h) (by decide))
    have h2 : (gather_S2048x704x128_S448x11x1_S2048x448x11x128_03_1_n_n_1_2_20481128).offCoord (ix4 k r J l) 0 = k.val := by
      unfold GatherDims.offCoord
      rw [dif_pos ((GatherDims.mem_sKept _ _).mpr ⟨fun h => absurd (List.mem_singleton.mp h) (by decide), List.not_mem_nil⟩)]
      rfl
    exact (congrArg₂ (· + ·) h1 h2).trans (Nat.zero_add _)
  · have h1 : (gather_S2048x704x128_S448x11x1_S2048x448x11x128_03_1_n_n_1_2_20481128).start (ix4 k r J l) idx 1 = n.val := by
      unfold GatherDims.start
      rw [dif_pos (show (1 : Fin 3) ∈ (gather_S2048x704x128_S448x11x1_S2048x448x11x128_03_1_n_n_1_2_20481128).startIndexMap from List.mem_singleton.mpr rfl)]
      have hsi : (gather_S2048x704x128_S448x11x1_S2048x448x11x128_03_1_n_n_1_2_20481128).siIdx (ix4 k r J l) ⟨List.idxOf (1 : Fin 3) (gather_S2048x704x128_S448x11x1_S2048x448x11x128_03_1_n_n_1_2_20481128).startIndexMap,
          List.idxOf_lt_length_iff.2 (List.mem_singleton.mpr rfl)⟩ = ix3 r J 0 := by
        funext b; refine Fin.ext ?_
        match b with
        | ⟨0, _⟩ => rfl
        | ⟨1, _⟩ => rfl
        | ⟨2, _⟩ => rfl
      rw [hsi, hn]
      show min n.val 703 = n.val
      omega
    have h2 : (gather_S2048x704x128_S448x11x1_S2048x448x11x128_03_1_n_n_1_2_20481128).offCoord (ix4 k r J l) 1 = 0 :=
      GatherDims.offCoord_eq_zero _ _ _ (fun h => ((GatherDims.mem_sKept _ _).mp h).1 (List.mem_singleton.mpr rfl))
    exact (congrArg₂ (· + ·) h1 h2).trans (Nat.add_zero _)
  · have h1 : (gather_S2048x704x128_S448x11x1_S2048x448x11x128_03_1_n_n_1_2_20481128).start (ix4 k r J l) idx 2 = 0 := by
      unfold GatherDims.start
      exact dif_neg (fun h => absurd (List.mem_singleton.mp h) (by decide))
    have h2 : (gather_S2048x704x128_S448x11x1_S2048x448x11x128_03_1_n_n_1_2_20481128).offCoord (ix4 k r J l) 2 = l.val := by
      unfold GatherDims.offCoord
      rw [dif_pos ((GatherDims.mem_sKept _ _).mpr ⟨fun h => absurd (List.mem_singleton.mp h) (by decide), List.not_mem_nil⟩)]
      rfl
    exact (congrArg₂ (· + ·) h1 h2).trans (Nat.zero_add _)

/-- Gather 2: axis 1 is read at the block number. -/
theorem gather_2 {α : Type} (x : S16x704.Idx → α) (idx : IVec S448x11x1 32) (g : Fin 16) (r : Fin 448) (J : Fin 11) (n : Fin 704) (hn : (idx (ix3 r J 0)).toInt.toNat = n.val) :
    Host.gather gather_S16x704_S448x11x1_S16x448x11_0_1_n_n_1_2_161 x idx (ix3 g r J) = x (ix2 g n) := by
  unfold Host.gather
  refine congrArg x (funext fun a => Fin.ext ?_)
  show (gather_S16x704_S448x11x1_S16x448x11_0_1_n_n_1_2_161).start (ix3 g r J) idx a + (gather_S16x704_S448x11x1_S16x448x11_0_1_n_n_1_2_161).batchCoord (ix3 g r J) a + (gather_S16x704_S448x11x1_S16x448x11_0_1_n_n_1_2_161).offCoord (ix3 g r J) a = _
  rw [GatherDims.batchCoord_eq_zero _ _ _ List.not_mem_nil, Nat.add_zero]
  fin_cases a
  · have h1 : (gather_S16x704_S448x11x1_S16x448x11_0_1_n_n_1_2_161).start (ix3 g r J) idx 0 = 0 := by
      unfold GatherDims.start
      exact dif_neg (fun h => absurd (List.mem_singleton.mp h) (by decide))
    have h2 : (gather_S16x704_S448x11x1_S16x448x11_0_1_n_n_1_2_161).offCoord (ix3 g r J) 0 = g.val := by
      unfold GatherDims.offCoord
      rw [dif_pos ((GatherDims.mem_sKept _ _).mpr ⟨fun h => absurd (List.mem_singleton.mp h) (by decide), List.not_mem_nil⟩)]
      rfl
    exact (congrArg₂ (· + ·) h1 h2).trans (Nat.zero_add _)
  · have h1 : (gather_S16x704_S448x11x1_S16x448x11_0_1_n_n_1_2_161).start (ix3 g r J) idx 1 = n.val := by
      unfold GatherDims.start
      rw [dif_pos (show (1 : Fin 2) ∈ (gather_S16x704_S448x11x1_S16x448x11_0_1_n_n_1_2_161).startIndexMap from List.mem_singleton.mpr rfl)]
      have hsi : (gather_S16x704_S448x11x1_S16x448x11_0_1_n_n_1_2_161).siIdx (ix3 g r J) ⟨List.idxOf (1 : Fin 2) (gather_S16x704_S448x11x1_S16x448x11_0_1_n_n_1_2_161).startIndexMap,
          List.idxOf_lt_length_iff.2 (List.mem_singleton.mpr rfl)⟩ = ix3 r J 0 := by
        funext b; refine Fin.ext ?_
        match b with
        | ⟨0, _⟩ => rfl
        | ⟨1, _⟩ => rfl
        | ⟨2, _⟩ => rfl
      rw [hsi, hn]
      show min n.val 703 = n.val
      omega
    have h2 : (gather_S16x704_S448x11x1_S16x448x11_0_1_n_n_1_2_161).offCoord (ix3 g r J) 1 = 0 :=
      GatherDims.offCoord_eq_zero _ _ _ (fun h => ((GatherDims.mem_sKept _ _).mp h).1 (List.mem_singleton.mpr rfl))
    exact (congrArg₂ (· + ·) h1 h2).trans (Nat.add_zero _)

/-- Gather 3: axis 0 is read at the block number. -/
theorem gather_3 {α : Type} (x : S704x128x2048.Idx → α) (idx : IVec S448x11x1 32) (r : Fin 448) (J : Fin 11) (l : Fin 128) (k : Fin 2048) (n : Fin 704) (hn : (idx (ix3 r J 0)).toInt.toNat = n.val) :
    Host.gather gather_S704x128x2048_S448x11x1_S448x11x128x2048_23_0_n_n_0_2_11282048 x idx (ix4 r J l k) = x (ix3 n l k) := by
  unfold Host.gather
  refine congrArg x (funext fun a => Fin.ext ?_)
  show (gather_S704x128x2048_S448x11x1_S448x11x128x2048_23_0_n_n_0_2_11282048).start (ix4 r J l k) idx a + (gather_S704x128x2048_S448x11x1_S448x11x128x2048_23_0_n_n_0_2_11282048).batchCoord (ix4 r J l k) a + (gather_S704x128x2048_S448x11x1_S448x11x128x2048_23_0_n_n_0_2_11282048).offCoord (ix4 r J l k) a = _
  rw [GatherDims.batchCoord_eq_zero _ _ _ List.not_mem_nil, Nat.add_zero]
  fin_cases a
  · have h1 : (gather_S704x128x2048_S448x11x1_S448x11x128x2048_23_0_n_n_0_2_11282048).start (ix4 r J l k) idx 0 = n.val := by
      unfold GatherDims.start
      rw [dif_pos (show (0 : Fin 3) ∈ (gather_S704x128x2048_S448x11x1_S448x11x128x2048_23_0_n_n_0_2_11282048).startIndexMap from List.mem_singleton.mpr rfl)]
      have hsi : (gather_S704x128x2048_S448x11x1_S448x11x128x2048_23_0_n_n_0_2_11282048).siIdx (ix4 r J l k) ⟨List.idxOf (0 : Fin 3) (gather_S704x128x2048_S448x11x1_S448x11x128x2048_23_0_n_n_0_2_11282048).startIndexMap,
          List.idxOf_lt_length_iff.2 (List.mem_singleton.mpr rfl)⟩ = ix3 r J 0 := by
        funext b; refine Fin.ext ?_
        match b with
        | ⟨0, _⟩ => rfl
        | ⟨1, _⟩ => rfl
        | ⟨2, _⟩ => rfl
      rw [hsi, hn]
      show min n.val 703 = n.val
      omega
    have h2 : (gather_S704x128x2048_S448x11x1_S448x11x128x2048_23_0_n_n_0_2_11282048).offCoord (ix4 r J l k) 0 = 0 :=
      GatherDims.offCoord_eq_zero _ _ _ (fun h => ((GatherDims.mem_sKept _ _).mp h).1 (List.mem_singleton.mpr rfl))
    exact (congrArg₂ (· + ·) h1 h2).trans (Nat.add_zero _)
  · have h1 : (gather_S704x128x2048_S448x11x1_S448x11x128x2048_23_0_n_n_0_2_11282048).start (ix4 r J l k) idx 1 = 0 := by
      unfold GatherDims.start
      exact dif_neg (fun h => absurd (List.mem_singleton.mp h) (by decide))
    have h2 : (gather_S704x128x2048_S448x11x1_S448x11x128x2048_23_0_n_n_0_2_11282048).offCoord (ix4 r J l k) 1 = l.val := by
      unfold GatherDims.offCoord
      rw [dif_pos ((GatherDims.mem_sKept _ _).mpr ⟨fun h => absurd (List.mem_singleton.mp h) (by decide), List.not_mem_nil⟩)]
      rfl
    exact (congrArg₂ (· + ·) h1 h2).trans (Nat.zero_add _)
  · have h1 : (gather_S704x128x2048_S448x11x1_S448x11x128x2048_23_0_n_n_0_2_11282048).start (ix4 r J l k) idx 2 = 0 := by
      unfold GatherDims.start
      exact dif_neg (fun h => absurd (List.mem_singleton.mp h) (by decide))
    have h2 : (gather_S704x128x2048_S448x11x1_S448x11x128x2048_23_0_n_n_0_2_11282048).offCoord (ix4 r J l k) 2 = k.val := by
      unfold GatherDims.offCoord
      rw [dif_pos ((GatherDims.mem_sKept _ _).mpr ⟨fun h => absurd (List.mem_singleton.mp h) (by decide), List.not_mem_nil⟩)]
      rfl
    exact (congrArg₂ (· + ·) h1 h2).trans (Nat.zero_add _)

/-- Gather 4: axis 0 is read at the block number. -/
theorem gather_4 {α : Type} (x : S704x16.Idx → α) (idx : IVec S448x11x1 32) (r : Fin 448) (J : Fin 11) (g : Fin 16) (n : Fin 704) (hn : (idx (ix3 r J 0)).toInt.toNat = n.val) :
    Host.gather gather_S704x16_S448x11x1_S448x11x16_2_0_n_n_0_2_116 x idx (ix3 r J g) = x (ix2 n g) := by
  unfold Host.gather
  refine congrArg x (funext fun a => Fin.ext ?_)
  show (gather_S704x16_S448x11x1_S448x11x16_2_0_n_n_0_2_116).start (ix3 r J g) idx a + (gather_S704x16_S448x11x1_S448x11x16_2_0_n_n_0_2_116).batchCoord (ix3 r J g) a + (gather_S704x16_S448x11x1_S448x11x16_2_0_n_n_0_2_116).offCoord (ix3 r J g) a = _
  rw [GatherDims.batchCoord_eq_zero _ _ _ List.not_mem_nil, Nat.add_zero]
  fin_cases a
  · have h1 : (gather_S704x16_S448x11x1_S448x11x16_2_0_n_n_0_2_116).start (ix3 r J g) idx 0 = n.val := by
      unfold GatherDims.start
      rw [dif_pos (show (0 : Fin 2) ∈ (gather_S704x16_S448x11x1_S448x11x16_2_0_n_n_0_2_116).startIndexMap from List.mem_singleton.mpr rfl)]
      have hsi : (gather_S704x16_S448x11x1_S448x11x16_2_0_n_n_0_2_116).siIdx (ix3 r J g) ⟨List.idxOf (0 : Fin 2) (gather_S704x16_S448x11x1_S448x11x16_2_0_n_n_0_2_116).startIndexMap,
          List.idxOf_lt_length_iff.2 (List.mem_singleton.mpr rfl)⟩ = ix3 r J 0 := by
        funext b; refine Fin.ext ?_
        match b with
        | ⟨0, _⟩ => rfl
        | ⟨1, _⟩ => rfl
        | ⟨2, _⟩ => rfl
      rw [hsi, hn]
      show min n.val 703 = n.val
      omega
    have h2 : (gather_S704x16_S448x11x1_S448x11x16_2_0_n_n_0_2_116).offCoord (ix3 r J g) 0 = 0 :=
      GatherDims.offCoord_eq_zero _ _ _ (fun h => ((GatherDims.mem_sKept _ _).mp h).1 (List.mem_singleton.mpr rfl))
    exact (congrArg₂ (· + ·) h1 h2).trans (Nat.add_zero _)
  · have h1 : (gather_S704x16_S448x11x1_S448x11x16_2_0_n_n_0_2_116).start (ix3 r J g) idx 1 = 0 := by
      unfold GatherDims.start
      exact dif_neg (fun h => absurd (List.mem_singleton.mp h) (by decide))
    have h2 : (gather_S704x16_S448x11x1_S448x11x16_2_0_n_n_0_2_116).offCoord (ix3 r J g) 1 = g.val := by
      unfold GatherDims.offCoord
      rw [dif_pos ((GatherDims.mem_sKept _ _).mpr ⟨fun h => absurd (List.mem_singleton.mp h) (by decide), List.not_mem_nil⟩)]
      rfl
    exact (congrArg₂ (· + ·) h1 h2).trans (Nat.zero_add _)

end Cert.ReferenceIdeal.Own

end
-- ==== Proof.Ref.Operands.lean ====
/- The eight operand arrays the reference's body is given, entry by entry of the arguments: the weights are gathered by
   expert, the scales repeated over the 128 entries each serves. -/
module

public import proofs.«01_k».proof.Proof.Gen.ReferenceIdeal.Frame
public import proofs.«01_k».proof.Proof.Ref.Gathers
public import proofs.«01_k».proof.Proof.Math.Operands
public import Idealize.ShloMosaic.Lib.Pipeline.Value

@[expose] public section

set_option maxRecDepth 16384
set_option backward.proofsInPublic true

noncomputable section

namespace Cert.ReferenceIdeal.Own

open Cert.ReferenceIdeal Cert.ReferenceIdeal.Gen
open Idealize.ShloMosaic Idealize.ShloMosaic.TcCoe Idealize.ShloMosaic.Tactic

/-! ## As functions of the arguments -/

/-- The block map says the blocks of each row are the run of one expert. -/
def Named (b : IVec S448x11 32) (e : Fin 448 → Fin 64) : Prop :=
  ∀ (r : Fin 448) (J : Fin 11), b (ix2 r J) = BitVec.ofNat 32 (11 * (e r).val + J.val)

/-- The block number the gathers read. -/
theorem Named.word {b : IVec S448x11 32} {e : Fin 448 → Fin 64} (h : Named b e) (r : Fin 448) (J : Fin 11) :
    (broadcastInDim S448x11x1 ![0, 1] bcast_S448x11_S448x11x1_0_1 b (ix3 r J 0)).toInt.toNat = (Operands.grp (e r) J).val := by
  rw [broadcastInDim_apply _ _ b (ix3 r J 0) (ix2 r J) (by intro a; fin_cases a <;> rfl), h r J]
  have h1 := (e r).isLt
  have h2 := J.isLt
  rw [BitVec.toInt_ofNat']
  show (Int.bmod _ _).toNat = 11 * (e r).val + J.val
  rw [Int.bmod_def]
  omega

section

variable {b : IVec S448x11 32} {e : Fin 448 → Fin 64} (h : Named b e)
include h

/-- The first weight's codes. -/
theorem codes1_at (x : S2048x90112.Idx → EReal) (r : Fin 448) (k : Fin 2048) (j : Fin 1408) :
    shapeCast S448x2048x1408 (transpose S448x2048x11x128 [1, 0, 2, 3] (Host.gather gather_S2048x704x128_S448x11x1_S2048x448x11x128_03_1_n_n_1_2_20481128
        (shapeCast S2048x704x128 x shapeCasts_S2048x90112_S2048x704x128) (broadcastInDim S448x11x1 ![0, 1] bcast_S448x11_S448x11x1_0_1 b))
        transposes_S2048x448x11x128_S448x2048x11x128_1_0_2_3) shapeCasts_S448x2048x11x128_S448x2048x1408 (ix3 r k j)
      = x (ix2 k (Operands.col (e r) j)) := by
  refine (shapeCast_apply _ _ (ix3 r k j) (ix4 r k (Model.group j) (Model.place j)) ?_).trans ?_
  · rw [Shape.rowMajor_val_four, Shape.rowMajor_val_three]
    show ((r.val * 2048 + k.val) * 11 + j.val / 128) * 128 + j.val % 128 = (r.val * 2048 + k.val) * 1408 + j.val
    omega
  refine (transpose_apply _ _ _ (ix4 r k (Model.group j) (Model.place j)) (ix4 k r (Model.group j) (Model.place j)) (by intro b; fin_cases b <;> rfl)).trans ?_
  refine (gather_1 _ _ k r (Model.group j) (Model.place j) (Operands.grp (e r) (Model.group j)) (h.word r _)).trans ?_
  refine shapeCast_apply _ _ _ (ix2 k (Operands.col (e r) j)) ?_
  rw [Shape.rowMajor_val_two, Shape.rowMajor_val_three]
  show k.val * 90112 + (1408 * (e r).val + j.val) = (k.val * 704 + (11 * (e r).val + j.val / 128)) * 128 + j.val % 128
  omega

/-- The first weight's scales. -/
theorem scales1_at (x : S16x704.Idx → EReal) (r : Fin 448) (k : Fin 2048) (j : Fin 1408) :
    shapeCast S448x2048x1408 (broadcastInDim S448x16x128x11x128 ![0, 1, 2, 3, 4] bcast_S448x16x1x11x1_S448x16x128x11x128_0_1_2_3_4
        (broadcastInDim S448x16x1x11x1 ![0, 1, 3] bcast_S448x16x11_S448x16x1x11x1_0_1_3
          (transpose S448x16x11 [1, 0, 2] (Host.gather gather_S16x704_S448x11x1_S16x448x11_0_1_n_n_1_2_161 x
            (broadcastInDim S448x11x1 ![0, 1] bcast_S448x11_S448x11x1_0_1 b)) transposes_S16x448x11_S448x16x11_1_0_2)))
        shapeCasts_S448x16x128x11x128_S448x2048x1408 (ix3 r k j)
      = x (ix2 (Model.group16 k) (Operands.grp (e r) (Model.group j))) := by
  refine (shapeCast_apply _ _ (ix3 r k j) (ix5 r (Model.group16 k) (⟨k.val % 128, by omega⟩ : Fin 128) (Model.group j) (Model.place j)) ?_).trans ?_
  · rw [Shape.rowMajor_val_five, Shape.rowMajor_val_three]
    show (((r.val * 16 + k.val / 128) * 128 + k.val % 128) * 11 + j.val / 128) * 128 + j.val % 128 = (r.val * 2048 + k.val) * 1408 + j.val
    omega
  refine (broadcastInDim_apply _ _ _ _ (ix5 r (Model.group16 k) (0 : Fin 1) (Model.group j) (0 : Fin 1)) (by intro a; fin_cases a <;> rfl)).trans ?_
  refine (broadcastInDim_apply _ _ _ _ (ix3 r (Model.group16 k) (Model.group j)) (by intro a; fin_cases a <;> rfl)).trans ?_
  refine (transpose_apply _ _ _ _ (ix3 (Model.group16 k) r (Model.group j)) (by intro b; fin_cases b <;> rfl)).trans ?_
  exact gather_2 _ _ _ r (Model.group j) (Operands.grp (e r) (Model.group j)) (h.word r _)

/-- The second weight's codes. -/
theorem codes2_at (x : S90112x2048.Idx → EReal) (r : Fin 448) (j : Fin 1408) (k : Fin 2048) :
    shapeCast S448x1408x2048 (Host.gather gather_S704x128x2048_S448x11x1_S448x11x128x2048_23_0_n_n_0_2_11282048
        (shapeCast S704x128x2048 x shapeCasts_S90112x2048_S704x128x2048) (broadcastInDim S448x11x1 ![0, 1] bcast_S448x11_S448x11x1_0_1 b))
        shapeCasts_S448x11x128x2048_S448x1408x2048 (ix3 r j k)
      = x (ix2 (Operands.col (e r) j) k) := by
  refine (shapeCast_apply _ _ (ix3 r j k) (ix4 r (Model.group j) (Model.place j) k) ?_).trans ?_
  · rw [Shape.rowMajor_val_four, Shape.rowMajor_val_three]
    show ((r.val * 11 + j.val / 128) * 128 + j.val % 128) * 2048 + k.val = (r.val * 1408 + j.val) * 2048 + k.val
    omega
  refine (gather_3 _ _ r (Model.group j) (Model.place j) k (Operands.grp (e r) (Model.group j)) (h.word r _)).trans ?_
  refine shapeCast_apply _ _ _ (ix2 (Operands.col (e r) j) k) ?_
  rw [Shape.rowMajor_val_two, Shape.rowMajor_val_three]
  show (1408 * (e r).val + j.val) * 2048 + k.val = ((11 * (e r).val + j.val / 128) * 128 + j.val % 128) * 2048 + k.val
  omega

/-- The second weight's scales. -/
theorem scales2_at (x : S704x16.Idx → EReal) (r : Fin 448) (j : Fin 1408) (k : Fin 2048) :
    shapeCast S448x1408x2048 (broadcastInDim S448x11x128x16x128 ![0, 1, 2, 3, 4] bcast_S448x11x1x16x1_S448x11x128x16x128_0_1_2_3_4
        (broadcastInDim S448x11x1x16x1 ![0, 1, 3] bcast_S448x11x16_S448x11x1x16x1_0_1_3
          (Host.gather gather_S704x16_S448x11x1_S448x11x16_2_0_n_n_0_2_116 x
            (broadcastInDim S448x11x1 ![0, 1] bcast_S448x11_S448x11x1_0_1 b))))
        shapeCasts_S448x11x128x16x128_S448x1408x2048 (ix3 r j k)
      = x (ix2 (Operands.grp (e r) (Model.group j)) (Model.group16 k)) := by
  refine (shapeCast_apply _ _ (ix3 r j k) (ix5 r (Model.group j) (Model.place j) (Model.group16 k) (⟨k.val % 128, by omega⟩ : Fin 128)) ?_).trans ?_
  · rw [Shape.rowMajor_val_five, Shape.rowMajor_val_three]
    show (((r.val * 11 + j.val / 128) * 128 + j.val % 128) * 16 + k.val / 128) * 128 + k.val % 128 = (r.val * 1408 + j.val) * 2048 + k.val
    omega
  refine (broadcastInDim_apply _ _ _ _ (ix5 r (Model.group j) (0 : Fin 1) (Model.group16 k) (0 : Fin 1)) (by intro a; fin_cases a <;> rfl)).trans ?_
  refine (broadcastInDim_apply _ _ _ _ (ix3 r (Model.group j) (Model.group16 k)) (by intro a; fin_cases a <;> rfl)).trans ?_
  exact gather_4 _ _ r (Model.group j) _ (Operands.grp (e r) (Model.group j)) (h.word r _)

end

/-- The rows' codes. -/
theorem rowCodes_at (x : S57344x2048.Idx → EReal) (r : Fin 448) (p : Fin 128) (k : Fin 2048) :
    shapeCast S448x128x2048 x shapeCasts_S57344x2048_S448x128x2048 (ix3 r p k) = x (ix2 (Operands.row r p) k) := by
  refine shapeCast_apply _ _ _ (ix2 (Operands.row r p) k) ?_
  rw [Shape.rowMajor_val_two, Shape.rowMajor_val_three]
  show (128 * r.val + p.val) * 2048 + k.val = (r.val * 128 + p.val) * 2048 + k.val
  omega

/-- The rows' scales. -/
theorem rowScales_at (x : S57344x16.Idx → EReal) (r : Fin 448) (p : Fin 128) (k : Fin 2048) :
    shapeCast S448x128x2048 (broadcastInDim S57344x16x128 ![0, 1, 2] bcast_S57344x16x1_S57344x16x128_0_1_2
        (broadcastInDim S57344x16x1 ![0, 1] bcast_S57344x16_S57344x16x1_0_1 x)) shapeCasts_S57344x16x128_S448x128x2048 (ix3 r p k)
      = x (ix2 (Operands.row r p) (Model.group16 k)) := by
  refine (shapeCast_apply _ _ (ix3 r p k) (ix3 (Operands.row r p) (Model.group16 k) (⟨k.val % 128, by omega⟩ : Fin 128)) ?_).trans ?_
  · rw [Shape.rowMajor_val_three, Shape.rowMajor_val_three]
    show ((128 * r.val + p.val) * 16 + k.val / 128) * 128 + k.val % 128 = (r.val * 128 + p.val) * 2048 + k.val
    omega
  refine (broadcastInDim_apply _ _ _ _ (ix3 (Operands.row r p) (Model.group16 k) (0 : Fin 1)) (by intro a; fin_cases a <;> rfl)).trans ?_
  exact broadcastInDim_apply _ _ _ _ (ix2 (Operands.row r p) (Model.group16 k)) (by intro a; fin_cases a <;> rfl)

/-! ## The arrays the body is given -/

variable (m : (ℓ : Loc nD τ sig) → Buf (Elt Ideal) ℓ)

theorem V_v3 (c : Dev nD) {e : Fin 448 → Fin 64} (h : Named (m ((c : Thread nD τ).loc main_arg6)) e) (r : Fin 448) (k : Fin 2048) (j : Fin 1408) :
    V m c main_v3 (ix3 r k j) = m ((c : Thread nD τ).loc main_arg2) (ix2 k (Operands.col (e r) j)) := by
  refine Eq.trans ?_ (codes1_at h (m ((c : Thread nD τ).loc main_arg2)) r k j)
  simp only [V, hostOps0, hostOps0_1, hostOps0_2, hostOps0_3, hostOps0_4, hostOps0_5, hostOps0_6, hostOps0_7, hostOps0_8, List.flatten_cons, List.flatten_nil, List.append_nil, List.cons_append, List.nil_append]; after_results
  simp only [StableHlo.TRef.ofBuf_toBuf]
  rfl

theorem V_v8 (c : Dev nD) {e : Fin 448 → Fin 64} (h : Named (m ((c : Thread nD τ).loc main_arg6)) e) (r : Fin 448) (k : Fin 2048) (j : Fin 1408) :
    V m c main_v8 (ix3 r k j) = m ((c : Thread nD τ).loc main_arg3) (ix2 (Model.group16 k) (Operands.grp (e r) (Model.group j))) := by
  refine Eq.trans ?_ (scales1_at h (m ((c : Thread nD τ).loc main_arg3)) r k j)
  simp only [V, hostOps0, hostOps0_1, hostOps0_2, hostOps0_3, hostOps0_4, hostOps0_5, hostOps0_6, hostOps0_7, hostOps0_8, List.flatten_cons, List.flatten_nil, List.append_nil, List.cons_append, List.nil_append]; after_results
  simp only [StableHlo.TRef.ofBuf_toBuf]
  rfl

theorem V_v11 (c : Dev nD) {e : Fin 448 → Fin 64} (h : Named (m ((c : Thread nD τ).loc main_arg6)) e) (r : Fin 448) (j : Fin 1408) (k : Fin 2048) :
    V m c main_v11 (ix3 r j k) = m ((c : Thread nD τ).loc main_arg4) (ix2 (Operands.col (e r) j) k) := by
  refine Eq.trans ?_ (codes2_at h (m ((c : Thread nD τ).loc main_arg4)) r j k)
  simp only [V, hostOps0, hostOps0_1, hostOps0_2, hostOps0_3, hostOps0_4, hostOps0_5, hostOps0_6, hostOps0_7, hostOps0_8, List.flatten_cons, List.flatten_nil, List.append_nil, List.cons_append, List.nil_append]; after_results
  simp only [StableHlo.TRef.ofBuf_toBuf]
  rfl

theorem V_v15 (c : Dev nD) {e : Fin 448 → Fin 64} (h : Named (m ((c : Thread nD τ).loc main_arg6)) e) (r : Fin 448) (j : Fin 1408) (k : Fin 2048) :
    V m c main_v15 (ix3 r j k) = m ((c : Thread nD τ).loc main_arg5) (ix2 (Operands.grp (e r) (Model.group j)) (Model.group16 k)) := by
  refine Eq.trans ?_ (scales2_at h (m ((c : Thread nD τ).loc main_arg5)) r j k)
  simp only [V, hostOps0, hostOps0_1, hostOps0_2, hostOps0_3, hostOps0_4, hostOps0_5, hostOps0_6, hostOps0_7, hostOps0_8, List.flatten_cons, List.flatten_nil, List.append_nil, List.cons_append, List.nil_append]; after_results
  simp only [StableHlo.TRef.ofBuf_toBuf]
  rfl

theorem V_v16 (c : Dev nD) (r : Fin 448) (p : Fin 128) (k : Fin 2048) :
    V m c main_v16 (ix3 r p k) = m ((c : Thread nD τ).loc main_arg0) (ix2 (Operands.row r p) k) := by
  refine Eq.trans ?_ (rowCodes_at (m ((c : Thread nD τ).loc main_arg0)) r p k)
  simp only [V, hostOps0, hostOps0_1, hostOps0_2, hostOps0_3, hostOps0_4, hostOps0_5, hostOps0_6, hostOps0_7, hostOps0_8, List.flatten_cons, List.flatten_nil, List.append_nil, List.cons_append, List.nil_append]; after_results
  simp only [StableHlo.TRef.ofBuf_toBuf]
  rfl

theorem V_v19 (c : Dev nD) (r : Fin 448) (p : Fin 128) (k : Fin 2048) :
    V m c main_v19 (ix3 r p k) = m ((c : Thread nD τ).loc main_arg1) (ix2 (Operands.row r p) (Model.group16 k)) := by
  refine Eq.trans ?_ (rowScales_at (m ((c : Thread nD τ).loc main_arg1)) r p k)
  simp only [V, hostOps0, hostOps0_1, hostOps0_2, hostOps0_3, hostOps0_4, hostOps0_5, hostOps0_6, hostOps0_7, hostOps0_8, List.flatten_cons, List.flatten_nil, List.append_nil, List.cons_append, List.nil_append]; after_results
  simp only [StableHlo.TRef.ofBuf_toBuf]
  rfl

theorem V_v20 (c : Dev nD) (r : Fin 448) (p : Fin 128) (k : Fin 2048) :
    V m c main_v20 (ix3 r p k) = m ((c : Thread nD τ).loc main_arg7) (ix2 (Operands.row r p) k) := by
  refine Eq.trans ?_ (rowCodes_at (m ((c : Thread nD τ).loc main_arg7)) r p k)
  simp only [V, hostOps0, hostOps0_1, hostOps0_2, hostOps0_3, hostOps0_4, hostOps0_5, hostOps0_6, hostOps0_7, hostOps0_8, List.flatten_cons, List.flatten_nil, List.append_nil, List.cons_append, List.nil_append]; after_results
  simp only [StableHlo.TRef.ofBuf_toBuf]
  rfl

theorem V_v23 (c : Dev nD) (r : Fin 448) (p : Fin 128) (k : Fin 2048) :
    V m c main_v23 (ix3 r p k) = m ((c : Thread nD τ).loc main_arg8) (ix2 (Operands.row r p) (Model.group16 k)) := by
  refine Eq.trans ?_ (rowScales_at (m ((c : Thread nD τ).loc main_arg8)) r p k)
  simp only [V, hostOps0, hostOps0_1, hostOps0_2, hostOps0_3, hostOps0_4, hostOps0_5, hostOps0_6, hostOps0_7, hostOps0_8, List.flatten_cons, List.flatten_nil, List.append_nil, List.cons_append, List.nil_append]; after_results
  simp only [StableHlo.TRef.ofBuf_toBuf]
  rfl

end Cert.ReferenceIdeal.Own

end
-- ==== Proof.Ref.Result.lean ====
/- The reference's three results as functions of its arguments. -/
module

public import proofs.«01_k».proof.Proof.Ref.Run
public import proofs.«01_k».proof.Proof.Ref.Operands
public import proofs.«01_k».proof.Proof.Ref.Payload

@[expose] public section

set_option maxRecDepth 16384
set_option backward.proofsInPublic true

noncomputable section

namespace Cert.ReferenceIdeal.Own

open Cert.ReferenceIdeal Cert.ReferenceIdeal.Gen
open Idealize.ShloMosaic Idealize.ShloMosaic.TcCoe

variable (m : (ℓ : Loc nD τ sig) → Buf (Elt Ideal) ℓ)

/-! ## The operands of a row block -/

theorem inp_eq (c : Dev nD) (r : Fin 448) : inp (V m c main_v16) (V m c main_v19) r = Operands.rows (m ((c : Thread nD τ).loc main_arg0)) (m ((c : Thread nD τ).loc main_arg1)) r :=
  funext fun p => funext fun k => congrArg₂ (· * ·) (V_v16 m c r p k) (V_v19 m c r p k)

theorem inc_eq (c : Dev nD) (r : Fin 448) : inc (V m c main_v20) (V m c main_v23) r = Operands.rows (m ((c : Thread nD τ).loc main_arg7)) (m ((c : Thread nD τ).loc main_arg8)) r :=
  funext fun p => funext fun k => congrArg₂ (· * ·) (V_v20 m c r p k) (V_v23 m c r p k)

theorem wei1_eq (c : Dev nD) {e : Fin 448 → Fin 64} (h : Named (m ((c : Thread nD τ).loc main_arg6)) e) (r : Fin 448) : wei1 (V m c main_v3) (V m c main_v8) r = Operands.first (m ((c : Thread nD τ).loc main_arg2)) (m ((c : Thread nD τ).loc main_arg3)) (e r) :=
  funext fun k => funext fun j => congrArg₂ (· * ·) (V_v3 m c h r k j) (V_v8 m c h r k j)

theorem wei2_eq (c : Dev nD) {e : Fin 448 → Fin 64} (h : Named (m ((c : Thread nD τ).loc main_arg6)) e) (r : Fin 448) : wei2 (V m c main_v11) (V m c main_v15) r = Operands.second (m ((c : Thread nD τ).loc main_arg4)) (m ((c : Thread nD τ).loc main_arg5)) (e r) :=
  funext fun j => funext fun k => congrArg₂ (· * ·) (V_v11 m c h r j k) (V_v15 m c h r j k)

/-! ## The results -/

/-- The input gradient, entry by entry. -/
theorem entry_8 (c : Dev nD) {e : Fin 448 → Fin 64} (h : Named (m ((c : Thread nD τ).loc main_arg6)) e) (r : Fin 448) (p : Fin 128) (k : Fin 2048) :
    (dats (F := Ideal) m 0 c).arrAt 8 cfg0.N (ix2 (Operands.row r p) k)
      = Model.dx (Operands.rows (m ((c : Thread nD τ).loc main_arg0)) (m ((c : Thread nD τ).loc main_arg1)) r) (Operands.rows (m ((c : Thread nD τ).loc main_arg7)) (m ((c : Thread nD τ).loc main_arg8)) r) (Operands.first (m ((c : Thread nD τ).loc main_arg2)) (m ((c : Thread nD τ).loc main_arg3)) (e r)) (Operands.second (m ((c : Thread nD τ).loc main_arg4)) (m ((c : Thread nD τ).loc main_arg5)) (e r)) p k := by
  refine (congrFun (final_8 m c) (ix2 (row r p) k)).trans ?_
  refine (result_gradient (V m c main_v11) (V m c main_v15) (V m c main_v20) (V m c main_v23) (V m c main_v16) (V m c main_v19) (V m c main_v3) (V m c main_v8) r p k).trans ?_
  rw [inp_eq, inc_eq, wei1_eq m c h, wei2_eq m c h]

/-- The codes, entry by entry. -/
theorem entry_9 (c : Dev nD) {e : Fin 448 → Fin 64} (h : Named (m ((c : Thread nD τ).loc main_arg6)) e) (r : Fin 448) (p : Fin 128) (k : Fin 1408) :
    (dats (F := Ideal) m 0 c).arrAt 9 cfg0.N (ix2 (Operands.row r p) k)
      = Model.code (Operands.rows (m ((c : Thread nD τ).loc main_arg0)) (m ((c : Thread nD τ).loc main_arg1)) r) (Operands.rows (m ((c : Thread nD τ).loc main_arg7)) (m ((c : Thread nD τ).loc main_arg8)) r) (Operands.first (m ((c : Thread nD τ).loc main_arg2)) (m ((c : Thread nD τ).loc main_arg3)) (e r)) (Operands.second (m ((c : Thread nD τ).loc main_arg4)) (m ((c : Thread nD τ).loc main_arg5)) (e r)) p k := by
  refine (congrFun (final_9 m c) (ix2 (row r p) k)).trans ?_
  refine (result_codes (V m c main_v11) (V m c main_v15) (V m c main_v20) (V m c main_v23) (V m c main_v16) (V m c main_v19) (V m c main_v3) (V m c main_v8) r p k).trans ?_
  rw [inp_eq, inc_eq, wei1_eq m c h, wei2_eq m c h]

/-- The scales, entry by entry. -/
theorem entry_10 (c : Dev nD) {e : Fin 448 → Fin 64} (h : Named (m ((c : Thread nD τ).loc main_arg6)) e) (r : Fin 448) (p : Fin 128) (k : Fin 11) :
    (dats (F := Ideal) m 0 c).arrAt 10 cfg0.N (ix2 (Operands.row r p) k)
      = Model.sc (Operands.rows (m ((c : Thread nD τ).loc main_arg0)) (m ((c : Thread nD τ).loc main_arg1)) r) (Operands.rows (m ((c : Thread nD τ).loc main_arg7)) (m ((c : Thread nD τ).loc main_arg8)) r) (Operands.first (m ((c : Thread nD τ).loc main_arg2)) (m ((c : Thread nD τ).loc main_arg3)) (e r)) (Operands.second (m ((c : Thread nD τ).loc main_arg4)) (m ((c : Thread nD τ).loc main_arg5)) (e r)) p k := by
  refine (congrFun (final_10 m c) (ix2 (row r p) k)).trans ?_
  refine (result_scales (V m c main_v11) (V m c main_v15) (V m c main_v20) (V m c main_v23) (V m c main_v16) (V m c main_v19) (V m c main_v3) (V m c main_v8) r p k).trans ?_
  rw [inp_eq, inc_eq, wei1_eq m c h, wei2_eq m c h]

end Cert.ReferenceIdeal.Own

end
-- ==== Proof.Equal.lean ====
/- The kernel and the reference, given the same arguments, end with the same three results. -/
module

public import proofs.«01_k».proof.Defs
public import proofs.«01_k».proof.Proof.Gen.Pre_expert_runs
public import proofs.«01_k».proof.Proof.Ideal.Frame
public import proofs.«01_k».proof.Proof.Ideal.Result
public import proofs.«01_k».proof.Proof.Ref.Result

@[expose] public section

set_option maxRecDepth 16384
set_option backward.proofsInPublic true

noncomputable section

namespace Cert.Proof

open Idealize.ShloMosaic Idealize.ShloMosaic.TcCoe Idealize.SL.Sem

/-- A row number as a row of a row block. -/
theorem row_split (i : Fin 57344) : i = Operands.row ⟨i.val / 128, by omega⟩ ⟨i.val % 128, by omega⟩ :=
  Fin.ext (by show i.val = 128 * (i.val / 128) + i.val % 128; omega)

section

variable (ch : KernelIdeal.Own.Tab)
variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ)

/-- The block map names, for each row block, the expert the kernel's table holds. -/
theorem named (hr : ∀ (c : Dev KernelIdeal.nD) (r : Fin 448) (k : Fin 11), m ((c : Thread KernelIdeal.nD KernelIdeal.τ).loc KernelIdeal.main_arg6) (ValueIdx.ix2 r k)
      = BitVec.ofNat 32 (11 * (ch.1 (ValueIdx.ix1 r)).toNat + k.val)) (c : Dev KernelIdeal.nD)
    (h6 : m' ((c : Thread ReferenceIdeal.nD ReferenceIdeal.τ).loc ReferenceIdeal.main_arg6) = m ((c : Thread KernelIdeal.nD KernelIdeal.τ).loc KernelIdeal.main_arg6)) :
    ReferenceIdeal.Own.Named (m' ((c : Thread ReferenceIdeal.nD ReferenceIdeal.τ).loc ReferenceIdeal.main_arg6)) (KernelIdeal.Own.expert ch) := by
  intro r J
  have e2 : (ix2 r J : (⟨2, ![448, 11]⟩ : Shape).Idx) = ValueIdx.ix2 r J := by funext a; fin_cases a <;> rfl
  have e1 : (ix1 r : (⟨1, ![448]⟩ : Shape).Idx) = ValueIdx.ix1 r := by funext a; fin_cases a; rfl
  refine (congrFun h6 _).trans ?_
  refine (congrArg (m ((c : Thread KernelIdeal.nD KernelIdeal.τ).loc KernelIdeal.main_arg6)) e2).trans ((hr c r J).trans ?_)
  exact congrArg (fun x => BitVec.ofNat 32 (11 * (ch.1 x).toNat + J.val)) e1.symm

/-- The input gradient of the two programs. -/
theorem same_8 (c : Dev KernelIdeal.nD) (hn : ReferenceIdeal.Own.Named (m' ((c : Thread ReferenceIdeal.nD ReferenceIdeal.τ).loc ReferenceIdeal.main_arg6)) (KernelIdeal.Own.expert ch))
    (h0 : m' ((c : Thread ReferenceIdeal.nD ReferenceIdeal.τ).loc ReferenceIdeal.main_arg0) = m ((c : Thread KernelIdeal.nD KernelIdeal.τ).loc KernelIdeal.main_arg0)) (h1 : m' ((c : Thread ReferenceIdeal.nD ReferenceIdeal.τ).loc ReferenceIdeal.main_arg1) = m ((c : Thread KernelIdeal.nD KernelIdeal.τ).loc KernelIdeal.main_arg1)) (h2 : m' ((c : Thread ReferenceIdeal.nD ReferenceIdeal.τ).loc ReferenceIdeal.main_arg2) = m ((c : Thread KernelIdeal.nD KernelIdeal.τ).loc KernelIdeal.main_arg2)) (h3 : m' ((c : Thread ReferenceIdeal.nD ReferenceIdeal.τ).loc ReferenceIdeal.main_arg3) = m ((c : Thread KernelIdeal.nD KernelIdeal.τ).loc KernelIdeal.main_arg3)) (h4 : m' ((c : Thread ReferenceIdeal.nD ReferenceIdeal.τ).loc ReferenceIdeal.main_arg4) = m ((c : Thread KernelIdeal.nD KernelIdeal.τ).loc KernelIdeal.main_arg4)) (h5 : m' ((c : Thread ReferenceIdeal.nD ReferenceIdeal.τ).loc ReferenceIdeal.main_arg5) = m ((c : Thread KernelIdeal.nD KernelIdeal.τ).loc KernelIdeal.main_arg5)) (h7 : m' ((c : Thread ReferenceIdeal.nD ReferenceIdeal.τ).loc ReferenceIdeal.main_arg7) = m ((c : Thread KernelIdeal.nD KernelIdeal.τ).loc KernelIdeal.main_arg7)) (h8 : m' ((c : Thread ReferenceIdeal.nD ReferenceIdeal.τ).loc ReferenceIdeal.main_arg8) = m ((c : Thread KernelIdeal.nD KernelIdeal.τ).loc KernelIdeal.main_arg8)) :
    (ReferenceIdeal.Gen.dats (F := Ideal) m' 0 c).arrAt 8 ReferenceIdeal.cfg0.N
      = (KernelIdeal.Own.dats ch (KernelIdeal.Own.mV m) ρ 0 c).arrAt (8 : Fin 11) (KernelIdeal.Own.cfgA ch).N := by
  funext i
  have ei : i = ix2 (Operands.row ⟨(i 0).val / 128, Nat.div_lt_of_lt_mul (i 0).isLt⟩ ⟨(i 0).val % 128, Nat.mod_lt _ (by decide)⟩) (i 1) := by
    funext a
    fin_cases a
    · exact row_split (i 0)
    · rfl
  have ek := KernelIdeal.Own.final_8 ch m ρ c ⟨(i 0).val / 128, Nat.div_lt_of_lt_mul (i 0).isLt⟩ ⟨(i 0).val % 128, Nat.mod_lt _ (by decide)⟩ (i 1)
  have er := ReferenceIdeal.Own.entry_8 m' c hn ⟨(i 0).val / 128, Nat.div_lt_of_lt_mul (i 0).isLt⟩ ⟨(i 0).val % 128, Nat.mod_lt _ (by decide)⟩ (i 1)
  rw [h0, h1, h2, h3, h4, h5, h7, h8] at er
  exact (congrArg _ ei).trans (er.trans (ek.symm.trans (congrArg _ ei.symm)))

/-- The codes of the two programs. -/
theorem same_9 (c : Dev KernelIdeal.nD) (hn : ReferenceIdeal.Own.Named (m' ((c : Thread ReferenceIdeal.nD ReferenceIdeal.τ).loc ReferenceIdeal.main_arg6)) (KernelIdeal.Own.expert ch))
    (h0 : m' ((c : Thread ReferenceIdeal.nD ReferenceIdeal.τ).loc ReferenceIdeal.main_arg0) = m ((c : Thread KernelIdeal.nD KernelIdeal.τ).loc KernelIdeal.main_arg0)) (h1 : m' ((c : Thread ReferenceIdeal.nD ReferenceIdeal.τ).loc ReferenceIdeal.main_arg1) = m ((c : Thread KernelIdeal.nD KernelIdeal.τ).loc KernelIdeal.main_arg1)) (h2 : m' ((c : Thread ReferenceIdeal.nD ReferenceIdeal.τ).loc ReferenceIdeal.main_arg2) = m ((c : Thread KernelIdeal.nD KernelIdeal.τ).loc KernelIdeal.main_arg2)) (h3 : m' ((c : Thread ReferenceIdeal.nD ReferenceIdeal.τ).loc ReferenceIdeal.main_arg3) = m ((c : Thread KernelIdeal.nD KernelIdeal.τ).loc KernelIdeal.main_arg3)) (h4 : m' ((c : Thread ReferenceIdeal.nD ReferenceIdeal.τ).loc ReferenceIdeal.main_arg4) = m ((c : Thread KernelIdeal.nD KernelIdeal.τ).loc KernelIdeal.main_arg4)) (h5 : m' ((c : Thread ReferenceIdeal.nD ReferenceIdeal.τ).loc ReferenceIdeal.main_arg5) = m ((c : Thread KernelIdeal.nD KernelIdeal.τ).loc KernelIdeal.main_arg5)) (h7 : m' ((c : Thread ReferenceIdeal.nD ReferenceIdeal.τ).loc ReferenceIdeal.main_arg7) = m ((c : Thread KernelIdeal.nD KernelIdeal.τ).loc KernelIdeal.main_arg7)) (h8 : m' ((c : Thread ReferenceIdeal.nD ReferenceIdeal.τ).loc ReferenceIdeal.main_arg8) = m ((c : Thread KernelIdeal.nD KernelIdeal.τ).loc KernelIdeal.main_arg8)) :
    (ReferenceIdeal.Gen.dats (F := Ideal) m' 0 c).arrAt 9 ReferenceIdeal.cfg0.N
      = (KernelIdeal.Own.dats ch (KernelIdeal.Own.mV m) ρ 0 c).arrAt (9 : Fin 11) (KernelIdeal.Own.cfgA ch).N := by
  funext i
  have ei : i = ix2 (Operands.row ⟨(i 0).val / 128, Nat.div_lt_of_lt_mul (i 0).isLt⟩ ⟨(i 0).val % 128, Nat.mod_lt _ (by decide)⟩) (i 1) := by
    funext a
    fin_cases a
    · exact row_split (i 0)
    · rfl
  have ek := KernelIdeal.Own.final_9 ch m ρ c ⟨(i 0).val / 128, Nat.div_lt_of_lt_mul (i 0).isLt⟩ ⟨(i 0).val % 128, Nat.mod_lt _ (by decide)⟩ (i 1)
  have er := ReferenceIdeal.Own.entry_9 m' c hn ⟨(i 0).val / 128, Nat.div_lt_of_lt_mul (i 0).isLt⟩ ⟨(i 0).val % 128, Nat.mod_lt _ (by decide)⟩ (i 1)
  rw [h0, h1, h2, h3, h4, h5, h7, h8] at er
  exact (congrArg _ ei).trans (er.trans (ek.symm.trans (congrArg _ ei.symm)))

/-- The scales of the two programs. -/
theorem same_10 (c : Dev KernelIdeal.nD) (hn : ReferenceIdeal.Own.Named (m' ((c : Thread ReferenceIdeal.nD ReferenceIdeal.τ).loc ReferenceIdeal.main_arg6)) (KernelIdeal.Own.expert ch))
    (h0 : m' ((c : Thread ReferenceIdeal.nD ReferenceIdeal.τ).loc ReferenceIdeal.main_arg0) = m ((c : Thread KernelIdeal.nD KernelIdeal.τ).loc KernelIdeal.main_arg0)) (h1 : m' ((c : Thread ReferenceIdeal.nD ReferenceIdeal.τ).loc ReferenceIdeal.main_arg1) = m ((c : Thread KernelIdeal.nD KernelIdeal.τ).loc KernelIdeal.main_arg1)) (h2 : m' ((c : Thread ReferenceIdeal.nD ReferenceIdeal.τ).loc ReferenceIdeal.main_arg2) = m ((c : Thread KernelIdeal.nD KernelIdeal.τ).loc KernelIdeal.main_arg2)) (h3 : m' ((c : Thread ReferenceIdeal.nD ReferenceIdeal.τ).loc ReferenceIdeal.main_arg3) = m ((c : Thread KernelIdeal.nD KernelIdeal.τ).loc KernelIdeal.main_arg3)) (h4 : m' ((c : Thread ReferenceIdeal.nD ReferenceIdeal.τ).loc ReferenceIdeal.main_arg4) = m ((c : Thread KernelIdeal.nD KernelIdeal.τ).loc KernelIdeal.main_arg4)) (h5 : m' ((c : Thread ReferenceIdeal.nD ReferenceIdeal.τ).loc ReferenceIdeal.main_arg5) = m ((c : Thread KernelIdeal.nD KernelIdeal.τ).loc KernelIdeal.main_arg5)) (h7 : m' ((c : Thread ReferenceIdeal.nD ReferenceIdeal.τ).loc ReferenceIdeal.main_arg7) = m ((c : Thread KernelIdeal.nD KernelIdeal.τ).loc KernelIdeal.main_arg7)) (h8 : m' ((c : Thread ReferenceIdeal.nD ReferenceIdeal.τ).loc ReferenceIdeal.main_arg8) = m ((c : Thread KernelIdeal.nD KernelIdeal.τ).loc KernelIdeal.main_arg8)) :
    (ReferenceIdeal.Gen.dats (F := Ideal) m' 0 c).arrAt 10 ReferenceIdeal.cfg0.N
      = (KernelIdeal.Own.dats ch (KernelIdeal.Own.mV m) ρ 0 c).arrAt (10 : Fin 11) (KernelIdeal.Own.cfgA ch).N := by
  funext i
  have ei : i = ix2 (Operands.row ⟨(i 0).val / 128, Nat.div_lt_of_lt_mul (i 0).isLt⟩ ⟨(i 0).val % 128, Nat.mod_lt _ (by decide)⟩) (i 1) := by
    funext a
    fin_cases a
    · exact row_split (i 0)
    · rfl
  have ek := KernelIdeal.Own.final_10 ch m ρ c ⟨(i 0).val / 128, Nat.div_lt_of_lt_mul (i 0).isLt⟩ ⟨(i 0).val % 128, Nat.mod_lt _ (by decide)⟩ (i 1)
  have er := ReferenceIdeal.Own.entry_10 m' c hn ⟨(i 0).val / 128, Nat.div_lt_of_lt_mul (i 0).isLt⟩ ⟨(i 0).val % 128, Nat.mod_lt _ (by decide)⟩ (i 1)
  rw [h0, h1, h2, h3, h4, h5, h7, h8] at er
  exact (congrArg _ ei).trans (er.trans (ek.symm.trans (congrArg _ ei.symm)))

end

set_option maxHeartbeats 4000000 in
/-- At the ideal reading the kernel and the reference compute the same three results. -/
theorem algebraic : @Cert.algebraic_KernelIdeal_ReferenceIdeal Cert.KernelIdeal.Gen.facts Cert.ReferenceIdeal.Gen.facts Cert.Pre_expert_runs.Gen.facts := by
  intro m g m' g' hpre hargs
  obtain ⟨ch, hp, hr⟩ := KernelIdeal.Own.pinned_of_pre m hpre
  refine ⟨fun c => (KernelIdeal.Own.dats ch (KernelIdeal.Own.mV m) g 0 c).arrAt (8 : Fin 11) (KernelIdeal.Own.cfgA ch).N,
    fun c => (KernelIdeal.Own.dats ch (KernelIdeal.Own.mV m) g 0 c).arrAt (9 : Fin 11) (KernelIdeal.Own.cfgA ch).N,
    fun c => (KernelIdeal.Own.dats ch (KernelIdeal.Own.mV m) g 0 c).arrAt (10 : Fin 11) (KernelIdeal.Own.cfgA ch).N, ?_, ?_⟩
  · exact (θ_run KernelIdeal.defs _ _).mono (fun r h c => ⟨(h.1 c).1 (8 : Fin 11), (h.1 c).1 (9 : Fin 11), (h.1 c).1 (10 : Fin 11),
      (((h.1 c).1 (0 : Fin 11)).trans ((KernelIdeal.Own.dats ch (KernelIdeal.Own.mV m) g 0 c).arrAt_in (0 : Fin 11) rfl _)).trans (KernelIdeal.Own.mV_arg0 m c),
      (((h.1 c).1 (1 : Fin 11)).trans ((KernelIdeal.Own.dats ch (KernelIdeal.Own.mV m) g 0 c).arrAt_in (1 : Fin 11) rfl _)).trans (KernelIdeal.Own.mV_arg1 m c),
      (((h.1 c).1 (2 : Fin 11)).trans ((KernelIdeal.Own.dats ch (KernelIdeal.Own.mV m) g 0 c).arrAt_in (2 : Fin 11) rfl _)).trans (KernelIdeal.Own.mV_arg2 m c),
      (h.1 c).2.1,
      (((h.1 c).1 (3 : Fin 11)).trans ((KernelIdeal.Own.dats ch (KernelIdeal.Own.mV m) g 0 c).arrAt_in (3 : Fin 11) rfl _)).trans (KernelIdeal.Own.mV_arg4 m c),
      (h.1 c).2.2.1,
      (h.1 c).2.2.2,
      (((h.1 c).1 (6 : Fin 11)).trans ((KernelIdeal.Own.dats ch (KernelIdeal.Own.mV m) g 0 c).arrAt_in (6 : Fin 11) rfl _)).trans (KernelIdeal.Own.mV_arg7 m c),
      (((h.1 c).1 (7 : Fin 11)).trans ((KernelIdeal.Own.dats ch (KernelIdeal.Own.mV m) g 0 c).arrAt_in (7 : Fin 11) rfl _)).trans (KernelIdeal.Own.mV_arg8 m c)⟩) (KernelIdeal.Own.run_main_quiescent ch m g hp)
  · refine (θ_run ReferenceIdeal.defs _ _).mono (fun r h c => ?_) (ReferenceIdeal.Own.run_values m' g')
    have hc := h c
    have ha := hargs c
    have hn := named ch m m' hr c ha.2.2.2.2.2.2.1
    exact ⟨hc.1.trans (same_8 ch m g m' c hn ha.1 ha.2.1 ha.2.2.1 ha.2.2.2.1 ha.2.2.2.2.1 ha.2.2.2.2.2.1 ha.2.2.2.2.2.2.2.1 ha.2.2.2.2.2.2.2.2), hc.2.1.trans (same_9 ch m g m' c hn ha.1 ha.2.1 ha.2.2.1 ha.2.2.2.1 ha.2.2.2.2.1 ha.2.2.2.2.2.1 ha.2.2.2.2.2.2.2.1 ha.2.2.2.2.2.2.2.2),
      hc.2.2.1.trans (same_10 ch m g m' c hn ha.1 ha.2.1 ha.2.2.1 ha.2.2.2.1 ha.2.2.2.2.1 ha.2.2.2.2.2.1 ha.2.2.2.2.2.2.2.1 ha.2.2.2.2.2.2.2.2), hc.2.2.2⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_expert_runs
public import proofs.«01_k».proof.Proof.Ideal.Frame
public import proofs.«01_k».proof.Proof.Bits.Frame
public import proofs.«01_k».proof.Proof.Equal

@[expose] public section

noncomputable section

namespace Cert.Proof

open Idealize.ShloMosaic Idealize.SL.Sem

/-- The kernel at the machine's reading: it ends, leaves its arguments unchanged, and leaves every semaphore at zero. -/
theorem frame_kernel : Cert.quiescent_Kernel := fun m ρ h => by
  obtain ⟨ch, hp, -⟩ := Cert.Kernel.Own.pinned_of_pre m h
  exact Cert.Kernel.Own.frame ch m ρ hp

/-- The same at the ideal reading. -/
theorem frame_kernelIdeal : Cert.quiescent_KernelIdeal := fun m ρ h => by
  obtain ⟨ch, hp, -⟩ := Cert.KernelIdeal.Own.pinned_of_pre m h
  exact Cert.KernelIdeal.Own.frame ch m ρ hp

/-- The reference at the ideal reading. -/
theorem frame_referenceIdeal : Cert.quiescent_ReferenceIdeal := fun m ρ _ => Cert.ReferenceIdeal.Gen.frame m ρ

theorem claim : Cert.Claim := ⟨Cert.Kernel.Gen.facts, Cert.KernelIdeal.Gen.facts, Cert.ReferenceIdeal.Gen.facts, Cert.Pre_expert_runs.Gen.facts,
  frame_kernel, frame_kernelIdeal, frame_referenceIdeal, (fun m ρ _ => Cert.ReferenceIdeal.Gen.frame m ρ), trivial, algebraic⟩

end Cert.Proof

end
